-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextRefIdeal (m : (ℓ : Loc Cert.ContextRefIdeal.nD Cert.ContextRefIdeal.τ Cert.ContextRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6)
      ∧ r.2.mem ((c.tc : Thread Cert.Context.nD Cert.Context.τ).loc Cert.Context.main_arg7) = m ((c.tc : Thread Cert.Context.nD Cert.Context.τ).loc Cert.Context.main_arg7)
      ∧ r.2.mem ((c.tc : Thread Cert.Context.nD Cert.Context.τ).loc Cert.Context.main_arg8) = m ((c.tc : Thread Cert.Context.nD Cert.Context.τ).loc Cert.Context.main_arg8)
      ∧ r.2.mem ((c.tc : Thread Cert.Context.nD Cert.Context.τ).loc Cert.Context.main_arg9) = m ((c.tc : Thread Cert.Context.nD Cert.Context.τ).loc Cert.Context.main_arg9)
      ∧ r.2.mem ((c.tc : Thread Cert.Context.nD Cert.Context.τ).loc Cert.Context.main_arg10) = m ((c.tc : Thread Cert.Context.nD Cert.Context.τ).loc Cert.Context.main_arg10))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1)
      ∧ r.2.mem ((c.tc : Thread Cert.ContextRefIdeal.nD Cert.ContextRefIdeal.τ).loc Cert.ContextRefIdeal.main_arg2) = m ((c.tc : Thread Cert.ContextRefIdeal.nD Cert.ContextRefIdeal.τ).loc Cert.ContextRefIdeal.main_arg2)
      ∧ r.2.mem ((c.tc : Thread Cert.ContextRefIdeal.nD Cert.ContextRefIdeal.τ).loc Cert.ContextRefIdeal.main_arg3) = m ((c.tc : Thread Cert.ContextRefIdeal.nD Cert.ContextRefIdeal.τ).loc Cert.ContextRefIdeal.main_arg3)
      ∧ r.2.mem ((c.tc : Thread Cert.ContextRefIdeal.nD Cert.ContextRefIdeal.τ).loc Cert.ContextRefIdeal.main_arg4) = m ((c.tc : Thread Cert.ContextRefIdeal.nD Cert.ContextRefIdeal.τ).loc Cert.ContextRefIdeal.main_arg4)
      ∧ r.2.mem ((c.tc : Thread Cert.ContextRefIdeal.nD Cert.ContextRefIdeal.τ).loc Cert.ContextRefIdeal.main_arg5) = m ((c.tc : Thread Cert.ContextRefIdeal.nD Cert.ContextRefIdeal.τ).loc Cert.ContextRefIdeal.main_arg5)
      ∧ r.2.mem ((c.tc : Thread Cert.ContextRefIdeal.nD Cert.ContextRefIdeal.τ).loc Cert.ContextRefIdeal.main_arg6) = m ((c.tc : Thread Cert.ContextRefIdeal.nD Cert.ContextRefIdeal.τ).loc Cert.ContextRefIdeal.main_arg6)
      ∧ r.2.mem ((c.tc : Thread Cert.ContextRefIdeal.nD Cert.ContextRefIdeal.τ).loc Cert.ContextRefIdeal.main_arg7) = m ((c.tc : Thread Cert.ContextRefIdeal.nD Cert.ContextRefIdeal.τ).loc Cert.ContextRefIdeal.main_arg7)
      ∧ r.2.mem ((c.tc : Thread Cert.ContextRefIdeal.nD Cert.ContextRefIdeal.τ).loc Cert.ContextRefIdeal.main_arg8) = m ((c.tc : Thread Cert.ContextRefIdeal.nD Cert.ContextRefIdeal.τ).loc Cert.ContextRefIdeal.main_arg8)
      ∧ r.2.mem ((c.tc : Thread Cert.ContextRefIdeal.nD Cert.ContextRefIdeal.τ).loc Cert.ContextRefIdeal.main_arg9) = m ((c.tc : Thread Cert.ContextRefIdeal.nD Cert.ContextRefIdeal.τ).loc Cert.ContextRefIdeal.main_arg9)
      ∧ r.2.mem ((c.tc : Thread Cert.ContextRefIdeal.nD Cert.ContextRefIdeal.τ).loc Cert.ContextRefIdeal.main_arg10) = m ((c.tc : Thread Cert.ContextRefIdeal.nD Cert.ContextRefIdeal.τ).loc Cert.ContextRefIdeal.main_arg10))
      ∧ r.2.sem = fun _ => 0)

def preserves_Attn_AttnIdeal : Prop :=
  IdealRules.named_const.Statement Cert.AttnIdeal.κ "qk_log2e" .f32 0x3E38AA3B#32 ((8⁻¹ * (Real.log 2)⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v22_0)) (v1 : (c : Dev Cert.AttnIdeal.nD) → Buf (Elt Ideal) ((c.tc : Thread Cert.AttnIdeal.nD Cert.AttnIdeal.τ).loc Cert.AttnIdeal.main_v22_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v22_0) = v0 c
          ∧ r.2.mem ((c.tc : Thread Cert.AttnIdeal.nD Cert.AttnIdeal.τ).loc Cert.AttnIdeal.main_v22_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_v28) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v20)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v20) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v83) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)) →
    ∃ (v0 : (c : Dev Cert.InpIdeal.nD) → Buf (Elt Ideal) ((c.tc : Thread Cert.InpIdeal.nD Cert.InpIdeal.τ).loc Cert.InpIdeal.main_v23_0)) (v1 : (c : Dev Cert.InpIdeal.nD) → Buf (Elt Ideal) ((c.tc : Thread Cert.InpIdeal.nD Cert.InpIdeal.τ).loc Cert.InpIdeal.main_v23_1)) (v2 : (c : Dev Cert.InpIdeal.nD) → Buf (Elt Ideal) ((c.tc : Thread Cert.InpIdeal.nD Cert.InpIdeal.τ).loc Cert.InpIdeal.main_v23_2)) (v3 : (c : Dev Cert.InpIdeal.nD) → Buf (Elt Ideal) ((c.tc : Thread Cert.InpIdeal.nD Cert.InpIdeal.τ).loc Cert.InpIdeal.main_v23_3)) (v4 : (c : Dev Cert.InpIdeal.nD) → Buf (Elt Ideal) ((c.tc : Thread Cert.InpIdeal.nD Cert.InpIdeal.τ).loc Cert.InpIdeal.main_v23_4)) (v5 : (c : Dev Cert.InpIdeal.nD) → Buf (Elt Ideal) ((c.tc : Thread Cert.InpIdeal.nD Cert.InpIdeal.τ).loc Cert.InpIdeal.main_v23_5)) (v6 : (c : Dev Cert.InpIdeal.nD) → Buf (Elt Ideal) ((c.tc : Thread Cert.InpIdeal.nD Cert.InpIdeal.τ).loc Cert.InpIdeal.main_v23_6)) (v7 : (c : Dev Cert.InpIdeal.nD) → Buf (Elt Ideal) ((c.tc : Thread Cert.InpIdeal.nD Cert.InpIdeal.τ).loc Cert.InpIdeal.main_v23_7)) (v8 : (c : Dev Cert.InpIdeal.nD) → Buf (Elt Ideal) ((c.tc : Thread Cert.InpIdeal.nD Cert.InpIdeal.τ).loc Cert.InpIdeal.main_v23_8)) (v9 : (c : Dev Cert.InpIdeal.nD) → Buf (Elt Ideal) ((c.tc : Thread Cert.InpIdeal.nD Cert.InpIdeal.τ).loc Cert.InpIdeal.main_v23_9)) (v10 : (c : Dev Cert.InpIdeal.nD) → Buf (Elt Ideal) ((c.tc : Thread Cert.InpIdeal.nD Cert.InpIdeal.τ).loc Cert.InpIdeal.main_v23_10)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v23_0) = v0 c
          ∧ r.2.mem ((c.tc : Thread Cert.InpIdeal.nD Cert.InpIdeal.τ).loc Cert.InpIdeal.main_v23_1) = v1 c
          ∧ r.2.mem ((c.tc : Thread Cert.InpIdeal.nD Cert.InpIdeal.τ).loc Cert.InpIdeal.main_v23_2) = v2 c
          ∧ r.2.mem ((c.tc : Thread Cert.InpIdeal.nD Cert.InpIdeal.τ).loc Cert.InpIdeal.main_v23_3) = v3 c
          ∧ r.2.mem ((c.tc : Thread Cert.InpIdeal.nD Cert.InpIdeal.τ).loc Cert.InpIdeal.main_v23_4) = v4 c
          ∧ r.2.mem ((c.tc : Thread Cert.InpIdeal.nD Cert.InpIdeal.τ).loc Cert.InpIdeal.main_v23_5) = v5 c
          ∧ r.2.mem ((c.tc : Thread Cert.InpIdeal.nD Cert.InpIdeal.τ).loc Cert.InpIdeal.main_v23_6) = v6 c
          ∧ r.2.mem ((c.tc : Thread Cert.InpIdeal.nD Cert.InpIdeal.τ).loc Cert.InpIdeal.main_v23_7) = v7 c
          ∧ r.2.mem ((c.tc : Thread Cert.InpIdeal.nD Cert.InpIdeal.τ).loc Cert.InpIdeal.main_v23_8) = v8 c
          ∧ r.2.mem ((c.tc : Thread Cert.InpIdeal.nD Cert.InpIdeal.τ).loc Cert.InpIdeal.main_v23_9) = v9 c
          ∧ r.2.mem ((c.tc : Thread Cert.InpIdeal.nD Cert.InpIdeal.τ).loc Cert.InpIdeal.main_v23_10) = v10 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v89) = v0 c
          ∧ r.2.mem ((c.tc : Thread Cert.InpRefIdeal.nD Cert.InpRefIdeal.τ).loc Cert.InpRefIdeal.main_v91) = v1 c
          ∧ r.2.mem ((c.tc : Thread Cert.InpRefIdeal.nD Cert.InpRefIdeal.τ).loc Cert.InpRefIdeal.main_v94) = v2 c
          ∧ r.2.mem ((c.tc : Thread Cert.InpRefIdeal.nD Cert.InpRefIdeal.τ).loc Cert.InpRefIdeal.main_v96) = v3 c
          ∧ r.2.mem ((c.tc : Thread Cert.InpRefIdeal.nD Cert.InpRefIdeal.τ).loc Cert.InpRefIdeal.main_v104) = v4 c
          ∧ r.2.mem ((c.tc : Thread Cert.InpRefIdeal.nD Cert.InpRefIdeal.τ).loc Cert.InpRefIdeal.main_v106) = v5 c
          ∧ r.2.mem ((c.tc : Thread Cert.InpRefIdeal.nD Cert.InpRefIdeal.τ).loc Cert.InpRefIdeal.main_v109) = v6 c
          ∧ r.2.mem ((c.tc : Thread Cert.InpRefIdeal.nD Cert.InpRefIdeal.τ).loc Cert.InpRefIdeal.main_v110) = v7 c
          ∧ r.2.mem ((c.tc : Thread Cert.InpRefIdeal.nD Cert.InpRefIdeal.τ).loc Cert.InpRefIdeal.main_v111) = v8 c
          ∧ r.2.mem ((c.tc : Thread Cert.InpRefIdeal.nD Cert.InpRefIdeal.τ).loc Cert.InpRefIdeal.main_v112) = v9 c
          ∧ r.2.mem ((c.tc : Thread Cert.InpRefIdeal.nD Cert.InpRefIdeal.τ).loc Cert.InpRefIdeal.main_v113) = v10 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5))

def preserves_Context_ContextIdeal : Prop :=
  True

def algebraic_ContextIdeal_ContextRefIdeal [hContextIdeal : Cert.ContextIdeal.Facts] [hContextRefIdeal : Cert.ContextRefIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)
      ∧ m' ((c.tc : Thread Cert.ContextRefIdeal.nD Cert.ContextRefIdeal.τ).loc Cert.ContextRefIdeal.main_arg2) = m ((c.tc : Thread Cert.ContextIdeal.nD Cert.ContextIdeal.τ).loc Cert.ContextIdeal.main_arg2)
      ∧ m' ((c.tc : Thread Cert.ContextRefIdeal.nD Cert.ContextRefIdeal.τ).loc Cert.ContextRefIdeal.main_arg3) = m ((c.tc : Thread Cert.ContextIdeal.nD Cert.ContextIdeal.τ).loc Cert.ContextIdeal.main_arg3)
      ∧ m' ((c.tc : Thread Cert.ContextRefIdeal.nD Cert.ContextRefIdeal.τ).loc Cert.ContextRefIdeal.main_arg4) = m ((c.tc : Thread Cert.ContextIdeal.nD Cert.ContextIdeal.τ).loc Cert.ContextIdeal.main_arg4)
      ∧ m' ((c.tc : Thread Cert.ContextRefIdeal.nD Cert.ContextRefIdeal.τ).loc Cert.ContextRefIdeal.main_arg5) = m ((c.tc : Thread Cert.ContextIdeal.nD Cert.ContextIdeal.τ).loc Cert.ContextIdeal.main_arg5)
      ∧ m' ((c.tc : Thread Cert.ContextRefIdeal.nD Cert.ContextRefIdeal.τ).loc Cert.ContextRefIdeal.main_arg6) = m ((c.tc : Thread Cert.ContextIdeal.nD Cert.ContextIdeal.τ).loc Cert.ContextIdeal.main_arg6)
      ∧ m' ((c.tc : Thread Cert.ContextRefIdeal.nD Cert.ContextRefIdeal.τ).loc Cert.ContextRefIdeal.main_arg7) = m ((c.tc : Thread Cert.ContextIdeal.nD Cert.ContextIdeal.τ).loc Cert.ContextIdeal.main_arg7)
      ∧ m' ((c.tc : Thread Cert.ContextRefIdeal.nD Cert.ContextRefIdeal.τ).loc Cert.ContextRefIdeal.main_arg8) = m ((c.tc : Thread Cert.ContextIdeal.nD Cert.ContextIdeal.τ).loc Cert.ContextIdeal.main_arg8)
      ∧ m' ((c.tc : Thread Cert.ContextRefIdeal.nD Cert.ContextRefIdeal.τ).loc Cert.ContextRefIdeal.main_arg9) = m ((c.tc : Thread Cert.ContextIdeal.nD Cert.ContextIdeal.τ).loc Cert.ContextIdeal.main_arg9)
      ∧ m' ((c.tc : Thread Cert.ContextRefIdeal.nD Cert.ContextRefIdeal.τ).loc Cert.ContextRefIdeal.main_arg10) = m ((c.tc : Thread Cert.ContextIdeal.nD Cert.ContextIdeal.τ).loc Cert.ContextIdeal.main_arg10)) →
    ∃ (v0 : (c : Dev Cert.ContextIdeal.nD) → Buf (Elt Ideal) ((c.tc : Thread Cert.ContextIdeal.nD Cert.ContextIdeal.τ).loc Cert.ContextIdeal.main_v20)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v20) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
          ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
          ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
          ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
          ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v87) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1)
          ∧ r.2.mem ((c.tc : Thread Cert.ContextRefIdeal.nD Cert.ContextRefIdeal.τ).loc Cert.ContextRefIdeal.main_arg2) = m' ((c.tc : Thread Cert.ContextRefIdeal.nD Cert.ContextRefIdeal.τ).loc Cert.ContextRefIdeal.main_arg2)
          ∧ r.2.mem ((c.tc : Thread Cert.ContextRefIdeal.nD Cert.ContextRefIdeal.τ).loc Cert.ContextRefIdeal.main_arg3) = m' ((c.tc : Thread Cert.ContextRefIdeal.nD Cert.ContextRefIdeal.τ).loc Cert.ContextRefIdeal.main_arg3)
          ∧ r.2.mem ((c.tc : Thread Cert.ContextRefIdeal.nD Cert.ContextRefIdeal.τ).loc Cert.ContextRefIdeal.main_arg4) = m' ((c.tc : Thread Cert.ContextRefIdeal.nD Cert.ContextRefIdeal.τ).loc Cert.ContextRefIdeal.main_arg4)
          ∧ r.2.mem ((c.tc : Thread Cert.ContextRefIdeal.nD Cert.ContextRefIdeal.τ).loc Cert.ContextRefIdeal.main_arg5) = m' ((c.tc : Thread Cert.ContextRefIdeal.nD Cert.ContextRefIdeal.τ).loc Cert.ContextRefIdeal.main_arg5)
          ∧ r.2.mem ((c.tc : Thread Cert.ContextRefIdeal.nD Cert.ContextRefIdeal.τ).loc Cert.ContextRefIdeal.main_arg6) = m' ((c.tc : Thread Cert.ContextRefIdeal.nD Cert.ContextRefIdeal.τ).loc Cert.ContextRefIdeal.main_arg6)
          ∧ r.2.mem ((c.tc : Thread Cert.ContextRefIdeal.nD Cert.ContextRefIdeal.τ).loc Cert.ContextRefIdeal.main_arg7) = m' ((c.tc : Thread Cert.ContextRefIdeal.nD Cert.ContextRefIdeal.τ).loc Cert.ContextRefIdeal.main_arg7)
          ∧ r.2.mem ((c.tc : Thread Cert.ContextRefIdeal.nD Cert.ContextRefIdeal.τ).loc Cert.ContextRefIdeal.main_arg8) = m' ((c.tc : Thread Cert.ContextRefIdeal.nD Cert.ContextRefIdeal.τ).loc Cert.ContextRefIdeal.main_arg8)
          ∧ r.2.mem ((c.tc : Thread Cert.ContextRefIdeal.nD Cert.ContextRefIdeal.τ).loc Cert.ContextRefIdeal.main_arg9) = m' ((c.tc : Thread Cert.ContextRefIdeal.nD Cert.ContextRefIdeal.τ).loc Cert.ContextRefIdeal.main_arg9)
          ∧ r.2.mem ((c.tc : Thread Cert.ContextRefIdeal.nD Cert.ContextRefIdeal.τ).loc Cert.ContextRefIdeal.main_arg10) = m' ((c.tc : Thread Cert.ContextRefIdeal.nD Cert.ContextRefIdeal.τ).loc Cert.ContextRefIdeal.main_arg10))

def Claim : Prop :=
  ∃ (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hInp : Cert.Inp.Facts) (hInpIdeal : Cert.InpIdeal.Facts) (hInpRefIdeal : Cert.InpRefIdeal.Facts) (hContext : Cert.Context.Facts) (hContextIdeal : Cert.ContextIdeal.Facts) (hContextRefIdeal : Cert.ContextRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Post (hPost := hPost)
    ∧ quiescent_PostIdeal (hPostIdeal := hPostIdeal)
    ∧ quiescent_PostRefIdeal (hPostRefIdeal := hPostRefIdeal)
    ∧ quiescent_Inp (hInp := hInp)
    ∧ quiescent_InpIdeal (hInpIdeal := hInpIdeal)
    ∧ quiescent_InpRefIdeal (hInpRefIdeal := hInpRefIdeal)
    ∧ quiescent_Context (hContext := hContext)
    ∧ quiescent_ContextIdeal (hContextIdeal := hContextIdeal)
    ∧ quiescent_ContextRefIdeal (hContextRefIdeal := hContextRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Post_PostIdeal
    ∧ algebraic_PostIdeal_PostRefIdeal (hPostIdeal := hPostIdeal) (hPostRefIdeal := hPostRefIdeal)
    ∧ preserves_Inp_InpIdeal
    ∧ algebraic_InpIdeal_InpRefIdeal (hInpIdeal := hInpIdeal) (hInpRefIdeal := hInpRefIdeal)
    ∧ preserves_Context_ContextIdeal
    ∧ algebraic_ContextIdeal_ContextRefIdeal (hContextIdeal := hContextIdeal) (hContextRefIdeal := hContextRefIdeal)
-- ==== Pre_finite_scores.lean ====
abbrev S4x2048x6x64 : Shape := ⟨4, ![4, 2048, 6, 64]⟩
abbrev S4x2048x2x64 : Shape := ⟨4, ![4, 2048, 2, 64]⟩
abbrev S4x4x256x2x64 : Shape := ⟨5, ![4, 4, 256, 2, 64]⟩
abbrev S4x1024x5632 : Shape := ⟨3, ![4, 1024, 5632]⟩
abbrev S_ : Shape := ⟨0, ![]⟩

class Facts : Prop where
  bcast_S_S4x2048x6x64 : S_.BroadcastsInDim S4x2048x6x64 (![] : Fin 0 → Fin S4x2048x6x64.rank)
  bcast_S_S4x2048x2x64 : S_.BroadcastsInDim S4x2048x2x64 (![] : Fin 0 → Fin S4x2048x2x64.rank)
  bcast_S_S4x4x256x2x64 : S_.BroadcastsInDim S4x4x256x2x64 (![] : Fin 0 → Fin S4x4x256x2x64.rank)

variable [Facts]

def fn {F : FTy → Type} [FloatOps F] (main_arg0 : FVec F S4x2048x6x64 .f32) (main_arg1 : FVec F S4x2048x2x64 .f32) (main_arg2 : FVec F S4x2048x2x64 .f32) (main_arg3 : FVec F S4x4x256x2x64 .f32) (main_arg4 : FVec F S4x4x256x2x64 .f32) (main_arg5 : FVec F S4x1024x5632 .f32) : IVec S4x2048x6x64 1 × IVec S4x2048x2x64 1 × IVec S4x4x256x2x64 1 :=
  let main_v0 : FVec F S4x2048x6x64 .f32 := Host.absf main_arg0
  let main_cst : FVec F S_ .f32 := constant S_ .f32 0x7F800000#32
  let main_v1 : FVec F S4x2048x6x64 .f32 := broadcastInDim S4x2048x6x64 ![] bcast_S_S4x2048x6x64 main_cst
  let main_v2 : IVec S4x2048x6x64 1 := cmpf .olt main_v0 main_v1
  let main_v3 : FVec F S4x2048x2x64 .f32 := Host.absf main_arg1
  let main_cst_0 : FVec F S_ .f32 := constant S_ .f32 0x7F800000#32
  let main_v4 : FVec F S4x2048x2x64 .f32 := broadcastInDim S4x2048x2x64 ![] bcast_S_S4x2048x2x64 main_cst_0
  let main_v5 : IVec S4x2048x2x64 1 := cmpf .olt main_v3 main_v4
  let main_v6 : FVec F S4x4x256x2x64 .f32 := Host.absf main_arg3
  let main_cst_1 : FVec F S_ .f32 := constant S_ .f32 0x7F800000#32
  let main_v7 : FVec F S4x4x256x2x64 .f32 := broadcastInDim S4x4x256x2x64 ![] bcast_S_S4x4x256x2x64 main_cst_1
  let main_v8 : IVec S4x4x256x2x64 1 := cmpf .olt main_v6 main_v7
  (main_v2, main_v5, main_v8)
-- ==== Attn.lean ====
abbrev S4x2048x6x64 : Shape := ⟨4, ![4, 2048, 6, 64]⟩
abbrev S4x2048x2x64 : Shape := ⟨4, ![4, 2048, 2, 64]⟩
abbrev S4x4x256x2x64 : Shape := ⟨5, ![4, 4, 256, 2, 64]⟩
abbrev S4x1024x5632 : Shape := ⟨3, ![4, 1024, 5632]⟩
abbrev S4x4x256x128 : Shape := ⟨4, ![4, 4, 256, 128]⟩
abbrev S4x1024x128 : Shape := ⟨3, ![4, 1024, 128]⟩
abbrev S4x128x4x256 : Shape := ⟨4, ![4, 128, 4, 256]⟩
abbrev S4x128x1024 : Shape := ⟨3, ![4, 128, 1024]⟩
abbrev S8192x6x64 : Shape := ⟨3, ![8192, 6, 64]⟩
abbrev S_ : Shape := ⟨0, ![]⟩
abbrev S8192x3x64 : Shape := ⟨3, ![8192, 3, 64]⟩
abbrev S8192x3x128 : Shape := ⟨3, ![8192, 3, 128]⟩
abbrev S8192x6x128 : Shape := ⟨3, ![8192, 6, 128]⟩
abbrev S8192x768 : Shape := ⟨2, ![8192, 768]⟩
abbrev S8192x128 : Shape := ⟨2, ![8192, 128]⟩
abbrev S128x8192 : Shape := ⟨2, ![128, 8192]⟩
abbrev S8192x384 : Shape := ⟨2, ![8192, 384]⟩
abbrev S1024x5632 : Shape := ⟨2, ![1024, 5632]⟩
abbrev S1024x768 : Shape := ⟨2, ![1024, 768]⟩
abbrev S2048x128 : Shape := ⟨2, ![2048, 128]⟩
abbrev S128x2048 : Shape := ⟨2, ![128, 2048]⟩
abbrev S1x256x128 : Shape := ⟨3, ![1, 256, 128]⟩
abbrev S1x128x256 : Shape := ⟨3, ![1, 128, 256]⟩
abbrev S1x128x5632 : Shape := ⟨3, ![1, 128, 5632]⟩
abbrev S1024x384 : Shape := ⟨2, ![1024, 384]⟩
abbrev S128x5632 : Shape := ⟨2, ![128, 5632]⟩
abbrev S1024x128 : Shape := ⟨2, ![1024, 128]⟩
abbrev S256x128 : Shape := ⟨2, ![256, 128]⟩
abbrev S2048x1024 : Shape := ⟨2, ![2048, 1024]⟩
abbrev S256x1024 : Shape := ⟨2, ![256, 1024]⟩
abbrev S1024 : Shape := ⟨1, ![1024]⟩
abbrev S1x1024 : Shape := ⟨2, ![1, 1024]⟩
abbrev S80x1024 : Shape := ⟨2, ![80, 1024]⟩
abbrev S64x2048 : Shape := ⟨2, ![64, 2048]⟩
abbrev S16x2048 : Shape := ⟨2, ![16, 2048]⟩
abbrev S80x2048 : Shape := ⟨2, ![80, 2048]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S64x1024 : Shape := ⟨2, ![64, 1024]⟩
abbrev S128x1024 : Shape := ⟨2, ![128, 1024]⟩

abbrev nBuf : Space → Nat
  | .hbm => 31
  | .vmem => 16
  | .smem => 0
  | _ => 0

abbrev bufTy : (tb : Table) → Fin (tcTables nBuf tb) → BufTy
  | .hbm, ⟨0, _⟩ => ⟨S4x2048x6x64, .f32⟩
  | .hbm, ⟨1, _⟩ => ⟨S4x2048x2x64, .f32⟩
  | .hbm, ⟨2, _⟩ => ⟨S4x2048x2x64, .f32⟩
  | .hbm, ⟨3, _⟩ => ⟨S4x4x256x2x64, .f32⟩
  | .hbm, ⟨4, _⟩ => ⟨S4x4x256x2x64, .f32⟩
  | .hbm, ⟨5, _⟩ => ⟨S4x1024x5632, .f32⟩
  | .hbm, ⟨6, _⟩ => ⟨S4x4x256x128, .f32⟩
  | .hbm, ⟨7, _⟩ => ⟨S4x4x256x128, .f32⟩
  | .hbm, ⟨8, _⟩ => ⟨S4x1024x128, .f32⟩
  | .hbm, ⟨9, _⟩ => ⟨S4x4x256x128, .f32⟩
  | .hbm, ⟨10, _⟩ => ⟨S4x128x4x256, .f32⟩
  | .hbm, ⟨11, _⟩ => ⟨S4x128x1024, .f32⟩
  | .hbm, ⟨12, _⟩ => ⟨S4x1024x128, .bf16⟩
  | .hbm, ⟨13, _⟩ => ⟨S4x128x1024, .bf16⟩
  | .hbm, ⟨14, _⟩ => ⟨S8192x6x64, .f32⟩
  | .hbm, ⟨15, _⟩ => ⟨S_, .f32⟩
  | .hbm, ⟨16, _⟩ => ⟨S8192x3x64, .f32⟩
  | .hbm, ⟨17, _⟩ => ⟨S8192x3x64, .f32⟩
  | .hbm, ⟨18, _⟩ => ⟨S8192x3x128, .f32⟩
  | .hbm, ⟨19, _⟩ => ⟨S8192x3x64, .f32⟩
  | .hbm, ⟨20, _⟩ => ⟨S8192x3x128, .f32⟩
  | .hbm, ⟨21, _⟩ => ⟨S8192x6x128, .f32⟩
  | .hbm, ⟨22, _⟩ => ⟨S8192x768, .f32⟩
  | .hbm, ⟨23, _⟩ => ⟨S8192x768, .bf16⟩
  | .hbm, ⟨24, _⟩ => ⟨S8192x128, .f32⟩
  | .hbm, ⟨25, _⟩ => ⟨S8192x128, .bf16⟩
  | .hbm, ⟨26, _⟩ => ⟨S8192x128, .f32⟩
  | .hbm, ⟨27, _⟩ => ⟨S128x8192, .f32⟩
  | .hbm, ⟨28, _⟩ => ⟨S128x8192, .bf16⟩
  | .hbm, ⟨29, _⟩ => ⟨S8192x384, .bf16⟩
  | .hbm, ⟨30, _⟩ => ⟨S1024x5632, .bf16⟩
  | .local _ .vmem, ⟨0, _⟩ => ⟨S1024x768, .bf16⟩
  | .local _ .vmem, ⟨1, _⟩ => ⟨S1024x768, .bf16⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S1x256x128, .bf16⟩
  | .local _ .vmem, ⟨7, _⟩ => ⟨S1x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x5632, .f32⟩
  | .local _ .vmem, ⟨11, _⟩ => ⟨S1x128x5632, .f32⟩
  | .local _ .vmem, ⟨12, _⟩ => ⟨S1024x384, .bf16⟩
  | .local _ .vmem, ⟨13, _⟩ => ⟨S1024x384, .bf16⟩
  | .local _ .vmem, ⟨14, _⟩ => ⟨S128x5632, .bf16⟩
  | .local _ .vmem, ⟨15, _⟩ => ⟨S128x5632, .bf16⟩
  | _, _ => ⟨S4x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "qk_log2e" => some ((8⁻¹ * (Real.log 2)⁻¹ : ℝ) : EReal)
  | _ => none
-- ==== AttnRefIdeal.lean ====
abbrev S4x2048x6x64 : Shape := ⟨4, ![4, 2048, 6, 64]⟩
abbrev S4x2048x2x64 : Shape := ⟨4, ![4, 2048, 2, 64]⟩
abbrev S4x4x256x2x64 : Shape := ⟨5, ![4, 4, 256, 2, 64]⟩
abbrev S4x1024x5632 : Shape := ⟨3, ![4, 1024, 5632]⟩
abbrev S4x1x256x2x64 : Shape := ⟨5, ![4, 1, 256, 2, 64]⟩
abbrev S4x256x2x64 : Shape := ⟨4, ![4, 256, 2, 64]⟩
abbrev S4x2304x2x64 : Shape := ⟨4, ![4, 2304, 2, 64]⟩
abbrev S_ : Shape := ⟨0, ![]⟩
abbrev S4x2048x2x3x64 : Shape := ⟨5, ![4, 2048, 2, 3, 64]⟩
abbrev S4x2x2304x2048x3 : Shape := ⟨5, ![4, 2, 2304, 2048, 3]⟩
abbrev S4x2x3x2048x2304 : Shape := ⟨5, ![4, 2, 3, 2048, 2304]⟩
abbrev S4x2x3x2048 : Shape := ⟨4, ![4, 2, 3, 2048]⟩
abbrev S4x2x3x2048x1 : Shape := ⟨5, ![4, 2, 3, 2048, 1]⟩
abbrev S4x2x64x3x2048 : Shape := ⟨5, ![4, 2, 64, 3, 2048]⟩
abbrev S8192x384 : Shape := ⟨2, ![8192, 384]⟩
abbrev S1x1024x5632 : Shape := ⟨3, ![1, 1024, 5632]⟩
abbrev S1024x5632 : Shape := ⟨2, ![1024, 5632]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x6x64, .f32⟩
  | .hbm, ⟨1, _⟩ => ⟨S4x2048x2x64, .f32⟩
  | .hbm, ⟨2, _⟩ => ⟨S4x2048x2x64, .f32⟩
  | .hbm, ⟨3, _⟩ => ⟨S4x4x256x2x64, .f32⟩
  | .hbm, ⟨4, _⟩ => ⟨S4x4x256x2x64, .f32⟩
  | .hbm, ⟨5, _⟩ => ⟨S4x1024x5632, .f32⟩
  | .hbm, ⟨6, _⟩ => ⟨S4x1x256x2x64, .f32⟩
  | .hbm, ⟨7, _⟩ => ⟨S4x256x2x64, .f32⟩
  | .hbm, ⟨8, _⟩ => ⟨S4x2304x2x64, .f32⟩
  | .hbm, ⟨9, _⟩ => ⟨S4x1x256x2x64, .f32⟩
  | .hbm, ⟨10, _⟩ => ⟨S4x256x2x64, .f32⟩
  | .hbm, ⟨11, _⟩ => ⟨S4x2304x2x64, .f32⟩
  | .hbm, ⟨12, _⟩ => ⟨S_, .f32⟩
  | .hbm, ⟨13, _⟩ => ⟨S4x2048x6x64, .f32⟩
  | .hbm, ⟨14, _⟩ => ⟨S4x2048x6x64, .f32⟩
  | .hbm, ⟨15, _⟩ => ⟨S4x2048x2x3x64, .f32⟩
  | .hbm, ⟨16, _⟩ => ⟨S4x2x2304x2048x3, .f32⟩
  | .hbm, ⟨17, _⟩ => ⟨S4x2x3x2048x2304, .f32⟩
  | .hbm, ⟨18, _⟩ => ⟨S_, .f32⟩
  | .hbm, ⟨19, _⟩ => ⟨S4x2x3x2048, .f32⟩
  | .hbm, ⟨20, _⟩ => ⟨S_, .f32⟩
  | .hbm, ⟨21, _⟩ => ⟨S4x2x3x2048, .f32⟩
  | .hbm, ⟨22, _⟩ => ⟨S4x2x3x2048, .f32⟩
  | .hbm, ⟨23, _⟩ => ⟨S4x2x3x2048x1, .f32⟩
  | .hbm, ⟨24, _⟩ => ⟨S4x2x3x2048x2304, .f32⟩
  | .hbm, ⟨25, _⟩ => ⟨S4x2x3x2048x2304, .f32⟩
  | .hbm, ⟨26, _⟩ => ⟨S4x2x3x2048x2304, .f32⟩
  | .hbm, ⟨27, _⟩ => ⟨S_, .f32⟩
  | .hbm, ⟨28, _⟩ => ⟨S4x2x3x2048, .f32⟩
  | .hbm, ⟨29, _⟩ => ⟨S4x2x3x2048x1, .f32⟩
  | .hbm, ⟨30, _⟩ => ⟨S4x2x3x2048x2304, .f32⟩
  | .hbm, ⟨31, _⟩ => ⟨S4x2x3x2048x2304, .f32⟩
  | .hbm, ⟨32, _⟩ => ⟨S4x2x64x3x2048, .f32⟩
  | .hbm, ⟨33, _⟩ => ⟨S4x2048x2x3x64, .f32⟩
  | .hbm, ⟨34, _⟩ => ⟨S8192x384, .f32⟩
  | .hbm, ⟨35, _⟩ => ⟨S8192x384, .bf16⟩
  | .hbm, ⟨36, _⟩ => ⟨S1x1024x5632, .f32⟩
  | .hbm, ⟨37, _⟩ => ⟨S1024x5632, .f32⟩
  | .hbm, ⟨38, _⟩ => ⟨S1024x5632, .bf16⟩
  | _, _ => ⟨S4x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Post.lean ====
abbrev S4x2048x1024 : Shape := ⟨3, ![4, 2048, 1024]⟩
abbrev S4x2048x6x64 : Shape := ⟨4, ![4, 2048, 6, 64]⟩
abbrev S4x2048x4x64 : Shape := ⟨4, ![4, 2048, 4, 64]⟩
abbrev S4x8x6144 : Shape := ⟨3, ![4, 8, 6144]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S32x1x6144 : Shape := ⟨3, ![32, 1, 6144]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x1x1024 : Shape := ⟨3, ![4, 1, 1024]⟩
abbrev S8192x1024 : Shape := ⟨2, ![8192, 1024]⟩
abbrev S8192x384 : Shape := ⟨2, ![8192, 384]⟩
abbrev S8192x256 : Shape := ⟨2, ![8192, 256]⟩
abbrev S1024x384 : Shape := ⟨2, ![1024, 384]⟩
abbrev S1024x256 : Shape := ⟨2, ![1024, 256]⟩
abbrev S1x1x6144 : Shape := ⟨3, ![1, 1, 6144]⟩
abbrev S1x1x1024 : Shape := ⟨3, ![1, 1, 1024]⟩
abbrev S1x6144 : Shape := ⟨2, ![1, 6144]⟩
abbrev S1x1024 : Shape := ⟨2, ![1, 1024]⟩
abbrev S256x384 : Shape := ⟨2, ![256, 384]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 32
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x6x64, .f32⟩
  | .hbm, ⟨2, _⟩ => ⟨S4x2048x4x64, .f32⟩
  | .hbm, ⟨3, _⟩ => ⟨S4x2048x6x64, .f32⟩
  | .hbm, ⟨4, _⟩ => ⟨S4x8x6144, .f32⟩
  | .hbm, ⟨5, _⟩ => ⟨S4x1024x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S32x1x6144, .f32⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S8192x1024, .f32⟩
  | .hbm, ⟨25, _⟩ => ⟨S8192x384, .f32⟩
  | .hbm, ⟨26, _⟩ => ⟨S8192x384, .bf16⟩
  | .hbm, ⟨27, _⟩ => ⟨S8192x256, .f32⟩
  | .hbm, ⟨28, _⟩ => ⟨S8192x256, .bf16⟩
  | .hbm, ⟨29, _⟩ => ⟨S8192x384, .f32⟩
  | .hbm, ⟨30, _⟩ => ⟨S8192x384, .bf16⟩
  | .hbm, ⟨31, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x384, .bf16⟩
  | .local _ .vmem, ⟨7, _⟩ => ⟨S1024x384, .bf16⟩
  | .local _ .vmem, ⟨8, _⟩ => ⟨S1x1x6144, .f32⟩
  | .local _ .vmem, ⟨9, _⟩ => ⟨S1x1x6144, .f32⟩
  | .local _ .vmem, ⟨10, _⟩ => ⟨S1024x1024, .bf16⟩
  | .local _ .vmem, ⟨11, _⟩ => ⟨S1024x5632, .bf16⟩
  | .local _ .vmem, ⟨12, _⟩ => ⟨S2816x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | .local _ .vmem, ⟨17, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S4x2048x1024 : Shape := ⟨3, ![4, 2048, 1024]⟩
abbrev S4x2048x6x64 : Shape := ⟨4, ![4, 2048, 6, 64]⟩
abbrev S4x2048x4x64 : Shape := ⟨4, ![4, 2048, 4, 64]⟩
abbrev S4x8x6144 : Shape := ⟨3, ![4, 8, 6144]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S4x2048x384 : Shape := ⟨3, ![4, 2048, 384]⟩
abbrev S4x2048x256 : Shape := ⟨3, ![4, 2048, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x6x64, .f32⟩
  | .hbm, ⟨2, _⟩ => ⟨S4x2048x4x64, .f32⟩
  | .hbm, ⟨3, _⟩ => ⟨S4x2048x6x64, .f32⟩
  | .hbm, ⟨4, _⟩ => ⟨S4x8x6144, .f32⟩
  | .hbm, ⟨5, _⟩ => ⟨S4x1024x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1x4x6144, .f32⟩
  | .hbm, ⟨12, _⟩ => ⟨S4x6144, .f32⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x2048x384, .f32⟩
  | .hbm, ⟨21, _⟩ => ⟨S4x2048x256, .f32⟩
  | .hbm, ⟨22, _⟩ => ⟨S4x2048x384, .f32⟩
  | .hbm, ⟨23, _⟩ => ⟨S4x2048x1024, .f32⟩
  | .hbm, ⟨24, _⟩ => ⟨S1x1024x1024, .f32⟩
  | .hbm, ⟨25, _⟩ => ⟨S1024x1024, .f32⟩
  | .hbm, ⟨26, _⟩ => ⟨S4x2048x1024, .f32⟩
  | .hbm, ⟨27, _⟩ => ⟨S1x1024, .f32⟩
  | .hbm, ⟨28, _⟩ => ⟨S1024, .f32⟩
  | .hbm, ⟨29, _⟩ => ⟨S4x2048x1024, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S1x1024, .f32⟩
  | .hbm, ⟨49, _⟩ => ⟨S1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S1x1x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x1x1024, .f32⟩
  | .hbm, ⟨68, _⟩ => ⟨S4x1x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S1x1024x5632, .f32⟩
  | .hbm, ⟨74, _⟩ => ⟨S1024x5632, .f32⟩
  | .hbm, ⟨75, _⟩ => ⟨S4x2048x5632, .f32⟩
  | .hbm, ⟨76, _⟩ => ⟨S4x2048x2816, .f32⟩
  | .hbm, ⟨77, _⟩ => ⟨S4x2048x2816, .f32⟩
  | .hbm, ⟨78, _⟩ => ⟨S4x2048x2816, .f32⟩
  | .hbm, ⟨79, _⟩ => ⟨S4x2048x2816, .f32⟩
  | .hbm, ⟨80, _⟩ => ⟨S_, .f32⟩
  | .hbm, ⟨81, _⟩ => ⟨S4x2048x2816, .f32⟩
  | .hbm, ⟨82, _⟩ => ⟨S4x2048x2816, .f32⟩
  | .hbm, ⟨83, _⟩ => ⟨S_, .f32⟩
  | .hbm, ⟨84, _⟩ => ⟨S4x2048x2816, .f32⟩
  | .hbm, ⟨85, _⟩ => ⟨S4x2048x2816, .f32⟩
  | .hbm, ⟨86, _⟩ => ⟨S4x2048x2816, .f32⟩
  | .hbm, ⟨87, _⟩ => ⟨S4x2048x2816, .f32⟩
  | .hbm, ⟨88, _⟩ => ⟨S1x2816x1024, .f32⟩
  | .hbm, ⟨89, _⟩ => ⟨S2816x1024, .f32⟩
  | .hbm, ⟨90, _⟩ => ⟨S4x2048x1024, .f32⟩
  | .hbm, ⟨91, _⟩ => ⟨S1x1024, .f32⟩
  | .hbm, ⟨92, _⟩ => ⟨S1024, .f32⟩
  | .hbm, ⟨93, _⟩ => ⟨S4x2048x1024, .f32⟩
  | .hbm, ⟨94, _⟩ => ⟨S_, .f32⟩
  | .hbm, ⟨95, _⟩ => ⟨S4x2048, .f32⟩
  | .hbm, ⟨96, _⟩ => ⟨S4x2048x1, .f32⟩
  | .hbm, ⟨97, _⟩ => ⟨S_, .f32⟩
  | .hbm, ⟨98, _⟩ => ⟨S4x2048x1, .f32⟩
  | .hbm, ⟨99, _⟩ => ⟨S4x2048x1, .f32⟩
  | .hbm, ⟨100, _⟩ => ⟨S_, .f32⟩
  | .hbm, ⟨101, _⟩ => ⟨S4x2048x1, .f32⟩
  | .hbm, ⟨102, _⟩ => ⟨S4x2048x1, .f32⟩
  | .hbm, ⟨103, _⟩ => ⟨S4x2048x1, .f32⟩
  | .hbm, ⟨104, _⟩ => ⟨S4x2048x1024, .f32⟩
  | .hbm, ⟨105, _⟩ => ⟨S4x2048x1024, .f32⟩
  | .hbm, ⟨106, _⟩ => ⟨S1x1x1024, .f32⟩
  | .hbm, ⟨107, _⟩ => ⟨S4x2048x1024, .f32⟩
  | .hbm, ⟨108, _⟩ => ⟨S4x2048x1024, .f32⟩
  | .hbm, ⟨109, _⟩ => ⟨S4x2048x1024, .f32⟩
  | .hbm, ⟨110, _⟩ => ⟨S4x2048x1024, .f32⟩
  | .hbm, ⟨111, _⟩ => ⟨S4x2048x1024, .f32⟩
  | .hbm, ⟨112, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_6 : Ref sig .tc := ⟨.hbm, 94, rfl⟩
abbrev main_v68 : Ref sig .tc := ⟨.hbm, 95, rfl⟩
abbrev main_v69 : Ref sig .tc := ⟨.hbm, 96, rfl⟩
abbrev main_cst_7 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Inp.lean ====
abbrev S32x256x1024 : Shape := ⟨3, ![32, 256, 1024]⟩
abbrev S4x8x6144 : Shape := ⟨3, ![4, 8, 6144]⟩
abbrev S4x1024 : Shape := ⟨2, ![4, 1024]⟩
abbrev S4x1024x2304 : Shape := ⟨3, ![4, 1024, 2304]⟩
abbrev S4x64 : Shape := ⟨2, ![4, 64]⟩
abbrev S32x1x6144 : Shape := ⟨3, ![32, 1, 6144]⟩
abbrev S1x1024x2304 : Shape := ⟨3, ![1, 1024, 2304]⟩
abbrev S1024x2304 : Shape := ⟨2, ![1024, 2304]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4x1x1024 : Shape := ⟨3, ![4, 1, 1024]⟩
abbrev S1x4x1x64 : Shape := ⟨4, ![1, 4, 1, 64]⟩
abbrev S1x4x2x64 : Shape := ⟨4, ![1, 4, 2, 64]⟩
abbrev S4x128 : Shape := ⟨2, ![4, 128]⟩
abbrev S4x1x128 : Shape := ⟨3, ![4, 1, 128]⟩
abbrev S8192x1024 : Shape := ⟨2, ![8192, 1024]⟩
abbrev S8192x768 : Shape := ⟨2, ![8192, 768]⟩
abbrev S8192x128 : Shape := ⟨2, ![8192, 128]⟩
abbrev S128x8192 : Shape := ⟨2, ![128, 8192]⟩
abbrev S32x128x256 : Shape := ⟨3, ![32, 128, 256]⟩
abbrev S1024x1024 : Shape := ⟨2, ![1024, 1024]⟩
abbrev S1x1x6144 : Shape := ⟨3, ![1, 1, 6144]⟩
abbrev S1x1x1024 : Shape := ⟨3, ![1, 1, 1024]⟩
abbrev S1x1x128 : Shape := ⟨3, ![1, 1, 128]⟩
abbrev S1024x768 : Shape := ⟨2, ![1024, 768]⟩
abbrev S1024x128 : Shape := ⟨2, ![1024, 128]⟩
abbrev S128x1024 : Shape := ⟨2, ![128, 1024]⟩
abbrev S4x128x256 : Shape := ⟨3, ![4, 128, 256]⟩
abbrev S1x6144 : Shape := ⟨2, ![1, 6144]⟩
abbrev S1x1024 : Shape := ⟨2, ![1, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S256x640 : Shape := ⟨2, ![256, 640]⟩
abbrev S128x256 : Shape := ⟨2, ![128, 256]⟩
abbrev S1x128x256 : Shape := ⟨3, ![1, 128, 256]⟩
abbrev S256x256 : Shape := ⟨2, ![256, 256]⟩
abbrev S256x384 : Shape := ⟨2, ![256, 384]⟩

abbrev nBuf : Space → Nat
  | .hbm => 61
  | .vmem => 30
  | .smem => 0
  | _ => 0

abbrev bufTy : (tb : Table) → Fin (tcTables nBuf tb) → BufTy
  | .hbm, ⟨0, _⟩ => ⟨S32x256x1024, .f32⟩
  | .hbm, ⟨1, _⟩ => ⟨S4x8x6144, .f32⟩
  | .hbm, ⟨2, _⟩ => ⟨S4x1024, .f32⟩
  | .hbm, ⟨3, _⟩ => ⟨S4x1024x2304, .f32⟩
  | .hbm, ⟨4, _⟩ => ⟨S4x64, .f32⟩
  | .hbm, ⟨5, _⟩ => ⟨S4x64, .f32⟩
  | .hbm, ⟨6, _⟩ => ⟨S32x1x6144, .f32⟩
  | .hbm, ⟨7, _⟩ => ⟨S1x1024x2304, .f32⟩
  | .hbm, ⟨8, _⟩ => ⟨S1024x2304, .f32⟩
  | .hbm, ⟨9, _⟩ => ⟨S1024x2304, .bf16⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .bf16⟩
  | .hbm, ⟨40, _⟩ => ⟨S4x1x1024, .f32⟩
  | .hbm, ⟨41, _⟩ => ⟨S1x4x1x64, .f32⟩
  | .hbm, ⟨42, _⟩ => ⟨S1x4x2x64, .f32⟩
  | .hbm, ⟨43, _⟩ => ⟨S4x128, .f32⟩
  | .hbm, ⟨44, _⟩ => ⟨S4x1x128, .f32⟩
  | .hbm, ⟨45, _⟩ => ⟨S1x4x1x64, .f32⟩
  | .hbm, ⟨46, _⟩ => ⟨S1x4x2x64, .f32⟩
  | .hbm, ⟨47, _⟩ => ⟨S4x128, .f32⟩
  | .hbm, ⟨48, _⟩ => ⟨S4x1x128, .f32⟩
  | .hbm, ⟨49, _⟩ => ⟨S8192x1024, .f32⟩
  | .hbm, ⟨50, _⟩ => ⟨S8192x768, .bf16⟩
  | .hbm, ⟨51, _⟩ => ⟨S8192x128, .bf16⟩
  | .hbm, ⟨52, _⟩ => ⟨S128x8192, .bf16⟩
  | .hbm, ⟨53, _⟩ => ⟨S8192x1024, .bf16⟩
  | .hbm, ⟨54, _⟩ => ⟨S8192x768, .bf16⟩
  | .hbm, ⟨55, _⟩ => ⟨S8192x128, .bf16⟩
  | .hbm, ⟨56, _⟩ => ⟨S128x8192, .bf16⟩
  | .hbm, ⟨57, _⟩ => ⟨S32x128x256, .f32⟩
  | .hbm, ⟨58, _⟩ => ⟨S32x128x256, .f32⟩
  | .hbm, ⟨59, _⟩ => ⟨S32x128x256, .f32⟩
  | .hbm, ⟨60, _⟩ => ⟨S32x128x256, .f32⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x1024, .f32⟩
  | .local _ .vmem, ⟨4, _⟩ => ⟨S1024x2304, .bf16⟩
  | .local _ .vmem, ⟨5, _⟩ => ⟨S1x1x128, .f32⟩
  | .local _ .vmem, ⟨6, _⟩ => ⟨S1x1x128, .f32⟩
  | .local _ .vmem, ⟨7, _⟩ => ⟨S128x128, .bf16⟩
  | .local _ .vmem, ⟨8, _⟩ => ⟨S1024x768, .bf16⟩
  | .local _ .vmem, ⟨9, _⟩ => ⟨S1024x768, .bf16⟩
  | .local _ .vmem, ⟨10, _⟩ => ⟨S1024x128, .bf16⟩
  | .local _ .vmem, ⟨11, _⟩ => ⟨S1024x128, .bf16⟩
  | .local _ .vmem, ⟨12, _⟩ => ⟨S128x1024, .bf16⟩
  | .local _ .vmem, ⟨13, _⟩ => ⟨S128x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x768, .bf16⟩
  | .local _ .vmem, ⟨17, _⟩ => ⟨S1024x768, .bf16⟩
  | .local _ .vmem, ⟨18, _⟩ => ⟨S1024x128, .bf16⟩
  | .local _ .vmem, ⟨19, _⟩ => ⟨S1024x128, .bf16⟩
  | .local _ .vmem, ⟨20, _⟩ => ⟨S128x1024, .bf16⟩
  | .local _ .vmem, ⟨21, _⟩ => ⟨S128x1024, .bf16⟩
  | .local _ .vmem, ⟨22, _⟩ => ⟨S4x128x256, .f32⟩
  | .local _ .vmem, ⟨23, _⟩ => ⟨S4x128x256, .f32⟩
  | .local _ .vmem, ⟨24, _⟩ => ⟨S4x128x256, .f32⟩
  | .local _ .vmem, ⟨25, _⟩ => ⟨S4x128x256, .f32⟩
  | .local _ .vmem, ⟨26, _⟩ => ⟨S4x128x256, .f32⟩
  | .local _ .vmem, ⟨27, _⟩ => ⟨S4x128x256, .f32⟩
  | .local _ .vmem, ⟨28, _⟩ => ⟨S4x128x256, .f32⟩
  | .local _ .vmem, ⟨29, _⟩ => ⟨S4x128x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev main_v23_4 : Ref sig .tc := ⟨.hbm, 54, rfl⟩
abbrev main_v23_5 : Ref sig .tc := ⟨.hbm, 55, rfl⟩
abbrev main_v23_6 : Ref sig .tc := ⟨.hbm, 56, rfl⟩
abbrev main_v23_7 : Ref sig .tc := ⟨.hbm, 57, rfl⟩
abbrev main_v23_8 : Ref sig .tc := ⟨.hbm, 58, rfl⟩
abbrev main_v23_9 : Ref sig .tc := ⟨.hbm, 59, rfl⟩
abbrev main_v23_10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InpRefIdeal.lean ====
abbrev S32x256x1024 : Shape := ⟨3, ![32, 256, 1024]⟩
abbrev S4x8x6144 : Shape := ⟨3, ![4, 8, 6144]⟩
abbrev S4x1024 : Shape := ⟨2, ![4, 1024]⟩
abbrev S4x1024x2304 : Shape := ⟨3, ![4, 1024, 2304]⟩
abbrev S4x64 : Shape := ⟨2, ![4, 64]⟩
abbrev S1x1x6144 : Shape := ⟨3, ![1, 1, 6144]⟩
abbrev S6144 : Shape := ⟨1, ![6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024x2304 : Shape := ⟨3, ![1, 1024, 2304]⟩
abbrev S1024x2304 : Shape := ⟨2, ![1024, 2304]⟩
abbrev S32x256x2304 : Shape := ⟨3, ![32, 256, 2304]⟩
abbrev S32x256x384 : Shape := ⟨3, ![32, 256, 384]⟩
abbrev S32x256x128 : Shape := ⟨3, ![32, 256, 128]⟩
abbrev S32x256x256 : Shape := ⟨3, ![32, 256, 256]⟩
abbrev S32x256x6x64 : Shape := ⟨4, ![32, 256, 6, 64]⟩
abbrev S1x64 : Shape := ⟨2, ![1, 64]⟩
abbrev S64 : Shape := ⟨1, ![64]⟩
abbrev S32x256x6 : Shape := ⟨3, ![32, 256, 6]⟩
abbrev S32x256x6x1 : Shape := ⟨4, ![32, 256, 6, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x256x3x64 : Shape := ⟨4, ![32, 256, 3, 64]⟩
abbrev S32x256x3x128 : Shape := ⟨4, ![32, 256, 3, 128]⟩
abbrev S32x256x6x128 : Shape := ⟨4, ![32, 256, 6, 128]⟩
abbrev S8192x768 : Shape := ⟨2, ![8192, 768]⟩
abbrev S8192x128 : Shape := ⟨2, ![8192, 128]⟩
abbrev S128x8192 : Shape := ⟨2, ![128, 8192]⟩
abbrev S8192x1024 : Shape := ⟨2, ![8192, 1024]⟩
abbrev S32x128x256 : Shape := ⟨3, ![32, 128, 256]⟩

abbrev nBuf : Space → Nat
  | .hbm => 133
  | .vmem => 0
  | .smem => 0
  | _ => 0

abbrev hbmTy0_0 (i : Nat) : BufTy := match i % 128 with
  | 0 => ⟨S32x256x1024, .f32⟩
  | 1 => ⟨S4x8x6144, .f32⟩
  | 2 => ⟨S4x1024, .f32⟩
  | 3 => ⟨S4x1024x2304, .f32⟩
  | 4 => ⟨S4x64, .f32⟩
  | 5 => ⟨S4x64, .f32⟩
  | 6 => ⟨S1x1x6144, .f32⟩
  | 7 => ⟨S6144, .f32⟩
  | 8 => ⟨S1x6144, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1024, .f32⟩
  | 17 => ⟨S32x256x1024, .f32⟩
  | 18 => ⟨S_, .f32⟩
  | 19 => ⟨S32x256, .f32⟩
  | 20 => ⟨S32x256x1, .f32⟩
  | 21 => ⟨S_, .f32⟩
  | 22 => ⟨S32x256x1, .f32⟩
  | 23 => ⟨S32x256x1, .f32⟩
  | 24 => ⟨S_, .f32⟩
  | 25 => ⟨S32x256x1, .f32⟩
  | 26 => ⟨S32x256x1, .f32⟩
  | 27 => ⟨S32x256x1, .f32⟩
  | 28 => ⟨S32x256x1024, .f32⟩
  | 29 => ⟨S32x256x1024, .f32⟩
  | 30 => ⟨S1x1x1024, .f32⟩
  | 31 => ⟨S32x256x1024, .f32⟩
  | 32 => ⟨S32x256x1024, .f32⟩
  | 33 => ⟨S_, .f32⟩
  | 34 => ⟨S1x1024, .f32⟩
  | 35 => ⟨S1x1024, .f32⟩
  | 36 => ⟨S1x1x1024, .f32⟩
  | 37 => ⟨S32x256x1024, .f32⟩
  | 38 => ⟨S32x256x1024, .f32⟩
  | 39 => ⟨S1x1x1024, .f32⟩
  | 40 => ⟨S32x256x1024, .f32⟩
  | 41 => ⟨S32x256x1024, .f32⟩
  | 42 => ⟨S1x1024x2304, .f32⟩
  | 43 => ⟨S1024x2304, .f32⟩
  | 44 => ⟨S32x256x2304, .f32⟩
  | 45 => ⟨S32x256x384, .f32⟩
  | 46 => ⟨S32x256x128, .f32⟩
  | 47 => ⟨S32x256x128, .f32⟩
  | 48 => ⟨S32x256x256, .f32⟩
  | 49 => ⟨S32x256x256, .f32⟩
  | 50 => ⟨S32x256x256, .f32⟩
  | 51 => ⟨S32x256x256, .f32⟩
  | 52 => ⟨S32x256x384, .f32⟩
  | 53 => ⟨S32x256x128, .f32⟩
  | 54 => ⟨S32x256x128, .f32⟩
  | 55 => ⟨S32x256x6x64, .f32⟩
  | 56 => ⟨S1x64, .f32⟩
  | 57 => ⟨S64, .f32⟩
  | 58 => ⟨S32x256x6x64, .f32⟩
  | 59 => ⟨S_, .f32⟩
  | 60 => ⟨S32x256x6, .f32⟩
  | 61 => ⟨S32x256x6x1, .f32⟩
  | 62 => ⟨S_, .f32⟩
  | 63 => ⟨S32x256x6x1, .f32⟩
  | 64 => ⟨S32x256x6x1, .f32⟩
  | 65 => ⟨S_, .f32⟩
  | 66 => ⟨S32x256x6x1, .f32⟩
  | 67 => ⟨S32x256x6x1, .f32⟩
  | 68 => ⟨S32x256x6x1, .f32⟩
  | 69 => ⟨S32x256x6x64, .f32⟩
  | 70 => ⟨S32x256x6x64, .f32⟩
  | 71 => ⟨S1x1x1x64, .f32⟩
  | 72 => ⟨S32x256x6x64, .f32⟩
  | 73 => ⟨S32x256x6x64, .f32⟩
  | 74 => ⟨S32x256x2x64, .f32⟩
  | 75 => ⟨S1x64, .f32⟩
  | 76 => ⟨S64, .f32⟩
  | 77 => ⟨S32x256x2x64, .f32⟩
  | 78 => ⟨S_, .f32⟩
  | 79 => ⟨S32x256x2, .f32⟩
  | 80 => ⟨S32x256x2x1, .f32⟩
  | 81 => ⟨S_, .f32⟩
  | 82 => ⟨S32x256x2x1, .f32⟩
  | 83 => ⟨S32x256x2x1, .f32⟩
  | 84 => ⟨S_, .f32⟩
  | 85 => ⟨S32x256x2x1, .f32⟩
  | 86 => ⟨S32x256x2x1, .f32⟩
  | 87 => ⟨S32x256x2x1, .f32⟩
  | 88 => ⟨S32x256x2x64, .f32⟩
  | 89 => ⟨S32x256x2x64, .f32⟩
  | 90 => ⟨S1x1x1x64, .f32⟩
  | 91 => ⟨S32x256x2x64, .f32⟩
  | 92 => ⟨S32x256x2x64, .f32⟩
  | 93 => ⟨S32x256x128, .f32⟩
  | 94 => ⟨S32x256x6x64, .f32⟩
  | 95 => ⟨S_, .f32⟩
  | 96 => ⟨S32x256x256, .f32⟩
  | 97 => ⟨S32x256x256, .f32⟩
  | 98 => ⟨S32x256x1024, .f32⟩
  | 99 => ⟨S_, .f32⟩
  | 100 => ⟨S32x256x3x64, .f32⟩
  | 101 => ⟨S32x256x3x64, .f32⟩
  | 102 => ⟨S32x256x3x128, .f32⟩
  | 103 => ⟨S32x256x3x64, .f32⟩
  | 104 => ⟨S32x256x3x128, .f32⟩
  | 105 => ⟨S32x256x6x128, .f32⟩
  | 106 => ⟨S8192x768, .f32⟩
  | 107 => ⟨S8192x768, .bf16⟩
  | 108 => ⟨S8192x128, .f32⟩
  | 109 => ⟨S8192x128, .bf16⟩
  | 110 => ⟨S8192x128, .f32⟩
  | 111 => ⟨S128x8192, .f32⟩
  | 112 => ⟨S128x8192, .bf16⟩
  | 113 => ⟨S8192x1024, .f32⟩
  | 114 => ⟨S8192x1024, .bf16⟩
  | 115 => ⟨S_, .f32⟩
  | 116 => ⟨S32x256x3x64, .f32⟩
  | 117 => ⟨S32x256x3x64, .f32⟩
  | 118 => ⟨S32x256x3x128, .f32⟩
  | 119 => ⟨S32x256x3x64, .f32⟩
  | 120 => ⟨S32x256x3x128, .f32⟩
  | 121 => ⟨S32x256x6x128, .f32⟩
  | 122 => ⟨S8192x768, .f32⟩
  | 123 => ⟨S8192x768, .bf16⟩
  | 124 => ⟨S8192x128, .f32⟩
  | 125 => ⟨S8192x128, .bf16⟩
  | 126 => ⟨S8192x128, .f32⟩
  | 127 => ⟨S128x8192, .f32⟩
  | _ => ⟨S32x256x1024, .f32⟩

abbrev hbmTy0_1 (i : Nat) : BufTy := match i % 128 with
  | 0 => ⟨S128x8192, .bf16⟩
  | 1 => ⟨S32x128x256, .f32⟩
  | 2 => ⟨S32x128x256, .f32⟩
  | 3 => ⟨S32x128x256, .f32⟩
  | 4 => ⟨S32x128x256, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩

abbrev nD : Nat := 1
abbrev τ : Topo := Topo.v7x

variable {F : FTy → Type} [FloatOps F]
-- ==== Context.lean ====
abbrev S32x256x1024 : Shape := ⟨3, ![32, 256, 1024]⟩
abbrev S32x256x6x64 : Shape := ⟨4, ![32, 256, 6, 64]⟩
abbrev S32x256x4x64 : Shape := ⟨4, ![32, 256, 4, 64]⟩
abbrev S4x8x6144 : Shape := ⟨3, ![4, 8, 6144]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S32x1x6144 : Shape := ⟨3, ![32, 1, 6144]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x1x1024 : Shape := ⟨3, ![4, 1, 1024]⟩
abbrev S8192x1024 : Shape := ⟨2, ![8192, 1024]⟩
abbrev S8192x384 : Shape := ⟨2, ![8192, 384]⟩
abbrev S8192x256 : Shape := ⟨2, ![8192, 256]⟩
abbrev S1024x384 : Shape := ⟨2, ![1024, 384]⟩
abbrev S1024x256 : Shape := ⟨2, ![1024, 256]⟩
abbrev S1x1x6144 : Shape := ⟨3, ![1, 1, 6144]⟩
abbrev S1x1x1024 : Shape := ⟨3, ![1, 1, 1024]⟩
abbrev S1x6144 : Shape := ⟨2, ![1, 6144]⟩
abbrev S1x1024 : Shape := ⟨2, ![1, 1024]⟩
abbrev S256x384 : Shape := ⟨2, ![256, 384]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 32
  | .vmem => 17
  | .smem => 0
  | _ => 0

abbrev bufTy : (tb : Table) → Fin (tcTables nBuf tb) → BufTy
  | .hbm, ⟨0, _⟩ => ⟨S32x256x1024, .f32⟩
  | .hbm, ⟨1, _⟩ => ⟨S32x256x6x64, .f32⟩
  | .hbm, ⟨2, _⟩ => ⟨S32x256x4x64, .f32⟩
  | .hbm, ⟨3, _⟩ => ⟨S32x256x6x64, .f32⟩
  | .hbm, ⟨4, _⟩ => ⟨S4x8x6144, .f32⟩
  | .hbm, ⟨5, _⟩ => ⟨S4x1024x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S32x1x6144, .f32⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S8192x1024, .f32⟩
  | .hbm, ⟨25, _⟩ => ⟨S8192x384, .f32⟩
  | .hbm, ⟨26, _⟩ => ⟨S8192x384, .bf16⟩
  | .hbm, ⟨27, _⟩ => ⟨S8192x256, .f32⟩
  | .hbm, ⟨28, _⟩ => ⟨S8192x256, .bf16⟩
  | .hbm, ⟨29, _⟩ => ⟨S8192x384, .f32⟩
  | .hbm, ⟨30, _⟩ => ⟨S8192x384, .bf16⟩
  | .hbm, ⟨31, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x384, .bf16⟩
  | .local _ .vmem, ⟨7, _⟩ => ⟨S1024x384, .bf16⟩
  | .local _ .vmem, ⟨8, _⟩ => ⟨S1x1x6144, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .f32⟩
  | .local _ .vmem, ⟨16, _⟩ => ⟨S1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c28_i32 : BitVec 32 := 28#32
  let c0_i32 : BitVec 32 := 0#32
  let c0_i32_0 : BitVec 32 := 0#32
  let c0_i32_1 : BitVec 32 := 0#32
  ![c28_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ContextRefIdeal.lean ====
abbrev S32x256x1024 : Shape := ⟨3, ![32, 256, 1024]⟩
abbrev S32x256x6x64 : Shape := ⟨4, ![32, 256, 6, 64]⟩
abbrev S32x256x4x64 : Shape := ⟨4, ![32, 256, 4, 64]⟩
abbrev S4x8x6144 : Shape := ⟨3, ![4, 8, 6144]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S1x1x6144 : Shape := ⟨3, ![1, 1, 6144]⟩
abbrev S6144 : Shape := ⟨1, ![6144]⟩
abbrev S1x6144 : Shape := ⟨2, ![1, 6144]⟩
abbrev S1x1024 : Shape := ⟨2, ![1, 1024]⟩
abbrev S32x256x384 : Shape := ⟨3, ![32, 256, 384]⟩
abbrev S32x256x256 : Shape := ⟨3, ![32, 256, 256]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x256x5632 : Shape := ⟨3, ![32, 256, 5632]⟩
abbrev S32x256x2816 : Shape := ⟨3, ![32, 256, 2816]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 117
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x6x64, .f32⟩
  | .hbm, ⟨2, _⟩ => ⟨S32x256x4x64, .f32⟩
  | .hbm, ⟨3, _⟩ => ⟨S32x256x6x64, .f32⟩
  | .hbm, ⟨4, _⟩ => ⟨S4x8x6144, .f32⟩
  | .hbm, ⟨5, _⟩ => ⟨S4x1024x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1x1x6144, .f32⟩
  | .hbm, ⟨12, _⟩ => ⟨S6144, .f32⟩
  | .hbm, ⟨13, _⟩ => ⟨S1x6144, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S32x256x384, .f32⟩
  | .hbm, ⟨21, _⟩ => ⟨S32x256x256, .f32⟩
  | .hbm, ⟨22, _⟩ => ⟨S32x256x384, .f32⟩
  | .hbm, ⟨23, _⟩ => ⟨S32x256x1024, .f32⟩
  | .hbm, ⟨24, _⟩ => ⟨S1x1024x1024, .f32⟩
  | .hbm, ⟨25, _⟩ => ⟨S1024x1024, .f32⟩
  | .hbm, ⟨26, _⟩ => ⟨S32x256x1024, .f32⟩
  | .hbm, ⟨27, _⟩ => ⟨S1x1024, .f32⟩
  | .hbm, ⟨28, _⟩ => ⟨S1024, .f32⟩
  | .hbm, ⟨29, _⟩ => ⟨S32x256x1024, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S1x1024, .f32⟩
  | .hbm, ⟨50, _⟩ => ⟨S1024, .f32⟩
  | .hbm, ⟨51, _⟩ => ⟨S32x256x1024, .f32⟩
  | .hbm, ⟨52, _⟩ => ⟨S_, .f32⟩
  | .hbm, ⟨53, _⟩ => ⟨S32x256, .f32⟩
  | .hbm, ⟨54, _⟩ => ⟨S32x256x1, .f32⟩
  | .hbm, ⟨55, _⟩ => ⟨S_, .f32⟩
  | .hbm, ⟨56, _⟩ => ⟨S32x256x1, .f32⟩
  | .hbm, ⟨57, _⟩ => ⟨S32x256x1, .f32⟩
  | .hbm, ⟨58, _⟩ => ⟨S_, .f32⟩
  | .hbm, ⟨59, _⟩ => ⟨S32x256x1, .f32⟩
  | .hbm, ⟨60, _⟩ => ⟨S32x256x1, .f32⟩
  | .hbm, ⟨61, _⟩ => ⟨S32x256x1, .f32⟩
  | .hbm, ⟨62, _⟩ => ⟨S32x256x1024, .f32⟩
  | .hbm, ⟨63, _⟩ => ⟨S32x256x1024, .f32⟩
  | .hbm, ⟨64, _⟩ => ⟨S1x1x1024, .f32⟩
  | .hbm, ⟨65, _⟩ => ⟨S32x256x1024, .f32⟩
  | .hbm, ⟨66, _⟩ => ⟨S32x256x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1x1024, .f32⟩
  | .hbm, ⟨71, _⟩ => ⟨S32x256x1024, .f32⟩
  | .hbm, ⟨72, _⟩ => ⟨S32x256x1024, .f32⟩
  | .hbm, ⟨73, _⟩ => ⟨S1x1x1024, .f32⟩
  | .hbm, ⟨74, _⟩ => ⟨S32x256x1024, .f32⟩
  | .hbm, ⟨75, _⟩ => ⟨S32x256x1024, .f32⟩
  | .hbm, ⟨76, _⟩ => ⟨S1x1024x5632, .f32⟩
  | .hbm, ⟨77, _⟩ => ⟨S1024x5632, .f32⟩
  | .hbm, ⟨78, _⟩ => ⟨S32x256x5632, .f32⟩
  | .hbm, ⟨79, _⟩ => ⟨S32x256x2816, .f32⟩
  | .hbm, ⟨80, _⟩ => ⟨S32x256x2816, .f32⟩
  | .hbm, ⟨81, _⟩ => ⟨S32x256x2816, .f32⟩
  | .hbm, ⟨82, _⟩ => ⟨S32x256x2816, .f32⟩
  | .hbm, ⟨83, _⟩ => ⟨S_, .f32⟩
  | .hbm, ⟨84, _⟩ => ⟨S32x256x2816, .f32⟩
  | .hbm, ⟨85, _⟩ => ⟨S32x256x2816, .f32⟩
  | .hbm, ⟨86, _⟩ => ⟨S_, .f32⟩
  | .hbm, ⟨87, _⟩ => ⟨S32x256x2816, .f32⟩
  | .hbm, ⟨88, _⟩ => ⟨S32x256x2816, .f32⟩
  | .hbm, ⟨89, _⟩ => ⟨S32x256x2816, .f32⟩
  | .hbm, ⟨90, _⟩ => ⟨S32x256x2816, .f32⟩
  | .hbm, ⟨91, _⟩ => ⟨S1x2816x1024, .f32⟩
  | .hbm, ⟨92, _⟩ => ⟨S2816x1024, .f32⟩
  | .hbm, ⟨93, _⟩ => ⟨S32x256x1024, .f32⟩
  | .hbm, ⟨94, _⟩ => ⟨S1x1024, .f32⟩
  | .hbm, ⟨95, _⟩ => ⟨S1024, .f32⟩
  | .hbm, ⟨96, _⟩ => ⟨S32x256x1024, .f32⟩
  | .hbm, ⟨97, _⟩ => ⟨S_, .f32⟩
  | .hbm, ⟨98, _⟩ => ⟨S32x256, .f32⟩
  | .hbm, ⟨99, _⟩ => ⟨S32x256x1, .f32⟩
  | .hbm, ⟨100, _⟩ => ⟨S_, .f32⟩
  | .hbm, ⟨101, _⟩ => ⟨S32x256x1, .f32⟩
  | .hbm, ⟨102, _⟩ => ⟨S32x256x1, .f32⟩
  | .hbm, ⟨103, _⟩ => ⟨S_, .f32⟩
  | .hbm, ⟨104, _⟩ => ⟨S32x256x1, .f32⟩
  | .hbm, ⟨105, _⟩ => ⟨S32x256x1, .f32⟩
  | .hbm, ⟨106, _⟩ => ⟨S32x256x1, .f32⟩
  | .hbm, ⟨107, _⟩ => ⟨S32x256x1024, .f32⟩
  | .hbm, ⟨108, _⟩ => ⟨S32x256x1024, .f32⟩
  | .hbm, ⟨109, _⟩ => ⟨S1x1x1024, .f32⟩
  | .hbm, ⟨110, _⟩ => ⟨S32x256x1024, .f32⟩
  | .hbm, ⟨111, _⟩ => ⟨S32x256x1024, .f32⟩
  | .hbm, ⟨112, _⟩ => ⟨S1x1x1024, .f32⟩
  | .hbm, ⟨113, _⟩ => ⟨S32x256x1024, .f32⟩
  | .hbm, ⟨114, _⟩ => ⟨S32x256x1024, .f32⟩
  | .hbm, ⟨115, _⟩ => ⟨S32x256x1024, .f32⟩
  | .hbm, ⟨116, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_cst_8 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Proof.Attn.Softmax.lean ====
module

public import Idealize.ShloMosaic.PureOps
public import Idealize.ShloMosaic.Lib.Pointwise

/-!
The softmax of one row of real scores, applied to a column of values, over the extended reals.

`blocked` is the kernel's way of writing it.  The keys come in two blocks, the scores carry the
factor `1 / log 2`, the weights are powers of two, and the division is by the sum of both blocks'
weights, taken once at the end.  `plain` is the textbook way: one list of keys, weights
`exp (x - max x)`, each weight divided by the sum of all.  `blocked_eq_plain` is their equality for
real scores; the values are arbitrary extended reals.
-/

@[expose] public section

noncomputable section

namespace Cert.Attention

open Idealize.ShloMosaic

variable {a b : ℕ}

/-- The greatest entry of a finite family, `⊥` if it is empty. -/
def peak {n : ℕ} (x : Fin n → EReal) : EReal := Finset.fold max ⊥ x Finset.univ

/-- The two blocks' value row, in the kernel's order of operations. -/
def blocked (s : Fin a → EReal) (t : Fin b → EReal) (v : Fin a → EReal) (w : Fin b → EReal) : EReal :=
  Ideal.div
    (∑ i, v i * Ideal.exp2 (s i - max (peak s) (peak t)) + ∑ i, w i * Ideal.exp2 (t i - max (peak s) (peak t)))
    (∑ i, Ideal.exp2 (s i - max (peak s) (peak t)) + ∑ i, Ideal.exp2 (t i - max (peak s) (peak t)))

/-- The value row as the softmax defines it. -/
def plain {n : ℕ} (x : Fin n → EReal) (u : Fin n → EReal) : EReal :=
  ∑ i, u i * Ideal.div (Ideal.exp (x i - peak x)) (∑ j, Ideal.exp (x j - peak x))

theorem peak_eq_sup {n : ℕ} (x : Fin n → EReal) : peak x = Finset.univ.sup x := rfl

/-- A positive factor comes out of the greatest entry. -/
theorem peak_scale {n : ℕ} (L : ℝ) (hL : 0 < L) (x : Fin n → EReal) :
    peak (fun i => (L : EReal) * x i) = (L : EReal) * peak x := by
  have hm : Monotone fun z : EReal => (L : EReal) * z :=
    fun y z h => mul_le_mul_of_nonneg_left h (EReal.coe_nonneg.2 hL.le)
  have h := Finset.fold_hom (op := max) (op' := max) (s := (Finset.univ : Finset (Fin n))) (b := (⊥ : EReal))
    (f := x) (m := fun z : EReal => (L : EReal) * z) (fun y z => hm.map_max)
  rw [EReal.coe_mul_bot_of_pos hL] at h
  exact h

/-- The greatest entry of a list cut into two. -/
theorem peak_append (x : Fin (a + b) → EReal) :
    peak x = max (peak fun i => x (Fin.castAdd b i)) (peak fun i => x (Fin.natAdd a i)) := by
  simp only [peak_eq_sup]
  apply le_antisymm
  · refine Finset.sup_le fun i _ => ?_
    refine Fin.addCases (fun j => ?_) (fun j => ?_) i
    · exact le_max_of_le_left (Finset.le_sup (f := fun i => x (Fin.castAdd b i)) (Finset.mem_univ j))
    · exact le_max_of_le_right (Finset.le_sup (f := fun i => x (Fin.natAdd a i)) (Finset.mem_univ j))
  · refine max_le (Finset.sup_le fun j _ => ?_) (Finset.sup_le fun j _ => ?_)
    · exact Finset.le_sup (f := x) (Finset.mem_univ _)
    · exact Finset.le_sup (f := x) (Finset.mem_univ _)

/-- The greatest of finitely many, and at least one, real numbers is one of them. -/
theorem peak_real {n : ℕ} (f : Fin n → ℝ) (h : 0 < n) : ∃ μ : ℝ, peak (fun i => (f i : EReal)) = (μ : EReal) := by
  obtain ⟨i, _, hi⟩ := Finset.exists_mem_eq_sup (Finset.univ : Finset (Fin n)) ⟨⟨0, h⟩, Finset.mem_univ _⟩
    (fun i => (f i : EReal))
  exact ⟨f i, hi⟩

/-- A power of two whose exponent carries `1 / log 2` is a power of `e`. -/
theorem exp2_scaled (r μ : ℝ) :
    Ideal.exp2 (((1 / Real.log 2 : ℝ) : EReal) * (r : EReal) - ((1 / Real.log 2 : ℝ) : EReal) * (μ : EReal))
      = ((Real.exp (r - μ) : ℝ) : EReal) := by
  have h2 : Real.log 2 ≠ 0 := (Real.log_pos one_lt_two).ne'
  rw [← EReal.coe_mul, ← EReal.coe_mul, ← EReal.coe_sub, Ideal.exp2_coe]
  congr 1
  change (2 : ℝ) ^ (_ : ℝ) = _
  rw [Real.rpow_def_of_pos two_pos]
  congr 1
  field_simp

/-- A sum of reals, in the extended reals. -/
theorem sum_coe {n : ℕ} (f : Fin n → ℝ) : ∑ i, (f i : EReal) = ((∑ i, f i : ℝ) : EReal) :=
  (map_sum (⟨⟨Real.toEReal, EReal.coe_zero⟩, EReal.coe_add⟩ : ℝ →+ EReal) f Finset.univ).symm

/-- A nonnegative real factor goes into a sum of arbitrary extended reals. -/
theorem sum_mul_coe {n : ℕ} (f : Fin n → EReal) (r : ℝ) (hr : 0 ≤ r) :
    (∑ i, f i) * (r : EReal) = ∑ i, f i * (r : EReal) := by
  induction n with
  | zero => simp
  | succ n ih =>
    rw [Fin.sum_univ_succ, Fin.sum_univ_succ,
      EReal.right_distrib_of_nonneg_of_ne_top (EReal.coe_nonneg.2 hr) (EReal.coe_ne_top r), ih]

theorem blocked_eq_plain (x : Fin (a + b) → ℝ) (u : Fin (a + b) → EReal) (h : 0 < a + b) :
    blocked (fun i : Fin a => ((1 / Real.log 2 : ℝ) : EReal) * (x (Fin.castAdd b i) : EReal))
        (fun i : Fin b => ((1 / Real.log 2 : ℝ) : EReal) * (x (Fin.natAdd a i) : EReal))
        (fun i => u (Fin.castAdd b i)) (fun i => u (Fin.natAdd a i))
      = plain (fun i => (x i : EReal)) u := by
  have hL : (0 : ℝ) < 1 / Real.log 2 := one_div_pos.2 (Real.log_pos one_lt_two)
  obtain ⟨μ, hμ⟩ := peak_real x h
  have hM : max (peak fun i : Fin a => ((1 / Real.log 2 : ℝ) : EReal) * (x (Fin.castAdd b i) : EReal))
      (peak fun i : Fin b => ((1 / Real.log 2 : ℝ) : EReal) * (x (Fin.natAdd a i) : EReal))
      = ((1 / Real.log 2 : ℝ) : EReal) * (μ : EReal) := by
    rw [← hμ, ← peak_scale _ hL, peak_append]
  have hD : 0 < ∑ i, Real.exp (x i - μ) :=
    Finset.sum_pos (fun i _ => Real.exp_pos _) ⟨⟨0, h⟩, Finset.mem_univ _⟩
  have hsum : (∑ i : Fin a, ((Real.exp (x (Fin.castAdd b i) - μ) : ℝ) : EReal))
      + ∑ i : Fin b, ((Real.exp (x (Fin.natAdd a i) - μ) : ℝ) : EReal)
      = ((∑ i, Real.exp (x i - μ) : ℝ) : EReal) := by
    rw [← sum_coe, Fin.sum_univ_add]
  unfold blocked plain
  rw [hM, hμ]
  simp only [exp2_scaled, ← EReal.coe_sub, Ideal.exp_coe]
  rw [hsum, sum_coe, Ideal.div_coe hD.ne',
    ← Fin.sum_univ_add (fun i => u i * ((Real.exp (x i - μ) : ℝ) : EReal)),
    sum_mul_coe _ _ (one_div_nonneg.2 hD.le)]
  exact Finset.sum_congr rfl fun i _ => by rw [Ideal.div_coe hD.ne', mul_assoc]

end Cert.Attention
-- ==== Proof.Attn.HeadDef.lean ====
module

public import proofs.«01_k».proof.Proof.Gen.AttnIdeal.Frame
public import proofs.«01_k».proof.Proof.Attn.Softmax
public import Idealize.ShloMosaic.Lib.Pointwise
public import Idealize.ShloMosaic.Lib.Claim
public import Idealize.ShloMosaic.Lib.Pipeline.ValueKit

/-!
One head of the attention kernel, in the kernel's own operations: the scores, the greatest score of
each query, the weights, and the value rows divided by the sum of the weights.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

/-- The queries with their scale. -/
abbrev scaled (q : Vec Ideal S1024x128 .bf16) : FVec Ideal S1024x128 .bf16 := k0_pay2 q

/-- The scores of the call's own keys, a row per key and a column per query. -/
abbrev ownScores (q : Vec Ideal S1024x128 .bf16) (k : Vec Ideal S2048x128 .bf16) : FVec Ideal S2048x1024 .f32 :=
  k0_pay3 q k

/-- The scores of the cached keys. -/
abbrev pastScores (q : Vec Ideal S1024x128 .bf16) (k : Vec Ideal S1x256x128 .bf16) : FVec Ideal S256x1024 .f32 :=
  k0_pay4 q k

/-- The greatest score of each query, over both blocks of keys. -/
def rowMax (s : FVec Ideal S2048x1024 .f32) (t : FVec Ideal S256x1024 .f32) : FVec Ideal S1x1024 .f32 :=
  maximumf
    (shapeCast S1x1024 (multiReduction .maximumf [0] S1024 s 0xFF800000#32 reduces_S2048x1024_S1024 (.inl rfl) rfl)
      shapeCasts_S1024_S1x1024)
    (shapeCast S1x1024 (multiReduction .maximumf [0] S1024 t 0xFF800000#32 reduces_S256x1024_S1024 (.inl rfl) rfl)
      shapeCasts_S1024_S1x1024)

/-- The weights of the call's own keys. -/
def ownWeights (s : FVec Ideal S2048x1024 .f32) (a : FVec Ideal S1x1024 .f32) : FVec Ideal S2048x1024 .bf16 :=
  truncf .bf16 (exp2 (subf s (broadcastTo S2048x1024 a broadcasts_S1x1024_S2048x1024))) bitsLt_bf16_f32

/-- The weights of the cached keys. -/
def pastWeights (t : FVec Ideal S256x1024 .f32) (a : FVec Ideal S1x1024 .f32) : FVec Ideal S256x1024 .bf16 :=
  truncf .bf16 (exp2 (subf t (broadcastTo S256x1024 a broadcasts_S1x1024_S256x1024))) bitsLt_bf16_f32

/-- The weighted values of both blocks, with sixteen rows of ones below the values. -/
def weighted (p : FVec Ideal S2048x1024 .bf16) (r : FVec Ideal S256x1024 .bf16)
    (v : Vec Ideal S64x2048 .bf16) (w : Vec Ideal S1x64x256 .bf16) : FVec Ideal S80x1024 .f32 :=
  addf
    (addf (broadcast S80x1024 (Scalar.ofBits .f32 0x00000000#32 : Ideal .f32))
      (matmul dot_S80x2048_S2048x1024_S80x1024_1_0_0_1_n_n none
        (concatenate S80x2048 0
          [⟨S64x2048, shapeCast S64x2048 v shapeCasts_S64x2048_S64x2048⟩,
            ⟨S16x2048, broadcast S16x2048 (Scalar.ofBits .bf16 0x3F80#16 : Ideal .bf16)⟩]
          concatenates_S64x2048_S16x2048_S80x2048_d0)
        p (constant S80x1024 .f32 0x00000000#32)))
    (matmul dot_S80x256_S256x1024_S80x1024_1_0_0_1_n_n none
      (concatenate S80x256 0
        [⟨S64x256, shapeCast S64x256 w shapeCasts_S1x64x256_S64x256⟩,
          ⟨S16x256, broadcast S16x256 (Scalar.ofBits .bf16 0x3F80#16 : Ideal .bf16)⟩]
        concatenates_S64x256_S16x256_S80x256_d0)
      r (constant S80x1024 .f32 0x00000000#32))

/-- The value rows over the row of sums. -/
def divided (o : FVec Ideal S80x1024 .f32) : FVec Ideal S64x1024 .f32 :=
  divf (extractStridedSlice S64x1024 ![0, 0] o slices_S80x1024_o0_0_S64x1024)
    (broadcastTo S64x1024 (extractStridedSlice S1x1024 ![64, 0] o slices_S80x1024_o64_0_S1x1024)
      broadcasts_S1x1024_S64x1024)

/-- A head's output, from its scores and its values. -/
def headOf (s : FVec Ideal S2048x1024 .f32) (t : FVec Ideal S256x1024 .f32)
    (v : Vec Ideal S64x2048 .bf16) (w : Vec Ideal S1x64x256 .bf16) : FVec Ideal S64x1024 .f32 :=
  divided (weighted (ownWeights s (rowMax s t)) (pastWeights t (rowMax s t)) v w)

/-- Two heads side by side, a row per query. -/
def pairOf (a b : FVec Ideal S64x1024 .f32) : FVec Ideal S1024x128 .bf16 := k0_pay31 a b

/-- The second head of the first pair is printed whole. -/
theorem head_eq (s : FVec Ideal S2048x1024 .f32) (t : FVec Ideal S256x1024 .f32)
    (v : Vec Ideal S64x2048 .bf16) (w : Vec Ideal S1x64x256 .bf16) : k0_pay13 s t v w = headOf s t v w := rfl

/-- The first head's maximum over its own keys is printed apart. -/
theorem head_eq_first (q : Vec Ideal S1024x128 .bf16) (k : Vec Ideal S2048x128 .bf16) (t : FVec Ideal S256x1024 .f32)
    (v : Vec Ideal S64x2048 .bf16) (w : Vec Ideal S1x64x256 .bf16) :
    k0_pay9 (ownScores q k) t (k0_pay8 q k) v w = headOf (ownScores q k) t v w := rfl

/-- The last pair's second head is printed with the pair. -/
theorem head_eq_last (q : FVec Ideal S1024x128 .bf16) (k : FVec Ideal S2048x128 .bf16) (c : Vec Ideal S1x256x128 .bf16)
    (a : FVec Ideal S64x1024 .f32) (v : Vec Ideal S64x2048 .bf16) (w : Vec Ideal S1x64x256 .bf16) :
    k0_pay33 (k0_pay26 q k) (k0_pay27 q c) a (k0_pay29 q k) (k0_pay30 q c) v w
      = pairOf a (headOf (k0_pay26 q k) (k0_pay27 q c) v w) := rfl

end Cert.Attention
-- ==== Proof.Attn.Peak.lean ====
module

public import proofs.«01_k».proof.Proof.Attn.Softmax
public import Idealize.ShloMosaic.Lib.Pointwise
public import Idealize.ShloMosaic.Lib.Claim
public import Idealize.ShloMosaic.Lib.Pipeline.ValueKit

/-!
A maximum taken over one axis, from minus infinity, is the greatest entry along that axis: the
kernel's reduction over the rows of a matrix and the reference's over the last axis of a tensor,
both at any extents.
-/

@[expose] public section

noncomputable section

namespace Cert.Attention

open Idealize.ShloMosaic Idealize.ShloMosaic.TcCoe Idealize.SL.Sem

theorem ofBits_negInf : Ideal.ofBits .f32 0xFF800000#32 = ⊥ := by simp [Ideal.ofBits, Ideal.ieee, -EReal.coe_mul]

/-- The kernel's maximum over the rows, at column `i`. -/
theorem columnPeak {n p : ℕ} (x : FVec Ideal ⟨2, ![n, p]⟩ .f32)
    (h : (⟨2, ![n, p]⟩ : Shape).Reduces [0] ⟨1, ![p]⟩) (hφ : FKind.Formats .f32)
    (hacc : (0xFF800000#32 : BitVec 32) = FKind.maximumf.neutral .f32 hφ) (i : Fin p) :
    multiReduction .maximumf [0] ⟨1, ![p]⟩ x 0xFF800000#32 h hφ hacc (ix1 i) = peak fun k => x (ix2 k i) := by
  pointwise
  rw [ofBits_negInf]
  rfl

/-- The reference's maximum over the last of five axes. -/
theorem lastPeak {n₀ n₁ n₂ n₃ n₄ : ℕ} (x : FVec Ideal ⟨5, ![n₀, n₁, n₂, n₃, n₄]⟩ .f32)
    (h : (⟨5, ![n₀, n₁, n₂, n₃, n₄]⟩ : Shape).ReducesTo [4] ⟨4, ![n₀, n₁, n₂, n₃]⟩)
    (hu : 0 < (⟨0, ![]⟩ : Shape).numel) (i₀ : Fin n₀) (i₁ : Fin n₁) (i₂ : Fin n₂) (i₃ : Fin n₃) :
    Host.reduce (FloatOps.maximumf (F := Ideal) (φ := .f32)) x (constant (F := Ideal) ⟨0, ![]⟩ .f32 0xFF800000#32) h hu (ix4 i₀ i₁ i₂ i₃)
      = peak fun k => x (ix5 i₀ i₁ i₂ i₃ k) := by
  pointwise
  rw [ofBits_negInf]
  rfl

end Cert.Attention
-- ==== Proof.Attn.Head.lean ====
module

public import proofs.«01_k».proof.Proof.Gen.AttnIdeal.Frame
public import proofs.«01_k».proof.Proof.Attn.HeadDef
public import proofs.«01_k».proof.Proof.Attn.Peak
public import Idealize.ShloMosaic.Lib.Pointwise
public import Idealize.ShloMosaic.Lib.Claim
public import Idealize.ShloMosaic.Lib.Pipeline.ValueKit

/-!
The parts of one head of the attention kernel, an entry at a time.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

/-- A maximum of two rows, from what each holds. -/
theorem maxOf (s t : FVec Ideal S1x1024 .f32) (i : Fin 1024) (a b : EReal) (h : s (ix2 0 i) = a)
    (h' : t (ix2 0 i) = b) : maximumf s t (ix2 0 i) = max a b :=
  (ValueIdx.maximumf_apply _ _ _).trans (congrArg₂ max h h')

theorem castRow (x : FVec Ideal S1024 .f32) (i : Fin 1024) :
    shapeCast S1x1024 x shapeCasts_S1024_S1x1024 (ix2 0 i) = x (ix1 i) := by
  pointwise

theorem rowMax_at (s : FVec Ideal S2048x1024 .f32) (t : FVec Ideal S256x1024 .f32) (i : Fin 1024) :
    rowMax s t (ix2 0 i) = max (peak fun n => s (ix2 n i)) (peak fun n => t (ix2 n i)) := by
  unfold rowMax
  exact maxOf _ _ i _ _ ((castRow _ i).trans (columnPeak s _ _ _ i)) ((castRow _ i).trans (columnPeak t _ _ _ i))

theorem ownWeights_at (s : FVec Ideal S2048x1024 .f32) (a : FVec Ideal S1x1024 .f32) (n : Fin 2048) (i : Fin 1024) :
    ownWeights s a (ix2 n i) = Ideal.exp2 (s (ix2 n i) - a (ix2 0 i)) := by
  pointwise [ownWeights]
  rfl
theorem pastWeights_at (s : FVec Ideal S256x1024 .f32) (a : FVec Ideal S1x1024 .f32) (n : Fin 256) (i : Fin 1024) :
    pastWeights s a (ix2 n i) = Ideal.exp2 (s (ix2 n i) - a (ix2 0 i)) := by
  pointwise [pastWeights]
  rfl

theorem weighted_at (p : FVec Ideal S2048x1024 .bf16) (r : FVec Ideal S256x1024 .bf16)
    (v : Vec Ideal S64x2048 .bf16) (w : Vec Ideal S1x64x256 .bf16) (d : Fin 64) (i : Fin 1024) :
    weighted p r v w (ix2 ⟨d, by omega⟩ i) = ∑ n, v (ix2 d n) * p (ix2 n i) + ∑ n, w (ix3 0 d n) * r (ix2 n i) := by
  pointwise [weighted]
theorem weighted_ones (p : FVec Ideal S2048x1024 .bf16) (r : FVec Ideal S256x1024 .bf16)
    (v : Vec Ideal S64x2048 .bf16) (w : Vec Ideal S1x64x256 .bf16) (i : Fin 1024) :
    weighted p r v w (ix2 64 i) = ∑ n, p (ix2 n i) + ∑ n, r (ix2 n i) := by
  pointwise [weighted]
theorem divided_at (o : FVec Ideal S80x1024 .f32) (d : Fin 64) (i : Fin 1024) :
    divided o (ix2 d i) = Ideal.div (o (ix2 ⟨d, by omega⟩ i)) (o (ix2 64 i)) := by
  pointwise [divided]

/-- The kernel's scale, `1 / 8` and a logarithm's base. -/
def scale : EReal := (Named.named (F := Ideal) (φ := .f32) κ "qk_log2e" 0x3E38AA3B#32)

theorem scale_eq : scale = ((8⁻¹ * (Real.log 2)⁻¹ : ℝ) : EReal) := by
  rfl

theorem own_at (q : Vec Ideal S1024x128 .bf16) (k : Vec Ideal S2048x128 .bf16) (n : Fin 2048) (i : Fin 1024) :
    ownScores q k (ix2 n i) = ∑ l, k (ix2 n l) * (q (ix2 i l) * scale) := by
  pointwise [ownScores, k0_pay3, k0_pay2]
  rfl
theorem past_at (q : Vec Ideal S1024x128 .bf16) (k : Vec Ideal S1x256x128 .bf16) (n : Fin 256) (i : Fin 1024) :
    pastScores q k (ix2 n i) = ∑ l, k (ix3 0 n l) * (q (ix2 i l) * scale) := by
  pointwise [pastScores, k0_pay4, k0_pay2]
  rfl

/-- One entry of a head's output. -/
theorem headOf_at (s : FVec Ideal S2048x1024 .f32) (t : FVec Ideal S256x1024 .f32)
    (v : Vec Ideal S64x2048 .bf16) (w : Vec Ideal S1x64x256 .bf16) (d : Fin 64) (i : Fin 1024) :
    headOf s t v w (ix2 d i)
      = blocked (fun n => s (ix2 n i)) (fun n => t (ix2 n i)) (fun n => v (ix2 d n)) (fun n => w (ix3 0 d n)) := by
  unfold headOf
  rw [divided_at, weighted_at, weighted_ones]
  simp only [ownWeights_at, pastWeights_at, rowMax_at]
  rfl

/-- Two heads side by side: the first in columns `0` to `63`. -/
theorem pairOf_at (a b : FVec Ideal S64x1024 .f32) (r : Fin 1024) (c : Fin 128) :
    pairOf a b (ix2 r c) = if h : (c : ℕ) < 64 then a (ix2 ⟨c, h⟩ r) else b (ix2 ⟨c - 64, by omega⟩ r) := by
  pointwise [pairOf, k0_pay31]

end Cert.Attention
-- ==== Proof.Attn.Block.lean ====
module

public import proofs.«01_k».proof.Proof.Gen.AttnIdeal.Frame
public import proofs.«01_k».proof.Proof.Attn.Head
public import Idealize.ShloMosaic.Lib.Pointwise
public import Idealize.ShloMosaic.Lib.Claim
public import Idealize.ShloMosaic.Lib.Pipeline.ValueKit

/-!
The attention kernel's output block, read at one entry: each of the three stores holds two heads, and
every head is the same function of its slice of the queries and its half of the values.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

/-- One head, from the blocks it loads. -/
abbrev headBlock (q : Vec Ideal S1024x128 .bf16) (k : Vec Ideal S2048x128 .bf16) (ck : Vec Ideal S1x256x128 .bf16)
    (v : Vec Ideal S64x2048 .bf16) (w : Vec Ideal S1x64x256 .bf16) : FVec Ideal S64x1024 .f32 :=
  headOf (ownScores q k) (pastScores q ck) v w

theorem headBlock_at (q : Vec Ideal S1024x128 .bf16) (k : Vec Ideal S2048x128 .bf16) (ck : Vec Ideal S1x256x128 .bf16)
    (v : Vec Ideal S64x2048 .bf16) (w : Vec Ideal S1x64x256 .bf16) (d : Fin 64) (i : Fin 1024) :
    headBlock q k ck v w (ix2 d i)
      = blocked (fun n => ∑ l, k (ix2 n l) * (q (ix2 i l) * scale)) (fun n => ∑ l, ck (ix3 0 n l) * (q (ix2 i l) * scale))
          (fun n => v (ix2 d n)) (fun n => w (ix3 0 d n)) := by
  refine (headOf_at _ _ _ _ d i).trans ?_
  simp only [own_at, past_at]

section
variable (q q' : Vec Ideal S1024x128 .bf16) (k : Vec Ideal S2048x128 .bf16) (ck : Vec Ideal S1x256x128 .bf16)
  (v : Vec Ideal S64x2048 .bf16) (w : Vec Ideal S1x64x256 .bf16)

theorem own_last : k0_pay26 (k0_pay25 q) k = ownScores q k := rfl
theorem past_last : k0_pay27 (k0_pay25 q) ck = pastScores q ck := rfl
theorem own_second : k0_pay6 q k = ownScores q k := rfl
theorem past_second : k0_pay7 q ck = pastScores q ck := rfl
theorem own_third : k0_pay11 q k = ownScores q k := rfl
theorem past_third : k0_pay12 q ck = pastScores q ck := rfl
theorem own_fourth : k0_pay17 (k0_pay14 q) (k0_pay15 k) = ownScores q k := rfl
theorem past_fourth : k0_pay18 (k0_pay14 q) (k0_pay16 ck) = pastScores q ck := rfl
theorem own_fifth : k0_pay22 (k0_pay20 q) (k0_pay21 k) = ownScores q k := rfl
theorem past_fifth : k0_pay23 (k0_pay20 q) ck = pastScores q ck := rfl
end

section
variable (s : FVec Ideal S2048x1024 .f32) (t : FVec Ideal S256x1024 .f32)
    (v : Vec Ideal S64x2048 .bf16) (w : Vec Ideal S1x64x256 .bf16)
theorem head_third : k0_pay19 s t v w = headOf s t v w := rfl
theorem head_fourth : k0_pay24 s t v w = headOf s t v w := rfl
theorem head_fifth : k0_pay28 s t v w = headOf s t v w := rfl
end

theorem pair_second (a b : FVec Ideal S64x1024 .f32) : k0_pay32 a b = pairOf a b := rfl
theorem pair_first (a b : FVec Ideal S64x1024 .f32) : k0_pay31 a b = pairOf a b := rfl

/-- The block's entry at row `i` and column `c`: head `c / 64`, feature `c % 64`. -/
def entry (x0 : Vec Ideal S1024x768 .bf16) (x1 : Vec Ideal S2048x128 .bf16) (x2 : Vec Ideal S128x2048 .bf16)
    (x3 : Vec Ideal S1x256x128 .bf16) (x4 : Vec Ideal S1x128x256 .bf16) (i : Fin 1024) (c : Fin 384) : EReal :=
  blocked (fun n => ∑ l : Fin 128, x1 (ix2 n l) * (x0 (ix2 i ⟨c / 64 * 128 + l, by omega⟩) * scale))
    (fun n => ∑ l : Fin 128, x3 (ix3 0 n l) * (x0 (ix2 i ⟨c / 64 * 128 + l, by omega⟩) * scale))
    (fun n => x2 (ix2 ⟨c / 192 * 64 + c % 64, by omega⟩ n)) (fun n => x4 (ix3 0 ⟨c / 192 * 64 + c % 64, by omega⟩ n))

section
variable (x0 : Vec Ideal S1024x768 .bf16) (x1 : Vec Ideal S2048x128 .bf16) (x2 : Vec Ideal S128x2048 .bf16)
  (x3 : Vec Ideal S1x256x128 .bf16) (x4 : Vec Ideal S1x128x256 .bf16) (x5 : Vec Ideal S1x128x5632 .f32)

/-- A head of the block, whichever lanes of the queries and rows of the values it loads. -/
theorem head_entry (q : Vec Ideal S1024x128 .bf16) (v : Vec Ideal S64x2048 .bf16) (w : Vec Ideal S1x64x256 .bf16)
    (k : Vec Ideal S2048x128 .bf16) (ck : Vec Ideal S1x256x128 .bf16) (d : Fin 64) (i : Fin 1024) (c : Fin 384)
    (hq : ∀ l : Fin 128, q (ix2 i l) = x0 (ix2 i ⟨c / 64 * 128 + l, by omega⟩))
    (hk : ∀ (n : Fin 2048) (l : Fin 128), k (ix2 n l) = x1 (ix2 n l))
    (hck : ∀ (n : Fin 256) (l : Fin 128), ck (ix3 0 n l) = x3 (ix3 0 n l))
    (hv : ∀ n : Fin 2048, v (ix2 d n) = x2 (ix2 ⟨c / 192 * 64 + c % 64, by omega⟩ n))
    (hw : ∀ n : Fin 256, w (ix3 0 d n) = x4 (ix3 0 ⟨c / 192 * 64 + c % 64, by omega⟩ n)) :
    headBlock q k ck v w (ix2 d i) = entry x0 x1 x2 x3 x4 i c := by
  refine (headBlock_at q k ck v w d i).trans ?_
  unfold entry
  simp only [hq, hk, hck, hv, hw]

/-- Two heads stored side by side from column `o`. -/
theorem pair_entry (q q' : Vec Ideal S1024x128 .bf16) (v v' : Vec Ideal S64x2048 .bf16) (w w' : Vec Ideal S1x64x256 .bf16)
    (k : Vec Ideal S2048x128 .bf16) (ck : Vec Ideal S1x256x128 .bf16) (a i : Fin 1024) (b : Fin 128) (c : Fin 384)
    (o e e' : ℕ) (ha : (i : ℕ) = a) (hb : (c : ℕ) = o + b) (ho : o % 128 = 0) (ho' : o ≤ 256)
    (hq : ∀ (i : Fin 1024) (l : Fin 128), q (ix2 i l) = x0 (ix2 i ⟨o * 2 + l, by omega⟩))
    (hq' : ∀ (i : Fin 1024) (l : Fin 128), q' (ix2 i l) = x0 (ix2 i ⟨o * 2 + 128 + l, by omega⟩))
    (hk : ∀ (n : Fin 2048) (l : Fin 128), k (ix2 n l) = x1 (ix2 n l))
    (hck : ∀ (n : Fin 256) (l : Fin 128), ck (ix3 0 n l) = x3 (ix3 0 n l))
    (he : e = o / 192 * 64) (he' : e' = (o + 64) / 192 * 64)
    (hv : ∀ (d : Fin 64) (n : Fin 2048), v (ix2 d n) = x2 (ix2 ⟨e + d, by omega⟩ n))
    (hv' : ∀ (d : Fin 64) (n : Fin 2048), v' (ix2 d n) = x2 (ix2 ⟨e' + d, by omega⟩ n))
    (hw : ∀ (d : Fin 64) (n : Fin 256), w (ix3 0 d n) = x4 (ix3 0 ⟨e + d, by omega⟩ n))
    (hw' : ∀ (d : Fin 64) (n : Fin 256), w' (ix3 0 d n) = x4 (ix3 0 ⟨e' + d, by omega⟩ n)) :
    pairOf (headBlock q k ck v w) (headBlock q' k ck v' w') (ix2 a b) = entry x0 x1 x2 x3 x4 i c := by
  obtain rfl : a = i := Fin.ext ha.symm
  rw [pairOf_at]
  split
  · refine head_entry x0 x1 x2 x3 x4 q v w k ck _ a c (fun l => ?_) hk hck (fun n => ?_) (fun n => ?_)
    · rw [hq]; congr 2; ext; simp only []; omega
    · rw [hv]; congr 2; ext; simp only []; omega
    · rw [hw]; congr 2; ext; simp only []; omega
  · refine head_entry x0 x1 x2 x3 x4 q' v' w' k ck _ a c (fun l => ?_) hk hck (fun n => ?_) (fun n => ?_)
    · rw [hq']; congr 2; ext; simp only []; omega
    · rw [hv']; congr 2; ext; simp only []; omega
    · rw [hw']; congr 2; ext; simp only []; omega

theorem block_at (i : Fin 1024) (c : Fin 384) : out0_6 x0 x1 x2 x3 x4 x5 (ix2 i c) = entry x0 x1 x2 x3 x4 i c := by
  unfold_out out0_6
  rw [head_eq_last, own_last, past_last, own_fifth, past_fifth, head_fifth, pair_second, head_third, own_third, past_third,
    head_fourth, own_fourth, past_fourth, pair_first, head_eq_first, head_eq, own_second, past_second]
  canon_tiles y h
  case piece0 =>
    idx_vars y
    exact pair_entry x0 x1 x2 x3 x4 (View.ld x0 r0_10) (View.ld x0 r0_13) (View.ld x2 r0_11) (View.ld x2 r0_11)
      (View.ld x4 r0_12) (View.ld x4 r0_12) (View.ld x1 r0_3) (View.ld x3 r0_4) y0 i y1 c 256 64 64 (by omega) (by omega)
      (by norm_num) (by norm_num) (by intros; pointwise) (by intros; pointwise) (by intros; pointwise) (by intros; pointwise) (by norm_num) (by norm_num)
      (by intros; pointwise) (by intros; pointwise) (by intros; pointwise) (by intros; pointwise)
  case piece1 =>
    idx_vars y
    exact pair_entry x0 x1 x2 x3 x4 (View.ld x0 r0_8) (View.ld x0 r0_9) (View.ld x2 r0_6) (View.ld x2 r0_11)
      (View.ld x4 r0_7) (View.ld x4 r0_12) (View.ld x1 r0_3) (View.ld x3 r0_4) y0 i y1 c 128 0 64 (by omega) (by omega)
      (by norm_num) (by norm_num) (by intros; pointwise) (by intros; pointwise) (by intros; pointwise) (by intros; pointwise) (by norm_num) (by norm_num)
      (by intros; pointwise) (by intros; pointwise) (by intros; pointwise) (by intros; pointwise)
  case piece2 =>
    idx_vars y
    exact pair_entry x0 x1 x2 x3 x4 (View.ld x0 r0_2) (View.ld x0 r0_5) (View.ld x2 r0_6) (View.ld x2 r0_6)
      (View.ld x4 r0_7) (View.ld x4 r0_7) (View.ld x1 r0_3) (View.ld x3 r0_4) y0 i y1 c 0 0 0 (by omega) (by omega)
      (by norm_num) (by norm_num) (by intros; pointwise) (by intros; pointwise) (by intros; pointwise) (by intros; pointwise) (by norm_num) (by norm_num)
      (by intros; pointwise) (by intros; pointwise) (by intros; pointwise) (by intros; pointwise)
end

end Cert.Attention
-- ==== Proof.Attn.Operands.lean ====
module

public import proofs.«01_k».proof.Proof.Gen.AttnIdeal.Frame
public import Idealize.ShloMosaic.Lib.Pointwise
public import Idealize.ShloMosaic.Lib.Claim
public import Idealize.ShloMosaic.Lib.Pipeline.ValueKit

/-!
The arrays the host prepares for the attention's call, and the blocks of them that each grid point
reads, in terms of the program's arguments. A head's queries fill one half of its 128 lanes, the half of
its own keys, and zeros fill the other.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- The blocks' positions at every grid point. -/
theorem idx_val : ∀ t : Fin cfg0.N, win0_0.index t = ![(t.val / 2) * 2 + (t.val % 2), 0]
    ∧ win0_1.index t = ![t.val / 2, 0]
    ∧ win0_2.index t = ![0, t.val / 2]
    ∧ win0_3.index t = ![0, t.val / 2, 0]
    ∧ win0_4.index t = ![0, 0, t.val / 2]
    ∧ win0_5.index t = ![1, (t.val / 2) * 2 + (t.val % 2), 0]
    ∧ win0_6.index t = ![(t.val / 2) * 2 + (t.val % 2), 0]
    ∧ win0_7.index t = ![(t.val / 2) * 2 + (t.val % 2), 0] :=
  (by decide +kernel : ∀ t : Fin grid0.N, _)

theorem lt_points (t : Fin cfg0.N) : t.val < 8 := lt_of_lt_of_eq t.isLt N_0

section
variable (c : Dev nD) (t : Fin cfg0.N)

theorem key_block (n : Fin 2048) (l : Fin 128) : iblk m c 1 t (ix2 n l) = (m ((c : Thread nD τ).loc main_arg1)) (ix4 ⟨t.val / 2, by have := lt_points t; omega⟩ n ⟨l / 64, by omega⟩ ⟨l % 64, by omega⟩) := by
  have := lt_points t
  blk_point [iblk, V, idx_val t]

theorem value_block (l : Fin 128) (n : Fin 2048) : iblk m c 2 t (ix2 l n) = (m ((c : Thread nD τ).loc main_arg2)) (ix4 ⟨t.val / 2, by have := lt_points t; omega⟩ n ⟨l / 64, by omega⟩ ⟨l % 64, by omega⟩) := by
  have := lt_points t
  blk_point [iblk, V, idx_val t]

theorem cachedKey_block (n : Fin 256) (l : Fin 128) : iblk m c 3 t (ix3 0 n l) = (m ((c : Thread nD τ).loc main_arg3)) (ix5 ⟨t.val / 2, by have := lt_points t; omega⟩ 0 n ⟨l / 64, by omega⟩ ⟨l % 64, by omega⟩) := by
  have := lt_points t
  blk_point [iblk, V, idx_val t]

theorem cachedValue_block (l : Fin 128) (n : Fin 256) : iblk m c 4 t (ix3 0 l n) = (m ((c : Thread nD τ).loc main_arg4)) (ix5 ⟨t.val / 2, by have := lt_points t; omega⟩ 0 n ⟨l / 64, by omega⟩ ⟨l % 64, by omega⟩) := by
  have := lt_points t
  blk_point [iblk, V, idx_val t]

/-- The prepared queries, where the arrays are joined. -/
theorem query_at (r : Fin 8192) (l : Fin 768) :
    V m c main_v16 (ix2 r l)
      = if h : (l : ℕ) / 128 < 3 then
          (if h' : (l : ℕ) % 128 < 64 then (m ((c : Thread nD τ).loc main_arg0)) (ix4 ⟨r / 2048, by omega⟩ ⟨r % 2048, by omega⟩ ⟨l / 128, by omega⟩ ⟨l % 128, by omega⟩) else (0 : EReal))
        else (if h' : (l : ℕ) % 128 < 64 then (0 : EReal) else (m ((c : Thread nD τ).loc main_arg0)) (ix4 ⟨r / 2048, by omega⟩ ⟨r % 2048, by omega⟩ ⟨3 + (l / 128 - 3), by omega⟩ ⟨l % 128 - 64, by omega⟩)) := by
  entry_read
  pointwise

/-- Lane `l` of head `h` of a query: the head's feature in its own half, zero in the other. -/
theorem query_block (i : Fin 1024) (h : Fin 6) (l : Fin 128) :
    iblk m c 0 t (ix2 i ⟨h * 128 + l, by omega⟩)
      = if l / 64 = (h / 3 : ℕ) then (m ((c : Thread nD τ).loc main_arg0)) (ix4 ⟨t.val / 2, by have := lt_points t; omega⟩ ⟨t.val % 2 * 1024 + i, by omega⟩ h ⟨l % 64, by omega⟩) else (0 : EReal) := by
  have ht := lt_points t
  have e : iblk m c 0 t (ix2 i ⟨h * 128 + l, by omega⟩) = V m c main_v16 (ix2 ⟨t.val * 1024 + i, by omega⟩ ⟨h * 128 + l, by omega⟩) := by
    unfold iblk
    blk_ext [idx_val t]
  rw [e, query_at]
  dsimp only
  split_ifs
  all_goals first | rfl | (exfalso; omega) | blk_ext
end

end Cert.Attention
-- ==== Proof.Attn.Ref.lean ====
module

public import proofs.«01_k».proof.Proof.Gen.AttnRefIdeal
public import proofs.«01_k».proof.Proof.Attn.Softmax
public import Idealize.ShloMosaic.Lib.Pointwise
public import Idealize.ShloMosaic.Lib.Claim
public import Idealize.ShloMosaic.Lib.Pipeline.ValueKit

/-!
The reference of the attention, cut into its three steps, each read at one index: the scores, the
softmax's weights, and the weighted sum of the values.
-/

@[expose] public section

set_option maxRecDepth 16384

noncomputable section

namespace Cert.Attention

open Idealize.ShloMosaic Idealize.ShloMosaic.TcCoe Idealize.SL.Sem
open Cert.AttnRefIdeal Cert.AttnRefIdeal.Gen

/-- The call's own keys (or values), followed by layer 0's part of the context's cache. -/
abbrev joined (k : FVec Ideal S4x2048x2x64 .f32) (c : FVec Ideal S4x4x256x2x64 .f32) : FVec Ideal S4x2304x2x64 .f32 :=
  concatenate S4x2304x2x64 1
    [⟨S4x2048x2x64, k⟩,
      ⟨S4x256x2x64, shapeCast _ (extractStridedSlice S4x1x256x2x64 ![0, 0, 0, 0, 0] c
        slices_S4x4x256x2x64_S4x1x256x2x64_0_0_0_0_0) shapeCasts_S4x1x256x2x64_S4x256x2x64⟩]
    concatenates_S4x2048x2x64_S4x256x2x64_S4x2304x2x64_d1

/-- The scores of every query against every key. -/
abbrev refScores (q : FVec Ideal S4x2048x6x64 .f32) (k : FVec Ideal S4x2304x2x64 .f32) :
    FVec Ideal S4x2x3x2048x2304 .f32 :=
  transpose S4x2x3x2048x2304 [0, 1, 4, 3, 2]
    (Host.dotGeneral dot_S4x2304x2x64_S4x2048x2x3x64_S4x2x2304x2048x3_3_4_1_13_02_02 none k
      (shapeCast S4x2048x2x3x64 (mulf q (broadcastInDim S4x2048x6x64 ![] bcast_S_S4x2048x6x64 (constant S_ .f32 0x3E000000#32)))
        shapeCasts_S4x2048x6x64_S4x2048x2x3x64))
    transposes_S4x2x2304x2048x3_S4x2x3x2048x2304_0_1_4_3_2

/-- The exponentials of the scores less one number per query. -/
abbrev refShift (s : FVec Ideal S4x2x3x2048x2304 .f32) (a : FVec Ideal S4x2x3x2048 .f32) :
    FVec Ideal S4x2x3x2048x2304 .f32 :=
  Host.exp (subf s (broadcastInDim S4x2x3x2048x2304 ![0, 1, 2, 3, 4] bcast_S4x2x3x2048x1_S4x2x3x2048x2304_0_1_2_3_4
    (broadcastInDim S4x2x3x2048x1 ![0, 1, 2, 3] bcast_S4x2x3x2048_S4x2x3x2048x1_0_1_2_3 a)))

/-- The weights before their division by the sum. -/
abbrev refExp (s : FVec Ideal S4x2x3x2048x2304 .f32) : FVec Ideal S4x2x3x2048x2304 .f32 :=
  refShift s (maximumf (broadcastInDim S4x2x3x2048 ![] bcast_S_S4x2x3x2048 (constant S_ .f32 0xFF800000#32))
    (Host.reduce FloatOps.maximumf s (constant S_ .f32 0xFF800000#32) reducesTo_S4x2x3x2048x2304_S4x2x3x2048_d4 h_S_))

/-- The softmax's weights. -/
abbrev refWeights (e : FVec Ideal S4x2x3x2048x2304 .f32) : FVec Ideal S4x2x3x2048x2304 .f32 :=
  Host.divf e (broadcastInDim S4x2x3x2048x2304 ![0, 1, 2, 3, 4] bcast_S4x2x3x2048x1_S4x2x3x2048x2304_0_1_2_3_4
    (broadcastInDim S4x2x3x2048x1 ![0, 1, 2, 3] bcast_S4x2x3x2048_S4x2x3x2048x1_0_1_2_3
      (Host.reduceAdd e (constant S_ .f32 0x00000000#32) reducesTo_S4x2x3x2048x2304_S4x2x3x2048_d4 h_S_)))

/-- The weighted sum of the values, heads side by side in one row per token. -/
abbrev refSum (p : FVec Ideal S4x2x3x2048x2304 .f32) (v : FVec Ideal S4x2304x2x64 .f32) : FVec Ideal S8192x384 .bf16 :=
  truncf .bf16 (shapeCast S8192x384
    (transpose S4x2048x2x3x64 [0, 4, 1, 3, 2]
      (Host.dotGeneral dot_S4x2304x2x64_S4x2x3x2048x2304_S4x2x64x3x2048_1_4_3_23_02_01 none v p)
      transposes_S4x2x64x3x2048_S4x2048x2x3x64_0_4_1_3_2)
    shapeCasts_S4x2048x2x3x64_S8192x384) bitsLt_bf16_f32

/-- The reference's attention. -/
abbrev refAttn (q : FVec Ideal S4x2048x6x64 .f32) (k v : FVec Ideal S4x2048x2x64 .f32)
    (ck cv : FVec Ideal S4x4x256x2x64 .f32) : FVec Ideal S8192x384 .bf16 :=
  refSum (refWeights (refExp (refScores q (joined k ck)))) (joined v cv)

/-- The reference's copy of the next layer's weights. -/
abbrev refCast (w : FVec Ideal S4x1024x5632 .f32) : FVec Ideal S1024x5632 .bf16 :=
  truncf .bf16 (shapeCast S1024x5632 (extractStridedSlice S1x1024x5632 ![1, 0, 0] w
    slices_S4x1024x5632_S1x1024x5632_1_0_0) shapeCasts_S1x1024x5632_S1024x5632) bitsLt_bf16_f32

end Cert.Attention
-- ==== Proof.Attn.RefAt.lean ====
module

public import proofs.«01_k».proof.Proof.Attn.Ref
public import proofs.«01_k».proof.Proof.Attn.Peak
public import Idealize.ShloMosaic.Lib.Pointwise
public import Idealize.ShloMosaic.Lib.Claim
public import Idealize.ShloMosaic.Lib.Pipeline.ValueKit

/-!
The reference's attention, read at one entry: the weighted sum of the softmax's textbook form
(`plain`) over the scores of that entry's query.
-/

@[expose] public section

set_option maxRecDepth 16384

noncomputable section

namespace Cert.Attention

open Idealize.ShloMosaic Idealize.ShloMosaic.TcCoe Idealize.SL.Sem
open Cert.AttnRefIdeal Cert.AttnRefIdeal.Gen

theorem joined_at (k : FVec Ideal S4x2048x2x64 .f32) (c : FVec Ideal S4x4x256x2x64 .f32)
    (b : Fin 4) (x : Fin 2304) (h : Fin 2) (d : Fin 64) :
    joined k c (ix4 b x h d)
      = if hx : (x : ℕ) < 2048 then k (ix4 b ⟨x, hx⟩ h d) else c (ix5 b 0 ⟨x - 2048, by omega⟩ h d) := by
  pointwise [joined]

theorem refScores_at (q : FVec Ideal S4x2048x6x64 .f32) (k : FVec Ideal S4x2304x2x64 .f32)
    (b : Fin 4) (h : Fin 2) (g : Fin 3) (n : Fin 2048) (x : Fin 2304) :
    refScores q k (ix5 b h g n x)
      = ∑ l, k (ix4 b x h l) * (q (ix4 b n ⟨h * 3 + g, by omega⟩ l) * Ideal.ofBits .f32 0x3E000000#32) := by
  pointwise [refScores]

/-- The subtraction of one number per query. -/
theorem refShift_at (s : FVec Ideal S4x2x3x2048x2304 .f32) (a : FVec Ideal S4x2x3x2048 .f32)
    (b : Fin 4) (h : Fin 2) (g : Fin 3) (n : Fin 2048) (x : Fin 2304) :
    refShift s a (ix5 b h g n x) = Ideal.exp (s (ix5 b h g n x) - a (ix4 b h g n)) := by
  pointwise [refShift]

/-- A maximum against minus infinity, from what the other operand holds. -/
theorem maxFrom (a : FVec Ideal S4x2x3x2048 .f32) (b : Fin 4) (h : Fin 2) (g : Fin 3) (n : Fin 2048) (z : EReal)
    (hz : a (ix4 b h g n) = z) :
    maximumf (broadcastInDim S4x2x3x2048 ![] bcast_S_S4x2x3x2048 (constant S_ .f32 0xFF800000#32)) a (ix4 b h g n) = z :=
  (ValueIdx.maximumf_apply _ _ _).trans
    ((congrArg₂ max ((by pointwise) : _ = Ideal.ofBits .f32 0xFF800000#32) hz).trans
      ((congrArg (fun y => max y z) ofBits_negInf).trans (max_bot_left z)))

/-- The subtraction of a known number per query. -/
theorem refShift_of (s : FVec Ideal S4x2x3x2048x2304 .f32) (a : FVec Ideal S4x2x3x2048 .f32)
    (b : Fin 4) (h : Fin 2) (g : Fin 3) (n : Fin 2048) (x : Fin 2304) (z : EReal) (hz : a (ix4 b h g n) = z) :
    refShift s a (ix5 b h g n x) = Ideal.exp (s (ix5 b h g n x) - z) := by
  rw [refShift_at, hz]

/-- The reference subtracts the greatest score. -/
theorem refExp_at (s : FVec Ideal S4x2x3x2048x2304 .f32)
    (b : Fin 4) (h : Fin 2) (g : Fin 3) (n : Fin 2048) (x : Fin 2304) :
    refExp s (ix5 b h g n x) = Ideal.exp (s (ix5 b h g n x) - peak fun x => s (ix5 b h g n x)) :=
  refShift_of s _ b h g n x _ (maxFrom _ b h g n _ (lastPeak s _ _ b h g n))

theorem refWeights_at (e : FVec Ideal S4x2x3x2048x2304 .f32)
    (b : Fin 4) (h : Fin 2) (g : Fin 3) (n : Fin 2048) (x : Fin 2304) :
    refWeights e (ix5 b h g n x) = Ideal.div (e (ix5 b h g n x)) (∑ y, e (ix5 b h g n y)) := by
  pointwise [refWeights]

theorem refSum_at (p : FVec Ideal S4x2x3x2048x2304 .f32) (v : FVec Ideal S4x2304x2x64 .f32)
    (r : Fin 8192) (c : Fin 384) :
    refSum p v (ix2 r c)
      = ∑ x, v (ix4 ⟨r / 2048, by omega⟩ x ⟨c / 192, by omega⟩ ⟨c % 64, by omega⟩)
          * p (ix5 ⟨r / 2048, by omega⟩ ⟨c / 192, by omega⟩ ⟨c / 64 % 3, by omega⟩ ⟨r % 2048, by omega⟩ x) := by
  pointwise [refSum]

/-- One entry of the reference's attention. -/
theorem refAttn_at (q : FVec Ideal S4x2048x6x64 .f32) (k v : FVec Ideal S4x2048x2x64 .f32)
    (ck cv : FVec Ideal S4x4x256x2x64 .f32) (r : Fin 8192) (c : Fin 384) :
    refAttn q k v ck cv (ix2 r c)
      = plain (fun x => refScores q (joined k ck) (ix5 ⟨r / 2048, by omega⟩ ⟨c / 192, by omega⟩ ⟨c / 64 % 3, by omega⟩
            ⟨r % 2048, by omega⟩ x))
          (fun x => joined v cv (ix4 ⟨r / 2048, by omega⟩ x ⟨c / 192, by omega⟩ ⟨c % 64, by omega⟩)) := by
  unfold refAttn
  rw [refSum_at]
  unfold plain
  exact Finset.sum_congr rfl fun x _ => by simp only [refWeights_at, refExp_at]

end Cert.Attention
-- ==== Proof.Attn.Score.lean ====
module

public import proofs.«01_k».proof.Proof.Gen.AttnIdeal.Frame
public import proofs.«01_k».proof.Proof.Attn.Block
public import proofs.«01_k».proof.Proof.Attn.Operands
public import proofs.«01_k».proof.Proof.Attn.RefAt
public import Idealize.ShloMosaic.Lib.Pointwise
public import Idealize.ShloMosaic.Lib.Claim
public import Idealize.ShloMosaic.Lib.Pipeline.ValueKit

/-!
The scores of one query agree: over real queries and keys, the kernel's score of a key is the
reference's divided by `log 2`, and the zeros in the other half of a head's lanes add nothing.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

theorem ofBits_eighth : Ideal.ofBits .f32 0x3E000000#32 = ((8⁻¹ : ℝ) : EReal) := by
  simp [Ideal.ofBits, Ideal.ieee, -EReal.coe_mul]
  norm_num

/-- The reference's score, over reals. -/
theorem score_ref (k q : Fin 64 → ℝ) :
    ∑ l, (k l : EReal) * ((q l : EReal) * Ideal.ofBits .f32 0x3E000000#32) = ((∑ l, k l * (q l * 8⁻¹) : ℝ) : EReal) := by
  rw [ofBits_eighth, ← sum_coe]
  exact Finset.sum_congr rfl fun l _ => by rw [← EReal.coe_mul, ← EReal.coe_mul]

/-- The kernel's score over the half of the lanes that holds the head, over reals. -/
theorem score_half (k q : Fin 64 → ℝ) :
    ∑ l, (k l : EReal) * ((q l : EReal) * scale) = ((1 / Real.log 2 : ℝ) : EReal) * ((∑ l, k l * (q l * 8⁻¹) : ℝ) : EReal) := by
  rw [scale_eq, ← EReal.coe_mul, Finset.mul_sum, ← sum_coe]
  refine Finset.sum_congr rfl fun l _ => ?_
  rw [← EReal.coe_mul, ← EReal.coe_mul]
  congr 1
  ring

/-- The kernel's score over all lanes: the half without the head adds nothing. -/
theorem score_full (k q : Fin 128 → EReal) (k' q' : Fin 64 → ℝ) (h : ℕ) (hh : h < 2)
    (hq : ∀ l : Fin 128, q l = if (l : ℕ) / 64 = h then (q' ⟨l % 64, by omega⟩ : EReal) else 0)
    (hk : ∀ l : Fin 64, k ⟨h * 64 + l, by omega⟩ = (k' l : EReal)) :
    ∑ l, k l * (q l * scale) = ((1 / Real.log 2 : ℝ) : EReal) * ((∑ l, k' l * (q' l * 8⁻¹) : ℝ) : EReal) := by
  rw [← score_half, Fin.sum_univ_two_halves 64 64 rfl]
  obtain rfl | rfl : h = 0 ∨ h = 1 := by omega
  · refine (congrArg₂ (· + ·) (Finset.sum_congr rfl fun l _ => ?_) (Finset.sum_eq_zero fun l _ => ?_)).trans (add_zero _)
    · rw [hq, if_pos (by simp only [] <;> omega)]
      refine congrArg₂ (· * ·) ?_ (congrArg (fun i => (q' i : EReal) * scale) (Fin.ext (by simp only [] <;> omega)))
      exact (congrArg k (Fin.ext (by simp only [] <;> omega))).trans (hk l)
    · rw [hq, if_neg (by simp only [] <;> omega), zero_mul, mul_zero]
  · refine (congrArg₂ (· + ·) (Finset.sum_eq_zero fun l _ => ?_) (Finset.sum_congr rfl fun l _ => ?_)).trans (zero_add _)
    · rw [hq, if_neg (by simp only [] <;> omega), zero_mul, mul_zero]
    · rw [hq, if_pos (by simp only [] <;> omega)]
      refine congrArg₂ (· * ·) ?_ (congrArg (fun i => (q' i : EReal) * scale) (Fin.ext (by simp only [] <;> omega)))
      exact (congrArg k (Fin.ext (by simp only [] <;> omega))).trans (hk l)

end Cert.Attention
-- ==== Proof.Attn.Point.lean ====
module

public import proofs.«01_k».proof.Proof.Gen.AttnIdeal.Frame
public import proofs.«01_k».proof.Proof.Attn.Score
public import Idealize.ShloMosaic.Lib.Pointwise
public import Idealize.ShloMosaic.Lib.Claim
public import Idealize.ShloMosaic.Lib.Pipeline.ValueKit

/-!
What the attention's call stores at a block's entry is the reference's entry there, for real queries
and keys.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

theorem ix4_congr {n₀ n₁ n₂ n₃ : ℕ} {a a' : Fin n₀} {b b' : Fin n₁} {c c' : Fin n₂} {d d' : Fin n₃}
    (ha : (a : ℕ) = a') (hb : (b : ℕ) = b') (hc : (c : ℕ) = c') (hd : (d : ℕ) = d') : ix4 a b c d = ix4 a' b' c' d' := by
  rw [Fin.ext ha, Fin.ext hb, Fin.ext hc, Fin.ext hd]

theorem ix5_congr {n₀ n₁ n₂ n₃ n₄ : ℕ} {a a' : Fin n₀} {b b' : Fin n₁} {c c' : Fin n₂} {d d' : Fin n₃} {e e' : Fin n₄}
    (ha : (a : ℕ) = a') (hb : (b : ℕ) = b') (hc : (c : ℕ) = c') (hd : (d : ℕ) = d') (he : (e : ℕ) = e') :
    ix5 a b c d e = ix5 a' b' c' d' e' := by
  rw [Fin.ext ha, Fin.ext hb, Fin.ext hc, Fin.ext hd, Fin.ext he]

theorem blocked_congr {a b : ℕ} {s s' : Fin a → EReal} {t t' : Fin b → EReal} {v v' : Fin a → EReal} {w w' : Fin b → EReal}
    (hs : ∀ n, s n = s' n) (ht : ∀ n, t n = t' n) (hv : ∀ n, v n = v' n) (hw : ∀ n, w n = w' n) :
    blocked s t v w = blocked s' t' v' w' := by
  rw [funext hs, funext ht, funext hv, funext hw]

theorem plain_congr {n : ℕ} {x x' u u' : Fin n → EReal} (hx : ∀ n, x n = x' n) (hu : ∀ n, u n = u' n) :
    plain x u = plain x' u' := by
  rw [funext hx, funext hu]

variable (m : (ℓ : Loc nD τ sig) → Buf (Elt Ideal) ℓ)

theorem entry_ref (c : Dev nD) (t : Fin cfg0.N) (i : Fin 1024) (e : Fin 384) (r : Fin 8192) (hr : (r : ℕ) = t.val * 1024 + i)
    (q : (S4x2048x6x64).Idx → ℝ) (k : (S4x2048x2x64).Idx → ℝ) (ck : (S4x4x256x2x64).Idx → ℝ)
    (hq : ∀ j, (m ((c : Thread nD τ).loc main_arg0)) j = (q j : EReal)) (hk : ∀ j, (m ((c : Thread nD τ).loc main_arg1)) j = (k j : EReal))
    (hck : ∀ j, (m ((c : Thread nD τ).loc main_arg3)) j = (ck j : EReal)) :
    entry (iblk m c 0 t) (iblk m c 1 t) (iblk m c 2 t) (iblk m c 3 t) (iblk m c 4 t) i e
      = refAttn (m ((c : Thread nD τ).loc main_arg0)) (m ((c : Thread nD τ).loc main_arg1)) (m ((c : Thread nD τ).loc main_arg2))
          (m ((c : Thread nD τ).loc main_arg3)) (m ((c : Thread nD τ).loc main_arg4)) (ix2 r e) := by
  have ht := lt_points t
  rw [refAttn_at]
  let kj : Fin (2048 + 256) → Fin 64 → ℝ := fun x l =>
    if hx : (x : ℕ) < 2048 then k (ix4 ⟨t.val / 2, by omega⟩ ⟨x, hx⟩ ⟨e / 192, by omega⟩ l)
    else ck (ix5 ⟨t.val / 2, by omega⟩ 0 ⟨x - 2048, by omega⟩ ⟨e / 192, by omega⟩ l)
  let qj : Fin 64 → ℝ := fun l => q (ix4 ⟨t.val / 2, by omega⟩ ⟨t.val % 2 * 1024 + i, by omega⟩ ⟨e / 64, by omega⟩ l)
  have key := blocked_eq_plain (a := 2048) (b := 256) (fun x => ∑ l, kj x l * (qj l * 8⁻¹))
    (fun x : Fin 2304 => joined (m ((c : Thread nD τ).loc main_arg2)) (m ((c : Thread nD τ).loc main_arg4))
      (ix4 ⟨r / 2048, by omega⟩ x ⟨e / 192, by omega⟩ ⟨e % 64, by omega⟩)) (by norm_num)
  refine Eq.trans ?_ (key.trans ?_)
  · unfold entry
    refine blocked_congr (fun n => ?_) (fun n => ?_) (fun n => ?_) (fun n => ?_)
    · refine score_full _ _ _ _ (e / 192) (by omega) (fun l => ?_) (fun l => ?_)
      · refine (query_block m c t i ⟨e / 64, by omega⟩ l).trans ?_
        simp only [hq]
        rw [show (e : ℕ) / 64 / 3 = e / 192 by omega]
      · rw [key_block, hk]
        refine congrArg _ (Eq.trans ?_ (dif_pos (by simpa using n.isLt)).symm)
        exact congrArg k (ix4_congr rfl rfl (by simp only [] <;> omega) (by simp only [] <;> omega))
    · refine score_full _ _ _ _ (e / 192) (by omega) (fun l => ?_) (fun l => ?_)
      · refine (query_block m c t i ⟨e / 64, by omega⟩ l).trans ?_
        simp only [hq]
        rw [show (e : ℕ) / 64 / 3 = e / 192 by omega]
      · rw [cachedKey_block, hck]
        refine congrArg _ (Eq.trans ?_ (dif_neg (by simp)).symm)
        exact congrArg ck (ix5_congr rfl rfl (by simp) (by simp only [] <;> omega) (by simp only [] <;> omega))
    · rw [value_block, joined_at, dif_pos (by simpa using n.isLt)]
      exact congrArg _ (ix4_congr (by simp only [] <;> omega) rfl (by simp only [] <;> omega) (by simp only [] <;> omega))
    · rw [cachedValue_block, joined_at, dif_neg (by simp)]
      exact congrArg _ (ix5_congr (by simp only [] <;> omega) rfl (by simp) (by simp only [] <;> omega) (by simp only [] <;> omega))
  · refine plain_congr (fun x => ?_) (fun x => rfl)
    rw [refScores_at, ← score_ref]
    refine Finset.sum_congr rfl fun l _ => congrArg₂ (· * ·) ?_ (congrArg (· * _) ?_)
    · rw [joined_at]
      by_cases hx : (x : ℕ) < 2048
      · rw [dif_pos hx, hk]
        refine congrArg _ ((dif_pos hx).trans (congrArg k ?_))
        exact ix4_congr (by simp only [] <;> omega) rfl rfl rfl
      · rw [dif_neg hx, hck]
        refine congrArg _ ((dif_neg hx).trans (congrArg ck ?_))
        exact ix5_congr (by simp only [] <;> omega) rfl rfl rfl rfl
    · rw [hq]
      exact congrArg (fun z => (q z : EReal)) (ix4_congr (by simp only [] <;> omega) (by simp only [] <;> omega) (by simp only [] <;> omega) rfl)

end Cert.Attention
-- ==== Proof.Attn.Value.lean ====
module

public import proofs.«01_k».proof.Proof.Gen.AttnIdeal.Frame
public import proofs.«01_k».proof.Proof.Attn.Point
public import Idealize.ShloMosaic.Lib.Pointwise
public import Idealize.ShloMosaic.Lib.Claim
public import Idealize.ShloMosaic.Lib.Pipeline.ValueKit

/-!
The arrays the attention's call leaves: the attention of every head, for real queries and keys, and the
copy of the next layer's weights.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- The attention's array. -/
theorem final_attn (c : Dev nD)
    (q : (S4x2048x6x64).Idx → ℝ) (k : (S4x2048x2x64).Idx → ℝ) (ck : (S4x4x256x2x64).Idx → ℝ)
    (hq : ∀ j, (m ((c : Thread nD τ).loc main_arg0)) j = (q j : EReal)) (hk : ∀ j, (m ((c : Thread nD τ).loc main_arg1)) j = (k j : EReal))
    (hck : ∀ j, (m ((c : Thread nD τ).loc main_arg3)) j = (ck j : EReal)) :
    (dats m 0 c).arrAt 6 (cfgs 0).N
      = refAttn (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  have ht := lt_points t
  blk_simp; rw [after0_6]
  idx_vars y
  rw [block_at]
  refine (entry_ref m c t y0 y1 ⟨t.val * 1024 + y0, by omega⟩ rfl q k ck hq hk hck).trans ?_
  blk_ext [idx_val t]

/-- The copied weights. -/
theorem final_cast (c : Dev nD) : (dats m 0 c).arrAt 7 (cfgs 0).N = refCast (m ((c : Thread nD τ).loc main_arg5)) := by
  refine (dats m 0 c).arrAt_eq_of_covers 7 _ (by decide +kernel) fun t hf y => ?_
  have ht := lt_points t
  blk_simp; rw [after0_7]; frame_out
  pointwise [k0_pay1, refCast]
  blk_point [iblk, V, idx_val t]

end Cert.Attention
-- ==== Proof.Attn.Finite.lean ====
module

public import proofs.«01_k».proof.Proof.Gen.AttnIdeal.Frame
public import proofs.«01_k».proof.Defs
public import proofs.«01_k».proof.Proof.Gen.Pre_finite_scores
public import Idealize.ShloMosaic.Lib.Pointwise
public import Idealize.ShloMosaic.Lib.Claim
public import Idealize.ShloMosaic.Lib.Pipeline.ValueKit

/-!
What the precondition says of an entry: its absolute value is below infinity, so it is a real number.
-/

@[expose] public section

set_option maxRecDepth 16384

noncomputable section

namespace Cert.Attention

open Idealize.ShloMosaic Idealize.ShloMosaic.TcCoe Idealize.SL.Sem
open Idealize.ShloMosaic.Pipeline (Dat)
open Cert.AttnIdeal Cert.AttnIdeal.Gen

theorem ofBits_inf : Ideal.ofBits .f32 0x7F800000#32 = ⊤ := by simp [Ideal.ofBits, Ideal.ieee, -EReal.coe_mul]

/-- An extended real whose absolute value is below infinity is real. -/
theorem real_of_lt (x : EReal) (h : Ideal.cmp .olt (max x (-x)) ⊤ = 1#1) : ∃ r : ℝ, x = (r : EReal) := by
  have hb : (BitVec.ofBool (decide (max x (-x) < ⊤)) : BitVec 1) = 1#1 := h
  have hlt : max x (-x) < ⊤ := by
    by_contra hn
    rw [decide_eq_false hn] at hb
    exact absurd hb (by decide)
  induction x using EReal.rec with
  | coe r => exact ⟨r, rfl⟩
  | bot => exact absurd hlt (by simp)
  | top => exact absurd hlt (by simp)

theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  exact real_of_lt x h

variable (m : (ℓ : Loc nD τ sig) → Buf (Elt Ideal) ℓ)

theorem real_queries (h : Cert.Pre_AttnIdeal_finite_scores (hPre_finite_scores := Cert.Pre_finite_scores.Gen.facts) m) (c : Dev nD)
    (j : S4x2048x6x64.Idx) : ∃ r : ℝ, (m ((c : Thread nD τ).loc main_arg0)) j = (r : EReal) := by
  have h1 := congrFun (h c).1 j
  refine real_of_abs_lt _ (Eq.trans ?_ h1)
  pointwise [Cert.Pre_finite_scores.fn]

theorem real_keys (h : Cert.Pre_AttnIdeal_finite_scores (hPre_finite_scores := Cert.Pre_finite_scores.Gen.facts) m) (c : Dev nD)
    (j : S4x2048x2x64.Idx) : ∃ r : ℝ, (m ((c : Thread nD τ).loc main_arg1)) j = (r : EReal) := by
  have h1 := congrFun (h c).2.1 j
  refine real_of_abs_lt _ (Eq.trans ?_ h1)
  pointwise [Cert.Pre_finite_scores.fn]

theorem real_cached (h : Cert.Pre_AttnIdeal_finite_scores (hPre_finite_scores := Cert.Pre_finite_scores.Gen.facts) m) (c : Dev nD)
    (j : S4x4x256x2x64.Idx) : ∃ r : ℝ, (m ((c : Thread nD τ).loc main_arg3)) j = (r : EReal) := by
  have h1 := congrFun (h c).2.2 j
  refine real_of_abs_lt _ (Eq.trans ?_ h1)
  pointwise [Cert.Pre_finite_scores.fn]

end Cert.Attention
-- ==== Proof.Attn.RefRun.lean ====
module

public import proofs.«01_k».proof.Proof.Gen.AttnRefIdeal
public import proofs.«01_k».proof.Proof.Attn.Softmax
public import proofs.«01_k».proof.Proof.Attn.Ref
public import Idealize.ShloMosaic.Lib.Pointwise
public import Idealize.ShloMosaic.Lib.Claim
public import Idealize.ShloMosaic.Lib.Pipeline.ValueKit

/-!
What the reference of the attention leaves: its two results as functions of its arguments.
-/

@[expose] public section

set_option maxRecDepth 16384

noncomputable section

namespace Cert.Attention

open Idealize.ShloMosaic Idealize.ShloMosaic.TcCoe Idealize.SL.Sem
open Cert.AttnRefIdeal Cert.AttnRefIdeal.Gen

set_option maxHeartbeats 1600000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25)
          = refAttn (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
        ∧ r.2.mem ((c.tc : Thread nD τ).loc main_v28) = refCast (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  hlo_run
  · rfl
  · rfl

end Cert.Attention
-- ==== Proof.Attn.Claim.lean ====
module

public import proofs.«01_k».proof.Proof.Gen.AttnIdeal.Frame
public import proofs.«01_k».proof.Proof.Attn.Value
public import proofs.«01_k».proof.Proof.Attn.Finite
public import proofs.«01_k».proof.Proof.Attn.RefRun
public import Idealize.ShloMosaic.Lib.Pointwise
public import Idealize.ShloMosaic.Lib.Claim
public import Idealize.ShloMosaic.Lib.Pipeline.ValueKit

/-!
The attention's claim: where the precondition holds, the kernel and the reference leave the same arrays.
-/

@[expose] public section

set_option maxRecDepth 16384

noncomputable section

namespace Cert.Attention

open Idealize.ShloMosaic Idealize.ShloMosaic.TcCoe Idealize.SL.Sem
open Idealize.ShloMosaic.Pipeline (Dat)

set_option maxHeartbeats 1600000 in
theorem algebraic : Cert.algebraic_AttnIdeal_AttnRefIdeal_pre_finite_scores (hAttnIdeal := Cert.AttnIdeal.Gen.facts)
    (hAttnRefIdeal := Cert.AttnRefIdeal.Gen.facts) (hPre_finite_scores := Cert.Pre_finite_scores.Gen.facts) := by
  pair_intro
  · run_from Cert.AttnIdeal.Gen.run_main m g
  · run_from ref_run m' g'
    · choose q hq using real_queries m hpre c
      choose k hk using real_keys m hpre c
      choose ck hck using real_cached m hpre c
      exact (final_attn m c q k ck hq hk hck).symm
    · exact (final_cast m c).symm

end Cert.Attention
-- ==== Proof.Post.Row.lean ====
module

public import Idealize.ShloMosaic.PureOps
public import Idealize.ShloMosaic.Lib.Pointwise

/-!
One token's way through the second half of a layer, over the extended reals: the normalization of a
row, the gated residual, the modulated input of the feed-forward block, and the block itself, whose
hidden features the kernel visits in three chunks.
-/

@[expose] public section

noncomputable section

namespace Cert.SecondHalf

open Idealize.ShloMosaic

/-- The number added under the root of a normalization. -/
def tiny : EReal := Ideal.ofBits .f32 0x358637BD#32

/-- The width of a row, as the divisor of its mean. -/
def width : EReal := Ideal.ofBits .f32 0x44800000#32

/-- The mean of a row's squares. -/
def meanSq (v : Fin 1024 → EReal) : EReal := Ideal.div (∑ k, v k * v k) width

/-- A row over the root of its mean square. -/
def unit (v : Fin 1024 → EReal) (j : Fin 1024) : EReal := v j * Ideal.rsqrt (meanSq v + tiny)

/-- A gated residual: `x + gt * (unit v * g)`. -/
def residual (gt v x g : Fin 1024 → EReal) (j : Fin 1024) : EReal := x j + gt j * (unit v j * g j)

/-- The modulated input of the feed-forward block, the gain taken with the modulation's scale. -/
def modulated (sh sc v g : Fin 1024 → EReal) (j : Fin 1024) : EReal := unit v j * (g j * (1 + sc j)) + sh j

/-- The same with the gain taken first. -/
theorem modulated_eq (sh sc v g : Fin 1024 → EReal) (j : Fin 1024) :
    modulated sh sc v g j = unit v j * g j * (1 + sc j) + sh j := by
  unfold modulated
  rw [mul_assoc]

/-- The activation of one hidden feature: `a / (1 + exp (-a))`, times the other half's `b`. -/
def act (a b : EReal) : EReal := Ideal.div a (1 + Ideal.exp (0 - a)) * b

theorem exp_nonneg (x : EReal) : 0 ≤ Ideal.exp x := by
  induction x with
  | bot => exact le_refl _
  | top => exact le_top
  | coe r => exact EReal.coe_nonneg.2 (Real.exp_pos r).le

/-- The same with the quotient `1 / (1 + exp (-a))` formed first. -/
theorem act_eq (a b : EReal) : act a b = a * Ideal.div 1 (1 + Ideal.exp (-a)) * b := by
  have h : (1 : EReal) + Ideal.exp (-a) ≠ 0 :=
    (lt_of_lt_of_le zero_lt_one (le_add_of_nonneg_right (exp_nonneg (-a)))).ne'
  unfold act Ideal.div
  rw [zero_sub, if_neg h, if_neg h, one_mul]

/-- One hidden feature, from the row and the feature's column of each half of the first weights. -/
def feature (h p q : Fin 1024 → EReal) : EReal := act (∑ d, h d * p d) (∑ d, h d * q d)

/-- The feed-forward block's output at one column. -/
def forward (h : Fin 1024 → EReal) (p q : Fin 1024 → Fin 2816 → EReal) (w : Fin 2816 → EReal) : EReal :=
  ∑ f, feature h (fun d => p d f) (fun d => q d f) * w f

/-- A sum over the hidden features as the sums over three chunks. -/
theorem sum_chunks (u : Fin 2816 → EReal) :
    ∑ f, u f = (∑ f : Fin 1024, u ⟨f, by omega⟩ + ∑ f : Fin 1024, u ⟨1024 + f, by omega⟩)
      + ∑ f : Fin 768, u ⟨2048 + f, by omega⟩ := by
  rw [Fin.sum_univ_two_halves 2048 768 rfl u, Fin.sum_univ_two_halves 1024 1024 rfl (fun f : Fin 2048 => u ⟨f, by omega⟩)]

/-- The three parts of the attention side by side. -/
def merged (a : Fin 384 → EReal) (r : Fin 256 → EReal) (w : Fin 384 → EReal) (k : Fin 1024) : EReal :=
  if h : (k : ℕ) < 384 then a ⟨k, h⟩ else if h' : (k : ℕ) - 384 < 256 then r ⟨k - 384, h'⟩ else w ⟨k - 384 - 256, by omega⟩

/-- One entry of the second half's output, from the row's own data and the weights. -/
def outRow (gt sh sc gt' : Fin 1024 → EReal) (x m : Fin 1024 → EReal) (wo : Fin 1024 → Fin 1024 → EReal)
    (p q : Fin 1024 → Fin 2816 → EReal) (w : Fin 2816 → Fin 1024 → EReal) (g g' g'' : Fin 1024 → EReal) : Fin 1024 → EReal :=
  let y := residual gt (fun j => ∑ k, m k * wo k j) x g
  residual gt' (fun j => forward (modulated sh sc y g') p q (fun f => w f j)) y g''

end Cert.SecondHalf
-- ==== Proof.Post.Stage.lean ====
module

public import proofs.«01_k».proof.Proof.Gen.PostIdeal.Frame
public import proofs.«01_k».proof.Proof.Post.Row
public import Idealize.ShloMosaic.Lib.Pointwise
public import Idealize.ShloMosaic.Lib.Claim
public import Idealize.ShloMosaic.Lib.Pipeline.ValueKit

/-!
The steps of the kernel of the second half on one tile of 256 rows, each in the kernel's own operations
and read at one entry.
-/

@[expose] public section

set_option maxRecDepth 16384

noncomputable section

namespace Cert.SecondHalf

open Idealize.ShloMosaic Idealize.ShloMosaic.TcCoe Idealize.SL.Sem
open Cert.PostIdeal Cert.PostIdeal.Gen

/-- The mean of each row's squares. -/
abbrev meanOf (v : FVec Ideal S256x1024 .f32) : FVec Ideal S256x1 .f32 :=
  divf
    (shapeCast S256x1 (multiReduction .add [1] S256 (mulf v v) 0x00000000#32 reduces_S256x1024_S256 (.inl rfl) rfl)
      shapeCasts_S256_S256x1)
    (broadcast S256x1 (Scalar.ofBits .f32 0x44800000#32 : Ideal .f32))

/-- The output projection of the attention's three parts. -/
abbrev mixed (a : Vec Ideal S256x384 .bf16) (r : Vec Ideal S256x256 .bf16) (w : Vec Ideal S256x384 .bf16)
    (wo : Vec Ideal S1024x1024 .bf16) : FVec Ideal S256x1024 .f32 := k0_pay8 a r w wo

/-- The gated residual. -/
abbrev gated (gt : FVec Ideal S1x1024 .f32) (v : FVec Ideal S256x1024 .f32) (x : Vec Ideal S256x1024 .f32)
    (g : Vec Ideal S1x1x1024 .f32) : FVec Ideal S256x1024 .f32 := k0_pay15 gt v x g

/-- The gated residual of rows that the kernel already holds. -/
abbrev settled (gt : FVec Ideal S1x1024 .f32) (v y : FVec Ideal S256x1024 .f32)
    (g : Vec Ideal S1x1x1024 .f32) : FVec Ideal S256x1024 .f32 := k0_pay46 gt y v g

/-- The modulated input of the feed-forward block. -/
abbrev hidden (sh sc : FVec Ideal S1x1024 .f32) (v : FVec Ideal S256x1024 .f32) (g : Vec Ideal S1x1x1024 .f32) :
    FVec Ideal S256x1024 .bf16 := k0_pay17 sh sc v (meanOf v) g

/-- The feed-forward block over its three chunks of hidden features. -/
abbrev chunks (h : FVec Ideal S256x1024 .bf16) (p0 q0 w0 p1 q1 w1 : Vec Ideal S1024x1024 .bf16)
    (p2 q2 : Vec Ideal S1024x768 .bf16) (w2 : Vec Ideal S768x1024 .bf16) : FVec Ideal S256x1024 .f32 :=
  k0_pay35 h (k0_pay34 h p0 q0 w0 p1 q1 w1) p2 q2 w2

theorem meanOf_at (v : FVec Ideal S256x1024 .f32) (i : Fin 256) :
    meanOf v (ix2 i 0) = meanSq fun k => v (ix2 i k) := by
  pointwise [meanOf]
  rfl

theorem mixed_at (a : Vec Ideal S256x384 .bf16) (r : Vec Ideal S256x256 .bf16) (w : Vec Ideal S256x384 .bf16)
    (wo : Vec Ideal S1024x1024 .bf16) (i : Fin 256) (j : Fin 1024) :
    mixed a r w wo (ix2 i j)
      = ∑ k, merged (fun l => a (ix2 i l)) (fun l => r (ix2 i l)) (fun l => w (ix2 i l)) k * wo (ix2 k j) := by
  unfold merged
  pointwise [mixed, k0_pay8]

theorem gated_at (gt : FVec Ideal S1x1024 .f32) (v : FVec Ideal S256x1024 .f32) (x : Vec Ideal S256x1024 .f32)
    (g : Vec Ideal S1x1x1024 .f32) (i : Fin 256) (j : Fin 1024) :
    gated gt v x g (ix2 i j)
      = residual (fun k => gt (ix2 0 k)) (fun k => v (ix2 i k)) (fun k => x (ix2 i k)) (fun k => g (ix3 0 0 k)) j := by
  pointwise [gated, k0_pay15]
  rfl

theorem settled_at (gt : FVec Ideal S1x1024 .f32) (v y : FVec Ideal S256x1024 .f32)
    (g : Vec Ideal S1x1x1024 .f32) (i : Fin 256) (j : Fin 1024) :
    settled gt v y g (ix2 i j)
      = residual (fun k => gt (ix2 0 k)) (fun k => v (ix2 i k)) (fun k => y (ix2 i k)) (fun k => g (ix3 0 0 k)) j := by
  pointwise [settled, k0_pay46]
  rfl

theorem modulate_at (sh sc : FVec Ideal S1x1024 .f32) (v : FVec Ideal S256x1024 .f32) (s : FVec Ideal S256x1 .f32)
    (g : Vec Ideal S1x1x1024 .f32) (i : Fin 256) (j : Fin 1024) :
    k0_pay17 sh sc v s g (ix2 i j)
      = v (ix2 i j) * Ideal.rsqrt (s (ix2 i 0) + tiny) * (g (ix3 0 0 j) * (1 + sc (ix2 0 j))) + sh (ix2 0 j) := by
  pointwise [k0_pay17]
  rfl

theorem hidden_at (sh sc : FVec Ideal S1x1024 .f32) (v : FVec Ideal S256x1024 .f32) (g : Vec Ideal S1x1x1024 .f32)
    (i : Fin 256) (j : Fin 1024) :
    hidden sh sc v g (ix2 i j)
      = modulated (fun k => sh (ix2 0 k)) (fun k => sc (ix2 0 k)) (fun k => v (ix2 i k)) (fun k => g (ix3 0 0 k)) j := by
  refine (modulate_at sh sc v (meanOf v) g i j).trans ?_
  rw [meanOf_at]
  rfl

/-- The first two chunks. -/
theorem front_at (h : FVec Ideal S256x1024 .bf16) (p0 q0 w0 p1 q1 w1 : Vec Ideal S1024x1024 .bf16) (i : Fin 256) (j : Fin 1024) :
    k0_pay34 h p0 q0 w0 p1 q1 w1 (ix2 i j)
      = ∑ f, feature (fun d => h (ix2 i d)) (fun d => p0 (ix2 d f)) (fun d => q0 (ix2 d f)) * w0 (ix2 f j)
        + ∑ f, feature (fun d => h (ix2 i d)) (fun d => p1 (ix2 d f)) (fun d => q1 (ix2 d f)) * w1 (ix2 f j) := by
  unfold feature act
  pointwise [k0_pay34]

/-- The last chunk. -/
theorem back_at (h : FVec Ideal S256x1024 .bf16) (u : FVec Ideal S256x1024 .f32)
    (p2 q2 : Vec Ideal S1024x768 .bf16) (w2 : Vec Ideal S768x1024 .bf16) (i : Fin 256) (j : Fin 1024) :
    k0_pay35 h u p2 q2 w2 (ix2 i j)
      = u (ix2 i j)
        + ∑ f, feature (fun d => h (ix2 i d)) (fun d => p2 (ix2 d f)) (fun d => q2 (ix2 d f)) * w2 (ix2 f j) := by
  unfold feature act
  pointwise [k0_pay35]

/-- The chunks are the feed-forward block, where they hold its weights. -/
theorem chunks_at (h : FVec Ideal S256x1024 .bf16) (p0 q0 w0 p1 q1 w1 : Vec Ideal S1024x1024 .bf16)
    (p2 q2 : Vec Ideal S1024x768 .bf16) (w2 : Vec Ideal S768x1024 .bf16) (i : Fin 256) (j : Fin 1024)
    (u : Vec Ideal S1024x5632 .bf16) (w : Vec Ideal S2816x1024 .bf16)
    (hp0 : ∀ d f : Fin 1024, p0 (ix2 d f) = u (ix2 d ⟨f, by omega⟩))
    (hq0 : ∀ d f : Fin 1024, q0 (ix2 d f) = u (ix2 d ⟨2816 + f, by omega⟩))
    (hw0 : ∀ f k : Fin 1024, w0 (ix2 f k) = w (ix2 ⟨f, by omega⟩ k))
    (hp1 : ∀ d f : Fin 1024, p1 (ix2 d f) = u (ix2 d ⟨1024 + f, by omega⟩))
    (hq1 : ∀ d f : Fin 1024, q1 (ix2 d f) = u (ix2 d ⟨2816 + (1024 + f), by omega⟩))
    (hw1 : ∀ f k : Fin 1024, w1 (ix2 f k) = w (ix2 ⟨1024 + f, by omega⟩ k))
    (hp2 : ∀ (d : Fin 1024) (f : Fin 768), p2 (ix2 d f) = u (ix2 d ⟨2048 + f, by omega⟩))
    (hq2 : ∀ (d : Fin 1024) (f : Fin 768), q2 (ix2 d f) = u (ix2 d ⟨2816 + (2048 + f), by omega⟩))
    (hw2 : ∀ (f : Fin 768) (k : Fin 1024), w2 (ix2 f k) = w (ix2 ⟨2048 + f, by omega⟩ k)) :
    chunks h p0 q0 w0 p1 q1 w1 p2 q2 w2 (ix2 i j)
      = forward (fun d => h (ix2 i d)) (fun d f => u (ix2 d ⟨f, by omega⟩)) (fun d f => u (ix2 d ⟨2816 + f, by omega⟩))
          (fun f => w (ix2 f j)) := by
  refine (back_at h (k0_pay34 h p0 q0 w0 p1 q1 w1) p2 q2 w2 i j).trans ?_
  rw [front_at]
  unfold forward
  rw [sum_chunks]
  simp only [hp0, hq0, hw0, hp1, hq1, hw1, hp2, hq2, hw2]

end Cert.SecondHalf
-- ==== Proof.Post.Tile.lean ====
module

public import proofs.«01_k».proof.Proof.Gen.PostIdeal.Frame
public import proofs.«01_k».proof.Proof.Post.Stage
public import Idealize.ShloMosaic.Lib.Pointwise
public import Idealize.ShloMosaic.Lib.Claim
public import Idealize.ShloMosaic.Lib.Pipeline.ValueKit

/-!
The four tiles of a block of 1024 rows are one function of their loads: the kernel's program text is cut
at different places for each, and each cut is undone here.
-/

@[expose] public section

set_option maxRecDepth 16384

noncomputable section

namespace Cert.SecondHalf

open Idealize.ShloMosaic Idealize.ShloMosaic.TcCoe Idealize.SL.Sem
open Cert.PostIdeal Cert.PostIdeal.Gen

/-- One tile, from what it loads. -/
abbrev tile (t : Vec Ideal S1x1x6144 .f32) (x : Vec Ideal S256x1024 .f32) (a : Vec Ideal S256x384 .bf16)
    (r : Vec Ideal S256x256 .bf16) (w : Vec Ideal S256x384 .bf16) (wo : Vec Ideal S1024x1024 .bf16)
    (p0 q0 w0 p1 q1 w1 : Vec Ideal S1024x1024 .bf16) (p2 q2 : Vec Ideal S1024x768 .bf16) (w2 : Vec Ideal S768x1024 .bf16)
    (g g' g'' : Vec Ideal S1x1x1024 .f32) : FVec Ideal S256x1024 .f32 :=
  settled (k0_pay7 t)
    (chunks (hidden (k0_pay5 t) (k0_pay6 t) (gated (k0_pay4 t) (mixed a r w wo) x g) g') p0 q0 w0 p1 q1 w1 p2 q2 w2)
    (gated (k0_pay4 t) (mixed a r w wo) x g) g''

section
variable (gt sh sc : FVec Ideal S1x1024 .f32) (v y f : FVec Ideal S256x1024 .f32) (s : FVec Ideal S256x1 .f32)
  (h : FVec Ideal S256x1024 .bf16)
  (x : Vec Ideal S256x1024 .f32) (a : Vec Ideal S256x384 .bf16) (r : Vec Ideal S256x256 .bf16) (w : Vec Ideal S256x384 .bf16)
  (wo : Vec Ideal S1024x1024 .bf16)
  (p0 q0 w0 p1 q1 w1 : Vec Ideal S1024x1024 .bf16) (p2 q2 : Vec Ideal S1024x768 .bf16) (w2 : Vec Ideal S768x1024 .bf16)
  (g g' : Vec Ideal S1x1x1024 .f32)

/-! The output projections. -/
theorem mixed_second : k0_pay9 a r w wo = mixed a r w wo := rfl
theorem mixed_third : k0_pay13 (k0_pay10 a) (k0_pay11 r) (k0_pay12 w) wo = mixed a r w wo := rfl
theorem mixed_fourth : k0_pay14 a r w wo = mixed a r w wo := rfl

/-! The first residuals. -/
theorem gated_second : k0_pay25 gt v (k0_pay23 x) (k0_pay24 v) g = gated gt v x g := rfl
theorem gated_third : k0_pay32 gt v x g = gated gt v x g := rfl
theorem gated_fourth : k0_pay36 gt v x g = gated gt v x g := rfl

/-! The modulated rows. -/
theorem mean_first : k0_pay16 gt v x g = meanOf (gated gt v x g) := rfl
theorem mean_fourth : k0_pay37 gt v x g = meanOf (gated gt v x g) := rfl
theorem hidden_second : k0_pay26 gt sh sc v (k0_pay23 x) (k0_pay24 v) g g' = hidden sh sc (gated gt v x g) g' := rfl
theorem hidden_third : k0_pay33 gt sh sc v x g g' = hidden sh sc (gated gt v x g) g' := rfl
theorem hidden_fourth : k0_pay38 sh sc v s g = k0_pay17 sh sc v s g := rfl

/-! The feed-forward blocks. -/
theorem chunks_first :
    k0_pay22 (k0_pay17 sh sc v s g) (k0_pay18 sh sc v s g p0 q0 w0) (k0_pay19 sh sc v s g p1) (k0_pay20 sh sc v s g p1)
        k0_pay21 q1 w1 p2 q2 w2
      = chunks (k0_pay17 sh sc v s g) p0 q0 w0 p1 q1 w1 p2 q2 w2 := rfl
theorem chunks_second :
    k0_pay31 (k0_pay29 (k0_pay26 gt sh sc v y s g g') (k0_pay27 gt sh sc v y s g g' p0) (k0_pay28 gt sh sc v y s g g' q0)
        w0 p1 q1 w1) (k0_pay30 (k0_pay26 gt sh sc v y s g g') p2 q2) w2
      = chunks (k0_pay26 gt sh sc v y s g g') p0 q0 w0 p1 q1 w1 p2 q2 w2 := rfl
theorem chunks_fourth :
    k0_pay43 (k0_pay38 sh sc v s g) (k0_pay39 sh sc v s g p0 q0 w0) (k0_pay40 sh sc v s g p1) (k0_pay41 sh sc v s g p1)
        k0_pay42 q1 w1 p2 q2 w2
      = chunks (k0_pay38 sh sc v s g) p0 q0 w0 p1 q1 w1 p2 q2 w2 := rfl

/-! The second residuals. -/
theorem last_first : k0_pay45 gt y (k0_pay44 f) g = settled gt f y g := rfl
theorem last_second : k0_pay46 gt y f g = settled gt f y g := rfl
theorem last_third : k0_pay1 gt y (k0_pay47 f g) = settled gt f y g := rfl
theorem last_fourth : k0_pay2 gt y f g = settled gt f y g := rfl

end

end Cert.SecondHalf
-- ==== Proof.Post.Block.lean ====
module

public import proofs.«01_k».proof.Proof.Gen.PostIdeal.Frame
public import proofs.«01_k».proof.Proof.Post.Tile
public import Idealize.ShloMosaic.Lib.Pointwise
public import Idealize.ShloMosaic.Lib.Claim
public import Idealize.ShloMosaic.Lib.Pipeline.ValueKit

/-!
The kernel's output block, read at one entry: row `i` of the block is the second half's row, computed
from row `i` of the blocks of tokens and from the weights.
-/

@[expose] public section

set_option maxRecDepth 16384

noncomputable section

namespace Cert.SecondHalf

open Idealize.ShloMosaic Idealize.ShloMosaic.TcCoe Idealize.SL.Sem
open Cert.PostIdeal Cert.PostIdeal.Gen

section
variable (x0 : Vec Ideal S1024x1024 .f32) (x1 : Vec Ideal S1024x384 .bf16) (x2 : Vec Ideal S1024x256 .bf16)
  (x3 : Vec Ideal S1024x384 .bf16) (x4 : Vec Ideal S1x1x6144 .f32) (x5 : Vec Ideal S1024x1024 .bf16)
  (x6 : Vec Ideal S1024x5632 .bf16) (x7 : Vec Ideal S2816x1024 .bf16) (x8 x9 x10 : Vec Ideal S1x1x1024 .f32)

/-- The block's entry at row `i` and column `c`. -/
def entry (i c : Fin 1024) : EReal :=
  outRow (fun k => x4 (ix3 0 0 ⟨2048 + k, by omega⟩)) (fun k => x4 (ix3 0 0 ⟨3072 + k, by omega⟩))
    (fun k => x4 (ix3 0 0 ⟨4096 + k, by omega⟩)) (fun k => x4 (ix3 0 0 ⟨5120 + k, by omega⟩))
    (fun k => x0 (ix2 i k))
    (merged (fun k => x1 (ix2 i k)) (fun k => x2 (ix2 i k)) (fun k => x3 (ix2 i k)))
    (fun k j => x5 (ix2 k j)) (fun d f => x6 (ix2 d ⟨f, by omega⟩)) (fun d f => x6 (ix2 d ⟨2816 + f, by omega⟩))
    (fun f j => x7 (ix2 f j)) (fun k => x8 (ix3 0 0 k)) (fun k => x9 (ix3 0 0 k)) (fun k => x10 (ix3 0 0 k)) c

theorem gate_at (t : Vec Ideal S1x1x6144 .f32) (k : Fin 1024) : k0_pay4 t (ix2 0 k) = t (ix3 0 0 ⟨2048 + k, by omega⟩) := by
  pointwise [k0_pay4, k0_pay3]
theorem shift_at (t : Vec Ideal S1x1x6144 .f32) (k : Fin 1024) : k0_pay5 t (ix2 0 k) = t (ix3 0 0 ⟨3072 + k, by omega⟩) := by
  pointwise [k0_pay5, k0_pay3]
theorem scale_at (t : Vec Ideal S1x1x6144 .f32) (k : Fin 1024) : k0_pay6 t (ix2 0 k) = t (ix3 0 0 ⟨4096 + k, by omega⟩) := by
  pointwise [k0_pay6, k0_pay3]
theorem gate'_at (t : Vec Ideal S1x1x6144 .f32) (k : Fin 1024) : k0_pay7 t (ix2 0 k) = t (ix3 0 0 ⟨5120 + k, by omega⟩) := by
  pointwise [k0_pay7, k0_pay3]

/-- A tile from row `o` of the block, whatever it loads. -/
theorem tile_entry (t : Vec Ideal S1x1x6144 .f32) (x : Vec Ideal S256x1024 .f32) (a : Vec Ideal S256x384 .bf16)
    (r : Vec Ideal S256x256 .bf16) (w : Vec Ideal S256x384 .bf16) (wo : Vec Ideal S1024x1024 .bf16)
    (p0 q0 w0 p1 q1 w1 : Vec Ideal S1024x1024 .bf16) (p2 q2 : Vec Ideal S1024x768 .bf16) (w2 : Vec Ideal S768x1024 .bf16)
    (g g' g'' : Vec Ideal S1x1x1024 .f32) (s : Fin 256) (i b c : Fin 1024) (o : ℕ) (hi : (i : ℕ) = o + s) (hc : (c : ℕ) = b)
    (ht : ∀ k : Fin 6144, t (ix3 0 0 k) = x4 (ix3 0 0 k))
    (hx : ∀ (s : Fin 256) (k : Fin 1024) (h : o + s < 1024), x (ix2 s k) = x0 (ix2 ⟨o + s, h⟩ k))
    (ha : ∀ (s : Fin 256) (k : Fin 384) (h : o + s < 1024), a (ix2 s k) = x1 (ix2 ⟨o + s, h⟩ k))
    (hr : ∀ (s : Fin 256) (k : Fin 256) (h : o + s < 1024), r (ix2 s k) = x2 (ix2 ⟨o + s, h⟩ k))
    (hw : ∀ (s : Fin 256) (k : Fin 384) (h : o + s < 1024), w (ix2 s k) = x3 (ix2 ⟨o + s, h⟩ k))
    (hwo : ∀ k j : Fin 1024, wo (ix2 k j) = x5 (ix2 k j))
    (hp0 : ∀ d f : Fin 1024, p0 (ix2 d f) = x6 (ix2 d ⟨f, by omega⟩))
    (hq0 : ∀ d f : Fin 1024, q0 (ix2 d f) = x6 (ix2 d ⟨2816 + f, by omega⟩))
    (hw0 : ∀ f k : Fin 1024, w0 (ix2 f k) = x7 (ix2 ⟨f, by omega⟩ k))
    (hp1 : ∀ d f : Fin 1024, p1 (ix2 d f) = x6 (ix2 d ⟨1024 + f, by omega⟩))
    (hq1 : ∀ d f : Fin 1024, q1 (ix2 d f) = x6 (ix2 d ⟨3840 + f, by omega⟩))
    (hw1 : ∀ f k : Fin 1024, w1 (ix2 f k) = x7 (ix2 ⟨1024 + f, by omega⟩ k))
    (hp2 : ∀ (d : Fin 1024) (f : Fin 768), p2 (ix2 d f) = x6 (ix2 d ⟨2048 + f, by omega⟩))
    (hq2 : ∀ (d : Fin 1024) (f : Fin 768), q2 (ix2 d f) = x6 (ix2 d ⟨4864 + f, by omega⟩))
    (hw2 : ∀ (f : Fin 768) (k : Fin 1024), w2 (ix2 f k) = x7 (ix2 ⟨2048 + f, by omega⟩ k))
    (hg : ∀ k : Fin 1024, g (ix3 0 0 k) = x8 (ix3 0 0 k))
    (hg' : ∀ k : Fin 1024, g' (ix3 0 0 k) = x9 (ix3 0 0 k))
    (hg'' : ∀ k : Fin 1024, g'' (ix3 0 0 k) = x10 (ix3 0 0 k)) :
    tile t x a r w wo p0 q0 w0 p1 q1 w1 p2 q2 w2 g g' g'' (ix2 s b) = entry x0 x1 x2 x3 x4 x5 x6 x7 x8 x9 x10 i c := by
  obtain rfl : c = b := Fin.ext hc
  have e : ∀ h : o + s < 1024, (⟨o + s, h⟩ : Fin 1024) = i := fun h => Fin.ext hi.symm
  have hs : o + s < 1024 := hi ▸ i.isLt
  have hq1' : ∀ d f : Fin 1024, q1 (ix2 d f) = x6 (ix2 d ⟨2816 + (1024 + f), by omega⟩) := fun d f => by
    rw [hq1]; congr 2; ext; simp only []; omega
  have hq2' : ∀ (d : Fin 1024) (f : Fin 768), q2 (ix2 d f) = x6 (ix2 d ⟨2816 + (2048 + f), by omega⟩) := fun d f => by
    rw [hq2]; congr 2; ext; simp only []; omega
  refine (settled_at _ _ _ _ s c).trans ?_
  unfold entry outRow
  simp only [chunks_at _ p0 q0 w0 p1 q1 w1 p2 q2 w2 s _ x6 x7 hp0 hq0 hw0 hp1 hq1' hw1 hp2 hq2' hw2, hidden_at, gated_at,
    mixed_at, gate_at, shift_at, scale_at, gate'_at, ht, hx _ _ hs, ha _ _ hs, hr _ _ hs, hw _ _ hs, hwo, hg, hg', hg'', e]

theorem block_at (i c : Fin 1024) :
    out0_11 x0 x1 x2 x3 x4 x5 x6 x7 x8 x9 x10 (ix2 i c) = entry x0 x1 x2 x3 x4 x5 x6 x7 x8 x9 x10 i c := by
  unfold_out out0_11
  rw [mixed_second, mixed_third, mixed_fourth, chunks_first, chunks_second, chunks_fourth, hidden_fourth, mean_fourth,
    gated_fourth, gated_third, gated_second, hidden_second, hidden_third, mean_first, last_first, last_second, last_third,
    last_fourth]
  canon_tiles y h
  case piece0 =>
    idx_vars y
    exact tile_entry x0 x1 x2 x3 x4 x5 x6 x7 x8 x9 x10 (View.ld x4 r0_0) (View.ld x0 r0_23) (View.ld x1 r0_8) (View.ld x2 r0_9)
      (View.ld x3 r0_8) (View.ld x5 r0_3) (View.ld x6 r0_12) (View.ld x6 r0_13) (View.ld x7 r0_14) (View.ld x6 r0_15)
      (View.ld x6 r0_16) (View.ld x7 r0_17) (View.ld x6 r0_18) (View.ld x6 r0_19) (View.ld x7 r0_20) (View.ld x8 r0_11)
      (View.ld x9 r0_11) (View.ld x10 r0_11) y0 i y1 c 768 (by omega) (by omega)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise)
  case piece1 =>
    idx_vars y
    exact tile_entry x0 x1 x2 x3 x4 x5 x6 x7 x8 x9 x10 (View.ld x4 r0_0) (View.ld x0 r0_22) (View.ld x1 r0_6) (View.ld x2 r0_7)
      (View.ld x3 r0_6) (View.ld x5 r0_3) (View.ld x6 r0_12) (View.ld x6 r0_13) (View.ld x7 r0_14) (View.ld x6 r0_15)
      (View.ld x6 r0_16) (View.ld x7 r0_17) (View.ld x6 r0_18) (View.ld x6 r0_19) (View.ld x7 r0_20) (View.ld x8 r0_11)
      (View.ld x9 r0_11) (View.ld x10 r0_11) y0 i y1 c 512 (by omega) (by omega)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise)
  case piece2 =>
    idx_vars y
    exact tile_entry x0 x1 x2 x3 x4 x5 x6 x7 x8 x9 x10 (View.ld x4 r0_0) (View.ld x0 r0_21) (View.ld x1 r0_4) (View.ld x2 r0_5)
      (View.ld x3 r0_4) (View.ld x5 r0_3) (View.ld x6 r0_12) (View.ld x6 r0_13) (View.ld x7 r0_14) (View.ld x6 r0_15)
      (View.ld x6 r0_16) (View.ld x7 r0_17) (View.ld x6 r0_18) (View.ld x6 r0_19) (View.ld x7 r0_20) (View.ld x8 r0_11)
      (View.ld x9 r0_11) (View.ld x10 r0_11) y0 i y1 c 256 (by omega) (by omega)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise)
  case piece3 =>
    idx_vars y
    exact tile_entry x0 x1 x2 x3 x4 x5 x6 x7 x8 x9 x10 (View.ld x4 r0_0) (View.ld x0 r0_10) (View.ld x1 r0_1) (View.ld x2 r0_2)
      (View.ld x3 r0_1) (View.ld x5 r0_3) (View.ld x6 r0_12) (View.ld x6 r0_13) (View.ld x7 r0_14) (View.ld x6 r0_15)
      (View.ld x6 r0_16) (View.ld x7 r0_17) (View.ld x6 r0_18) (View.ld x6 r0_19) (View.ld x7 r0_20) (View.ld x8 r0_11)
      (View.ld x9 r0_11) (View.ld x10 r0_11) y0 i y1 c 0 (by omega) (by omega)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise) (by intros; pointwise) (by intros; pointwise)
      (by intros; pointwise) (by intros; pointwise) (by intros; pointwise)
end

end Cert.SecondHalf
-- ==== Proof.Post.Operands.lean ====
module

public import proofs.«01_k».proof.Proof.Gen.PostIdeal.Frame
public import proofs.«01_k».proof.Proof.Post.Row
public import Idealize.ShloMosaic.Lib.Pointwise
public import Idealize.ShloMosaic.Lib.Claim
public import Idealize.ShloMosaic.Lib.Pipeline.ValueKit

/-!
The blocks that each grid point of the second half's call reads, in terms of the program's arguments:
1024 tokens of one sample, that sample's modulation vectors, and layer 3's weights.
-/

@[expose] public section

set_option maxRecDepth 16384

noncomputable section

namespace Cert.SecondHalf

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ)

/-- The blocks' positions at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![24 + t.val / 2, 0, 0]
    ∧ win0_5.index t = ![0, 0]
    ∧ win0_6.index t = ![0, 0]
    ∧ win0_7.index t = ![0, 0]
    ∧ win0_8.index t = ![3, 0, 0]
    ∧ win0_9.index t = ![3, 0, 0]
    ∧ win0_10.index t = ![3, 0, 0]
    ∧ win0_11.index t = ![t.val, 0] :=
  (by decide +kernel : ∀ t : Fin grid0.N, _)

theorem lt_points (t : Fin cfg0.N) : t.val < 8 := lt_of_lt_of_eq t.isLt N_0

section
variable (c : Dev nD) (t : Fin cfg0.N)

theorem token_block (i k : Fin 1024) : iblk m c 0 t (ix2 i k) = (m ((c : Thread nD τ).loc main_arg0)) (ix3 ⟨t.val / 2, by have := lt_points t; omega⟩ ⟨t.val % 2 * 1024 + i, by omega⟩ k) := by
  have := lt_points t
  blk_point [iblk, V, idx_val t]

theorem global_block (i : Fin 1024) (k : Fin 384) : iblk m c 1 t (ix2 i k) = (m ((c : Thread nD τ).loc main_arg1)) (ix4 ⟨t.val / 2, by have := lt_points t; omega⟩ ⟨t.val % 2 * 1024 + i, by omega⟩ ⟨k / 64, by omega⟩ ⟨k % 64, by omega⟩) := by
  have := lt_points t
  blk_point [iblk, V, idx_val t]

theorem retention_block (i : Fin 1024) (k : Fin 256) : iblk m c 2 t (ix2 i k) = (m ((c : Thread nD τ).loc main_arg2)) (ix4 ⟨t.val / 2, by have := lt_points t; omega⟩ ⟨t.val % 2 * 1024 + i, by omega⟩ ⟨k / 64, by omega⟩ ⟨k % 64, by omega⟩) := by
  have := lt_points t
  blk_point [iblk, V, idx_val t]

theorem window_block (i : Fin 1024) (k : Fin 384) : iblk m c 3 t (ix2 i k) = (m ((c : Thread nD τ).loc main_arg3)) (ix4 ⟨t.val / 2, by have := lt_points t; omega⟩ ⟨t.val % 2 * 1024 + i, by omega⟩ ⟨k / 64, by omega⟩ ⟨k % 64, by omega⟩) := by
  have := lt_points t
  blk_point [iblk, V, idx_val t]

theorem modulation_block (k : Fin 6144) : iblk m c 4 t (ix3 0 0 k) = (m ((c : Thread nD τ).loc main_arg4)) (ix3 3 ⟨t.val / 2, by have := lt_points t; omega⟩ k) := by
  have := lt_points t
  blk_point [iblk, V, idx_val t]

theorem out_block (k j : Fin 1024) : iblk m c 5 t (ix2 k j) = (m ((c : Thread nD τ).loc main_arg5)) (ix3 3 k j) := by
  have := lt_points t
  blk_point [iblk, V, idx_val t]

theorem up_block (d : Fin 1024) (f : Fin 5632) : iblk m c 6 t (ix2 d f) = (m ((c : Thread nD τ).loc main_arg6)) (ix3 3 d f) := by
  have := lt_points t
  blk_point [iblk, V, idx_val t]

theorem down_block (f : Fin 2816) (j : Fin 1024) : iblk m c 7 t (ix2 f j) = (m ((c : Thread nD τ).loc main_arg7)) (ix3 3 f j) := by
  have := lt_points t
  blk_point [iblk, V, idx_val t]

theorem gain_block (k : Fin 1024) : iblk m c 8 t (ix3 0 0 k) = (m ((c : Thread nD τ).loc main_arg8)) (ix2 3 k) := by
  have := lt_points t
  blk_point [iblk, V, idx_val t]

theorem gain'_block (k : Fin 1024) : iblk m c 9 t (ix3 0 0 k) = (m ((c : Thread nD τ).loc main_arg9)) (ix2 3 k) := by
  have := lt_points t
  blk_point [iblk, V, idx_val t]

theorem gain''_block (k : Fin 1024) : iblk m c 10 t (ix3 0 0 k) = (m ((c : Thread nD τ).loc main_arg10)) (ix2 3 k) := by
  have := lt_points t
  blk_point [iblk, V, idx_val t]
end

end Cert.SecondHalf
-- ==== Proof.Post.Ref.lean ====
module

public import proofs.«01_k».proof.Proof.Gen.PostRefIdeal
public import Idealize.ShloMosaic.Lib.Pointwise
public import Idealize.ShloMosaic.Lib.Claim
public import Idealize.ShloMosaic.Lib.Pipeline.ValueKit

/-!
The reference of the layer's second half, cut into its steps.
-/

@[expose] public section

set_option maxRecDepth 16384

noncomputable section

namespace Cert.SecondHalf

open Idealize.ShloMosaic Idealize.ShloMosaic.TcCoe Idealize.SL.Sem
open Cert.PostRefIdeal Cert.PostRefIdeal.Gen

/-- The samples' modulation vectors at layer 3. -/
abbrev refMod (t : FVec Ideal S4x8x6144 .f32) : FVec Ideal S4x1x6144 .f32 :=
  broadcastInDim S4x1x6144 ![0, 2] bcast_S4x6144_S4x1x6144_0_2
    (shapeCast S4x6144 (extractStridedSlice S1x4x6144 ![3, 0, 0] t slices_S4x8x6144_S1x4x6144_3_0_0)
      shapeCasts_S1x4x6144_S4x6144)

/-- A modulation vector at every token. -/
abbrev refSpread (s : FVec Ideal S4x1x1024 .f32) : FVec Ideal S4x2048x1024 .f32 :=
  broadcastInDim S4x2048x1024 ![0, 1, 2] bcast_S4x1x1024_S4x2048x1024_0_1_2 s

/-- A gain at layer 3. -/
abbrev refGain (g : FVec Ideal S4x1024 .f32) : FVec Ideal S1024 .f32 :=
  shapeCast S1024 (extractStridedSlice S1x1024 ![3, 0] g slices_S4x1024_S1x1024_3_0) shapeCasts_S1x1024_S1024

/-- The normalization of every row, with a gain. -/
abbrev refNorm (x : FVec Ideal S4x2048x1024 .f32) (g : FVec Ideal S1024 .f32) : FVec Ideal S4x2048x1024 .f32 :=
  mulf
    (mulf x (broadcastInDim S4x2048x1024 ![0, 1, 2] bcast_S4x2048x1_S4x2048x1024_0_1_2
      (Host.rsqrt (addf
        (Host.divf
          (broadcastInDim S4x2048x1 ![0, 1] bcast_S4x2048_S4x2048x1_0_1
            (Host.reduceAdd (mulf x x) (constant S_ .f32 0x00000000#32) reducesTo_S4x2048x1024_S4x2048_d2 h_S_))
          (broadcastInDim S4x2048x1 ![] bcast_S_S4x2048x1 (constant S_ .f32 0x44800000#32)))
        (broadcastInDim S4x2048x1 ![] bcast_S_S4x2048x1 (constant S_ .f32 0x358637BD#32))))))
    (broadcastInDim S4x2048x1024 ![0, 1, 2] bcast_S1x1x1024_S4x2048x1024_0_1_2
      (broadcastInDim S1x1x1024 ![2] bcast_S1024_S1x1x1024_2 g))

/-- The attention's three parts side by side. -/
abbrev refMerged (a : FVec Ideal S4x2048x6x64 .f32) (r : FVec Ideal S4x2048x4x64 .f32) (w : FVec Ideal S4x2048x6x64 .f32) :
    FVec Ideal S4x2048x1024 .f32 :=
  concatenate S4x2048x1024 2
    [⟨S4x2048x384, shapeCast S4x2048x384 a shapeCasts_S4x2048x6x64_S4x2048x384⟩,
      ⟨S4x2048x256, shapeCast S4x2048x256 r shapeCasts_S4x2048x4x64_S4x2048x256⟩,
      ⟨S4x2048x384, shapeCast S4x2048x384 w shapeCasts_S4x2048x6x64_S4x2048x384⟩]
    concatenates_S4x2048x384_S4x2048x256_S4x2048x384_S4x2048x1024_d2

/-- The output projection. -/
abbrev refMixed (u : FVec Ideal S4x2048x1024 .f32) (w : FVec Ideal S4x1024x1024 .f32) : FVec Ideal S4x2048x1024 .f32 :=
  Host.dotGeneral dot_S4x2048x1024_S1024x1024_S4x2048x1024_2_0_01_1_n_n none u
    (shapeCast S1024x1024 (extractStridedSlice S1x1024x1024 ![3, 0, 0] w slices_S4x1024x1024_S1x1024x1024_3_0_0)
      shapeCasts_S1x1024x1024_S1024x1024)

/-- A gated residual. -/
abbrev refResidual (gt : FVec Ideal S4x1x1024 .f32) (v x : FVec Ideal S4x2048x1024 .f32) (g : FVec Ideal S4x1024 .f32) :
    FVec Ideal S4x2048x1024 .f32 :=
  addf x (mulf (refSpread gt) (refNorm v (refGain g)))

/-- The modulated input of the feed-forward block. -/
abbrev refModulated (sh sc : FVec Ideal S4x1x1024 .f32) (v : FVec Ideal S4x2048x1024 .f32) (g : FVec Ideal S4x1024 .f32) :
    FVec Ideal S4x2048x1024 .f32 :=
  addf (mulf (refNorm v (refGain g))
      (refSpread (addf (broadcastInDim S4x1x1024 ![] bcast_S_S4x1x1024 (constant S_ .f32 0x3F800000#32)) sc)))
    (refSpread sh)

/-- Both halves of the hidden features. -/
abbrev refUp (h : FVec Ideal S4x2048x1024 .f32) (w : FVec Ideal S4x1024x5632 .f32) : FVec Ideal S4x2048x5632 .f32 :=
  Host.dotGeneral dot_S4x2048x1024_S1024x5632_S4x2048x5632_2_0_01_1_n_n none h
    (shapeCast S1024x5632 (extractStridedSlice S1x1024x5632 ![3, 0, 0] w slices_S4x1024x5632_S1x1024x5632_3_0_0)
      shapeCasts_S1x1024x5632_S1024x5632)

/-- The activation. -/
abbrev refSilu (a : FVec Ideal S4x2048x2816 .f32) : FVec Ideal S4x2048x2816 .f32 :=
  mulf a (Host.divf (broadcastInDim S4x2048x2816 ![] bcast_S_S4x2048x2816 (constant S_ .f32 0x3F800000#32))
    (addf (broadcastInDim S4x2048x2816 ![] bcast_S_S4x2048x2816 (constant S_ .f32 0x3F800000#32)) (Host.exp (Host.negf a))))

/-- The gated hidden features. -/
abbrev refHidden (u : FVec Ideal S4x2048x5632 .f32) : FVec Ideal S4x2048x2816 .f32 :=
  mulf (refSilu (extractStridedSlice S4x2048x2816 ![0, 0, 0] u slices_S4x2048x5632_S4x2048x2816_0_0_0))
    (extractStridedSlice S4x2048x2816 ![0, 0, 2816] u slices_S4x2048x5632_S4x2048x2816_0_0_2816)

/-- The feed-forward block's output. -/
abbrev refDown (f : FVec Ideal S4x2048x2816 .f32) (w : FVec Ideal S4x2816x1024 .f32) : FVec Ideal S4x2048x1024 .f32 :=
  Host.dotGeneral dot_S4x2048x2816_S2816x1024_S4x2048x1024_2_0_01_1_n_n none f
    (shapeCast S2816x1024 (extractStridedSlice S1x2816x1024 ![3, 0, 0] w slices_S4x2816x1024_S1x2816x1024_3_0_0)
      shapeCasts_S1x2816x1024_S2816x1024)

/-- The residual stream between the attention and the feed-forward block. -/
abbrev refMiddle (x : FVec Ideal S4x2048x1024 .f32) (a : FVec Ideal S4x2048x6x64 .f32) (r : FVec Ideal S4x2048x4x64 .f32)
    (w : FVec Ideal S4x2048x6x64 .f32) (t : FVec Ideal S4x8x6144 .f32) (wo : FVec Ideal S4x1024x1024 .f32)
    (g : FVec Ideal S4x1024 .f32) : FVec Ideal S4x2048x1024 .f32 :=
  refResidual (extractStridedSlice S4x1x1024 ![0, 0, 2048] (refMod t) slices_S4x1x6144_S4x1x1024_0_0_2048)
    (refMixed (refMerged a r w) wo) x g

/-- The feed-forward block of a residual stream. -/
abbrev refForward (y : FVec Ideal S4x2048x1024 .f32) (t : FVec Ideal S4x8x6144 .f32) (wu : FVec Ideal S4x1024x5632 .f32)
    (wd : FVec Ideal S4x2816x1024 .f32) (g : FVec Ideal S4x1024 .f32) : FVec Ideal S4x2048x1024 .f32 :=
  refDown (refHidden (refUp (refModulated
    (extractStridedSlice S4x1x1024 ![0, 0, 3072] (refMod t) slices_S4x1x6144_S4x1x1024_0_0_3072)
    (extractStridedSlice S4x1x1024 ![0, 0, 4096] (refMod t) slices_S4x1x6144_S4x1x1024_0_0_4096) y g) wu)) wd

/-- The last residual, a row per token. -/
abbrev refLast (y : FVec Ideal S4x2048x1024 .f32) (t : FVec Ideal S4x8x6144 .f32) (f : FVec Ideal S4x2048x1024 .f32)
    (g : FVec Ideal S4x1024 .f32) : FVec Ideal S8192x1024 .f32 :=
  shapeCast S8192x1024
    (refResidual (extractStridedSlice S4x1x1024 ![0, 0, 5120] (refMod t) slices_S4x1x6144_S4x1x1024_0_0_5120) f y g)
    shapeCasts_S4x2048x1024_S8192x1024

/-- The second half's output from the residual stream in its middle. -/
abbrev refFrom (y : FVec Ideal S4x2048x1024 .f32) (t : FVec Ideal S4x8x6144 .f32) (wu : FVec Ideal S4x1024x5632 .f32)
    (wd : FVec Ideal S4x2816x1024 .f32) (g' g'' : FVec Ideal S4x1024 .f32) : FVec Ideal S8192x1024 .f32 :=
  refLast y t (refForward y t wu wd g') g''

end Cert.SecondHalf
-- ==== Proof.Post.RefAt.lean ====
module

public import proofs.«01_k».proof.Proof.Gen.PostRefIdeal
public import proofs.«01_k».proof.Proof.Post.Ref
public import proofs.«01_k».proof.Proof.Post.Row
public import Idealize.ShloMosaic.Lib.Pointwise
public import Idealize.ShloMosaic.Lib.Claim
public import Idealize.ShloMosaic.Lib.Pipeline.ValueKit

/-!
The reference of the second half, read at one entry, step by step.
-/

@[expose] public section

set_option maxRecDepth 16384

noncomputable section

namespace Cert.SecondHalf

open Idealize.ShloMosaic Idealize.ShloMosaic.TcCoe Idealize.SL.Sem
open Cert.PostRefIdeal Cert.PostRefIdeal.Gen

theorem refMod_at (t : FVec Ideal S4x8x6144 .f32) (b : Fin 4) (k : Fin 6144) :
    refMod t (ix3 b 0 k) = t (ix3 3 ⟨b, by omega⟩ k) := by
  pointwise [refMod]

/-- The normalization of a row, with its gain. -/
theorem refNorm_at (x : FVec Ideal S4x2048x1024 .f32) (g : FVec Ideal S1024 .f32) (b : Fin 4) (n : Fin 2048) (j : Fin 1024) :
    refNorm x g (ix3 b n j) = unit (fun k => x (ix3 b n k)) j * g (ix1 j) := by
  pointwise [refNorm]
  rfl

theorem refGain_at (g : FVec Ideal S4x1024 .f32) (j : Fin 1024) : refGain g (ix1 j) = g (ix2 3 j) := by
  pointwise [refGain]

theorem refSpread_at (s : FVec Ideal S4x1x1024 .f32) (b : Fin 4) (n : Fin 2048) (j : Fin 1024) :
    refSpread s (ix3 b n j) = s (ix3 b 0 j) := by
  pointwise [refSpread]

theorem refMerged_at (a : FVec Ideal S4x2048x6x64 .f32) (r : FVec Ideal S4x2048x4x64 .f32) (w : FVec Ideal S4x2048x6x64 .f32)
    (b : Fin 4) (n : Fin 2048) (k : Fin 1024) :
    refMerged a r w (ix3 b n k)
      = merged (fun l => a (ix4 b n ⟨l / 64, by omega⟩ ⟨l % 64, by omega⟩))
          (fun l => r (ix4 b n ⟨l / 64, by omega⟩ ⟨l % 64, by omega⟩))
          (fun l => w (ix4 b n ⟨l / 64, by omega⟩ ⟨l % 64, by omega⟩)) k := by
  unfold merged
  pointwise [refMerged]

theorem refMixed_at (u : FVec Ideal S4x2048x1024 .f32) (w : FVec Ideal S4x1024x1024 .f32) (b : Fin 4) (n : Fin 2048)
    (j : Fin 1024) : refMixed u w (ix3 b n j) = ∑ k, u (ix3 b n k) * w (ix3 3 k j) := by
  pointwise [refMixed]

theorem refResidual_at (gt : FVec Ideal S4x1x1024 .f32) (v x : FVec Ideal S4x2048x1024 .f32) (g : FVec Ideal S4x1024 .f32)
    (b : Fin 4) (n : Fin 2048) (j : Fin 1024) :
    refResidual gt v x g (ix3 b n j)
      = residual (fun k => gt (ix3 b 0 k)) (fun k => v (ix3 b n k)) (fun k => x (ix3 b n k)) (fun k => g (ix2 3 k)) j := by
  have e : refResidual gt v x g (ix3 b n j) = x (ix3 b n j) + refSpread gt (ix3 b n j) * refNorm v (refGain g) (ix3 b n j) := rfl
  rw [e, refSpread_at, refNorm_at, refGain_at]
  rfl

theorem refModulated_at (sh sc : FVec Ideal S4x1x1024 .f32) (v : FVec Ideal S4x2048x1024 .f32) (g : FVec Ideal S4x1024 .f32)
    (b : Fin 4) (n : Fin 2048) (j : Fin 1024) :
    refModulated sh sc v g (ix3 b n j)
      = modulated (fun k => sh (ix3 b 0 k)) (fun k => sc (ix3 b 0 k)) (fun k => v (ix3 b n k)) (fun k => g (ix2 3 k)) j := by
  have e : refModulated sh sc v g (ix3 b n j)
      = refNorm v (refGain g) (ix3 b n j)
          * refSpread (addf (broadcastInDim S4x1x1024 ![] bcast_S_S4x1x1024 (constant S_ .f32 0x3F800000#32)) sc) (ix3 b n j)
        + refSpread sh (ix3 b n j) := rfl
  have o : (addf (broadcastInDim S4x1x1024 ![] bcast_S_S4x1x1024 (constant S_ .f32 0x3F800000#32)) sc) (ix3 b 0 j)
      = 1 + sc (ix3 b 0 j) := by pointwise
  rw [e, refNorm_at, refGain_at, refSpread_at, refSpread_at, o, modulated_eq]

theorem refUp_at (h : FVec Ideal S4x2048x1024 .f32) (w : FVec Ideal S4x1024x5632 .f32) (b : Fin 4) (n : Fin 2048)
    (f : Fin 5632) : refUp h w (ix3 b n f) = ∑ d, h (ix3 b n d) * w (ix3 3 d f) := by
  pointwise [refUp]

theorem refHidden_at (u : FVec Ideal S4x2048x5632 .f32) (b : Fin 4) (n : Fin 2048) (f : Fin 2816) :
    refHidden u (ix3 b n f) = act (u (ix3 b n ⟨f, by omega⟩)) (u (ix3 b n ⟨2816 + f, by omega⟩)) := by
  rw [act_eq]
  pointwise [refHidden, refSilu]

theorem refDown_at (f : FVec Ideal S4x2048x2816 .f32) (w : FVec Ideal S4x2816x1024 .f32) (b : Fin 4) (n : Fin 2048)
    (j : Fin 1024) : refDown f w (ix3 b n j) = ∑ k, f (ix3 b n k) * w (ix3 3 k j) := by
  pointwise [refDown]

/-- A modulation vector of sample `b`. -/
theorem refPart_at (s : FVec Ideal S4x1x6144 .f32) (b : Fin 4) (k : Fin 1024) :
    extractStridedSlice S4x1x1024 ![0, 0, 2048] s slices_S4x1x6144_S4x1x1024_0_0_2048 (ix3 b 0 k)
        = s (ix3 b 0 ⟨2048 + k, by omega⟩)
      ∧ extractStridedSlice S4x1x1024 ![0, 0, 3072] s slices_S4x1x6144_S4x1x1024_0_0_3072 (ix3 b 0 k)
        = s (ix3 b 0 ⟨3072 + k, by omega⟩)
      ∧ extractStridedSlice S4x1x1024 ![0, 0, 4096] s slices_S4x1x6144_S4x1x1024_0_0_4096 (ix3 b 0 k)
        = s (ix3 b 0 ⟨4096 + k, by omega⟩)
      ∧ extractStridedSlice S4x1x1024 ![0, 0, 5120] s slices_S4x1x6144_S4x1x1024_0_0_5120 (ix3 b 0 k)
        = s (ix3 b 0 ⟨5120 + k, by omega⟩) := by
  refine ⟨?_, ?_, ?_, ?_⟩ <;> pointwise

theorem refMiddle_at (x : FVec Ideal S4x2048x1024 .f32) (a : FVec Ideal S4x2048x6x64 .f32) (r : FVec Ideal S4x2048x4x64 .f32)
    (w : FVec Ideal S4x2048x6x64 .f32) (t : FVec Ideal S4x8x6144 .f32) (wo : FVec Ideal S4x1024x1024 .f32)
    (g : FVec Ideal S4x1024 .f32) (b : Fin 4) (n : Fin 2048) (j : Fin 1024) :
    refMiddle x a r w t wo g (ix3 b n j)
      = residual (fun k => t (ix3 3 ⟨b, by omega⟩ ⟨2048 + k, by omega⟩))
          (fun j => ∑ k, merged (fun l => a (ix4 b n ⟨l / 64, by omega⟩ ⟨l % 64, by omega⟩))
            (fun l => r (ix4 b n ⟨l / 64, by omega⟩ ⟨l % 64, by omega⟩))
            (fun l => w (ix4 b n ⟨l / 64, by omega⟩ ⟨l % 64, by omega⟩)) k * wo (ix3 3 k j))
          (fun k => x (ix3 b n k)) (fun k => g (ix2 3 k)) j := by
  refine (refResidual_at _ _ x g b n j).trans ?_
  simp only [refMixed_at, refMerged_at, (refPart_at _ b _).1, refMod_at]

theorem refForward_at (y : FVec Ideal S4x2048x1024 .f32) (t : FVec Ideal S4x8x6144 .f32) (wu : FVec Ideal S4x1024x5632 .f32)
    (wd : FVec Ideal S4x2816x1024 .f32) (g : FVec Ideal S4x1024 .f32) (b : Fin 4) (n : Fin 2048) (j : Fin 1024) :
    refForward y t wu wd g (ix3 b n j)
      = forward (modulated (fun k => t (ix3 3 ⟨b, by omega⟩ ⟨3072 + k, by omega⟩))
            (fun k => t (ix3 3 ⟨b, by omega⟩ ⟨4096 + k, by omega⟩)) (fun k => y (ix3 b n k)) (fun k => g (ix2 3 k)))
          (fun d f => wu (ix3 3 d ⟨f, by omega⟩)) (fun d f => wu (ix3 3 d ⟨2816 + f, by omega⟩)) (fun f => wd (ix3 3 f j)) := by
  refine (refDown_at _ wd b n j).trans ?_
  unfold forward feature
  simp only [refHidden_at, refUp_at, refModulated_at, (refPart_at _ b _).2.1, (refPart_at _ b _).2.2.1, refMod_at]

theorem refLast_at (y : FVec Ideal S4x2048x1024 .f32) (t : FVec Ideal S4x8x6144 .f32) (f : FVec Ideal S4x2048x1024 .f32)
    (g : FVec Ideal S4x1024 .f32) (i : Fin 8192) (j : Fin 1024) :
    refLast y t f g (ix2 i j)
      = residual (fun k => t (ix3 3 ⟨i / 2048, by omega⟩ ⟨5120 + k, by omega⟩))
          (fun k => f (ix3 ⟨i / 2048, by omega⟩ ⟨i % 2048, by omega⟩ k))
          (fun k => y (ix3 ⟨i / 2048, by omega⟩ ⟨i % 2048, by omega⟩ k)) (fun k => g (ix2 3 k)) j := by
  have e : ∀ v : FVec Ideal S4x2048x1024 .f32, shapeCast S8192x1024 v shapeCasts_S4x2048x1024_S8192x1024 (ix2 i j)
      = v (ix3 ⟨i / 2048, by omega⟩ ⟨i % 2048, by omega⟩ j) := fun v => by pointwise
  refine (e _).trans ((refResidual_at _ f y g _ _ j).trans ?_)
  simp only [(refPart_at _ _ _).2.2.2, refMod_at]

/-- One entry of the reference's result. -/
theorem ref_at (x : FVec Ideal S4x2048x1024 .f32) (a : FVec Ideal S4x2048x6x64 .f32) (r : FVec Ideal S4x2048x4x64 .f32)
    (w : FVec Ideal S4x2048x6x64 .f32) (t : FVec Ideal S4x8x6144 .f32) (wo : FVec Ideal S4x1024x1024 .f32)
    (wu : FVec Ideal S4x1024x5632 .f32) (wd : FVec Ideal S4x2816x1024 .f32) (g g' g'' : FVec Ideal S4x1024 .f32)
    (i : Fin 8192) (j : Fin 1024) :
    refFrom (refMiddle x a r w t wo g) t wu wd g' g'' (ix2 i j)
      = outRow (fun k => t (ix3 3 ⟨i / 2048, by omega⟩ ⟨2048 + k, by omega⟩))
          (fun k => t (ix3 3 ⟨i / 2048, by omega⟩ ⟨3072 + k, by omega⟩))
          (fun k => t (ix3 3 ⟨i / 2048, by omega⟩ ⟨4096 + k, by omega⟩))
          (fun k => t (ix3 3 ⟨i / 2048, by omega⟩ ⟨5120 + k, by omega⟩))
          (fun k => x (ix3 ⟨i / 2048, by omega⟩ ⟨i % 2048, by omega⟩ k))
          (merged (fun l => a (ix4 ⟨i / 2048, by omega⟩ ⟨i % 2048, by omega⟩ ⟨l / 64, by omega⟩ ⟨l % 64, by omega⟩))
            (fun l => r (ix4 ⟨i / 2048, by omega⟩ ⟨i % 2048, by omega⟩ ⟨l / 64, by omega⟩ ⟨l % 64, by omega⟩))
            (fun l => w (ix4 ⟨i / 2048, by omega⟩ ⟨i % 2048, by omega⟩ ⟨l / 64, by omega⟩ ⟨l % 64, by omega⟩)))
          (fun k j => wo (ix3 3 k j)) (fun d f => wu (ix3 3 d ⟨f, by omega⟩)) (fun d f => wu (ix3 3 d ⟨2816 + f, by omega⟩))
          (fun f j => wd (ix3 3 f j)) (fun k => g (ix2 3 k)) (fun k => g' (ix2 3 k)) (fun k => g'' (ix2 3 k)) j := by
  refine (refLast_at _ t _ g'' i j).trans ?_
  unfold outRow
  simp only [refForward_at, refMiddle_at]

end Cert.SecondHalf
-- ==== Proof.Post.Value.lean ====
module

public import proofs.«01_k».proof.Proof.Gen.PostIdeal.Frame
public import proofs.«01_k».proof.Proof.Post.Block
public import proofs.«01_k».proof.Proof.Post.Operands
public import proofs.«01_k».proof.Proof.Post.RefAt
public import Idealize.ShloMosaic.Lib.Pointwise
public import Idealize.ShloMosaic.Lib.Claim
public import Idealize.ShloMosaic.Lib.Pipeline.ValueKit

/-!
What the second half's kernel leaves in its output array: every block of it is the reference's, so the
array is the reference's.
-/

@[expose] public section

set_option maxRecDepth 16384

noncomputable section

namespace Cert.SecondHalf

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ)

/-- The reference's result at the kernel's arguments. -/
abbrev refOut (c : Dev nD) :=
  refFrom (refMiddle (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg8)))
    (m ((c : Thread nD τ).loc main_arg4)) (m ((c : Thread nD τ).loc main_arg6)) (m ((c : Thread nD τ).loc main_arg7))
    (m ((c : Thread nD τ).loc main_arg9)) (m ((c : Thread nD τ).loc main_arg10))

/-- One entry of a grid point's block. -/
theorem entry_ref (c : Dev nD) (t : Fin cfg0.N) (i j : Fin 1024) (r : Fin 8192) (hr : (r : ℕ) = t.val * 1024 + i) :
    entry (iblk m c 0 t) (iblk m c 1 t) (iblk m c 2 t) (iblk m c 3 t) (iblk m c 4 t) (iblk m c 5 t) (iblk m c 6 t)
        (iblk m c 7 t) (iblk m c 8 t) (iblk m c 9 t) (iblk m c 10 t) i j
      = refOut m c (ix2 r j) := by
  have ht := lt_points t
  have hb : (⟨r / 2048, by omega⟩ : Fin 4) = ⟨t.val / 2, by omega⟩ := Fin.ext (by simp only []; omega)
  have hb' : (⟨r / 2048, by omega⟩ : Fin 8) = ⟨t.val / 2, by omega⟩ := Fin.ext (by simp only []; omega)
  have hn : (⟨r % 2048, by omega⟩ : Fin 2048) = ⟨t.val % 2 * 1024 + i, by omega⟩ := Fin.ext (by simp only []; omega)
  refine Eq.trans ?_ (ref_at _ _ _ _ _ _ _ _ _ _ _ r j).symm
  unfold entry
  simp only [token_block, global_block, retention_block, window_block, modulation_block, out_block, up_block, down_block,
    gain_block, gain'_block, gain''_block, hb, hb', hn]

theorem final (c : Dev nD) : (dats m 0 c).arrAt 11 (cfgs 0).N = refOut m c := by
  refine (dats m 0 c).arrAt_eq_of_covers 11 _ (by decide +kernel) fun t hf y => ?_
  have ht := lt_points t
  blk_simp; rw [after0_11]
  idx_vars y
  rw [block_at]
  refine (entry_ref m c t y0 y1 ⟨t.val * 1024 + y0, by omega⟩ rfl).trans ?_
  blk_ext [idx_val t]

end Cert.SecondHalf
-- ==== Proof.Post.RefParts.lean ====
module

public import proofs.«01_k».proof.Proof.Gen.PostRefIdeal
public import proofs.«01_k».proof.Proof.Post.Ref
public import Idealize.ShloMosaic.Lib.StableHlo.RunHlo
public import Idealize.ShloMosaic.Lib.StableHlo.RunRead
public import Idealize.ShloMosaic.Lib.Pointwise
public import Idealize.ShloMosaic.Lib.Claim

/-!
What the two parts of the second half's reference leave in the arrays that matter afterwards: the first
part ends with the residual stream in the middle and its scaled normalization, the second with the result.
-/

@[expose] public section

set_option maxRecDepth 16384

noncomputable section

namespace Cert.SecondHalf

open Idealize.ShloMosaic Idealize.ShloMosaic.TcCoe Idealize.SL.Sem Idealize.ShloMosaic.StableHlo
open Cert.PostRefIdeal Cert.PostRefIdeal.Gen

/-- The contents of the reference's arrays. -/
abbrev Arrays : Type := Valuation τ sig (Elt Ideal)

/-- A line of operations that touches no array of its own and allocates nothing. -/
def Plain (ops : List (HloOp τ sig (Elt Ideal))) : Prop :=
  (ops.Forall fun op => op.bufs ⊆ tcRefs τ sig) ∧ ∀ op ∈ ops, op.fresh = ∅

/-- The residual stream in the middle, from the arguments. -/
abbrev middleOf (V : Arrays) : FVec Ideal S4x2048x1024 .f32 :=
  refMiddle (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg8))

set_option maxHeartbeats 2000000 in
theorem first_part : ∃ ops : List (HloOp τ sig (Elt Ideal)), (∀ d, IsSeq (main_part0 (F := Ideal) d) ops) ∧ Plain ops
    ∧ ∀ V : Arrays,
      after ops V (Proc.devRef .tc main_v33) = middleOf V
      ∧ after ops V (Proc.devRef .tc main_v52)
        = mulf (refNorm (middleOf V) (refGain (V (Proc.devRef .tc main_arg9))))
            (refSpread (addf (broadcastInDim S4x1x1024 ![] bcast_S_S4x1x1024 (constant S_ .f32 0x3F800000#32))
              (extractStridedSlice S4x1x1024 ![0, 0, 4096] (refMod (V (Proc.devRef .tc main_arg4))) slices_S4x1x6144_S4x1x1024_0_0_4096)))
      ∧ after ops V (Proc.devRef .tc main_v6)
        = extractStridedSlice S4x1x1024 ![0, 0, 3072] (refMod (V (Proc.devRef .tc main_arg4))) slices_S4x1x6144_S4x1x1024_0_0_3072
      ∧ after ops V (Proc.devRef .tc main_v8)
        = extractStridedSlice S4x1x1024 ![0, 0, 5120] (refMod (V (Proc.devRef .tc main_arg4))) slices_S4x1x6144_S4x1x1024_0_0_5120
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_, ?_, ?_, ?_⟩
  all_goals after_reads_simp
  all_goals rfl

set_option maxHeartbeats 2000000 in
theorem second_part : ∃ ops : List (HloOp τ sig (Elt Ideal)), (∀ d, IsSeq (main_part1 (F := Ideal) d) ops) ∧ Plain ops
    ∧ ∀ V : Arrays,
      after ops V (Proc.devRef .tc main_v83)
        = shapeCast S8192x1024
            (refResidual (V (Proc.devRef .tc main_v8))
              (refDown (refHidden (refUp (addf (V (Proc.devRef .tc main_v52)) (refSpread (V (Proc.devRef .tc main_v6))))
                (V (Proc.devRef .tc main_arg6)))) (V (Proc.devRef .tc main_arg7)))
              (V (Proc.devRef .tc main_v33)) (V (Proc.devRef .tc main_arg10)))
            shapeCasts_S4x2048x1024_S8192x1024
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_⟩
  all_goals after_reads_simp
  all_goals rfl

end Cert.SecondHalf
-- ==== Proof.Post.RefRun.lean ====
module

public import proofs.«01_k».proof.Proof.Gen.PostRefIdeal
public import proofs.«01_k».proof.Proof.Post.RefParts
public import Idealize.ShloMosaic.Lib.Pipeline.Frame
public import Idealize.ShloMosaic.Lib.Pointwise
public import Idealize.ShloMosaic.Lib.Claim
public import Idealize.ShloMosaic.Lib.Pipeline.ValueKit

/-!
What the reference of the second half leaves: its result as a function of its arguments.
-/

@[expose] public section

set_option maxRecDepth 16384

noncomputable section

namespace Cert.SecondHalf

open Idealize.ShloMosaic Idealize.ShloMosaic.TcCoe Idealize.SL.Sem Idealize.ShloMosaic.StableHlo
open Cert.PostRefIdeal Cert.PostRefIdeal.Gen

set_option maxHeartbeats 1600000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v83)
          = refFrom (refMiddle (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg8)))
              (m ((c.tc : Thread nD τ).loc main_arg4)) (m ((c.tc : Thread nD τ).loc main_arg6))
              (m ((c.tc : Thread nD τ).loc main_arg7)) (m ((c.tc : Thread nD τ).loc main_arg9))
              (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) := by
  obtain ⟨ops, hp, hpl, hv⟩ := first_part
  obtain ⟨ops', hp', hpl', hv'⟩ := second_part
  have hmain : ∀ d, IsSeq (main (F := Ideal) d) (ops ++ ops') := fun d => by
    have e : main (F := Ideal) d = main_part0 (F := Ideal) d >>= fun _ => main_part1 (F := Ideal) d := rfl
    unfold IsSeq
    rw [seq_append, ← hp d, ← hp' d, e]
  refine θ_run_mono (run_hlo _ _ hmain (by decide) (by decide)
    (List.forall_append.2 ⟨hpl.1, hpl'.1⟩)
    (fun op h => (List.mem_append.1 h).elim (hpl.2 op) (hpl'.2 op)) m g) fun r hc c => ?_
  obtain ⟨y, v, sh, gt, a0, a1, a2, a3, a4, a5, a6, a7, a8, a9, a10⟩ := hv (launchContents m c)
  obtain ⟨o, b0, b1, b2, b3, b4, b5, b6, b7, b8, b9, b10⟩ := hv' (after ops (launchContents m c))
  refine ⟨?_, (hc c _).trans ?_, (hc c _).trans ?_, (hc c _).trans ?_, (hc c _).trans ?_, (hc c _).trans ?_, (hc c _).trans ?_,
    (hc c _).trans ?_, (hc c _).trans ?_, (hc c _).trans ?_, (hc c _).trans ?_, (hc c _).trans ?_⟩
  · refine (hc c _).trans ?_
    rw [after_append, o, y, v, sh, gt, a6, a7, a10]
  · rw [after_append, b0, a0]
  · rw [after_append, b1, a1]
  · rw [after_append, b2, a2]
  · rw [after_append, b3, a3]
  · rw [after_append, b4, a4]
  · rw [after_append, b5, a5]
  · rw [after_append, b6, a6]
  · rw [after_append, b7, a7]
  · rw [after_append, b8, a8]
  · rw [after_append, b9, a9]
  · rw [after_append, b10, a10]

end Cert.SecondHalf
-- ==== Proof.Post.Claim.lean ====
module

public import proofs.«01_k».proof.Defs
public import proofs.«01_k».proof.Proof.Gen.PostIdeal.Frame
public import proofs.«01_k».proof.Proof.Post.Value
public import proofs.«01_k».proof.Proof.Post.RefRun
public import Idealize.ShloMosaic.Lib.Pointwise
public import Idealize.ShloMosaic.Lib.Claim
public import Idealize.ShloMosaic.Lib.Pipeline.ValueKit

/-!
The second half's claim: from any arguments the kernel and the reference leave the same array.
-/

@[expose] public section

set_option maxRecDepth 16384

noncomputable section

namespace Cert.SecondHalf

open Idealize.ShloMosaic Idealize.ShloMosaic.TcCoe Idealize.SL.Sem

set_option maxHeartbeats 1600000 in
theorem algebraic : Cert.algebraic_PostIdeal_PostRefIdeal (hPostIdeal := Cert.PostIdeal.Gen.facts)
    (hPostRefIdeal := Cert.PostRefIdeal.Gen.facts) := by
  pair_intro
  · run_from Cert.PostIdeal.Gen.run_main m g
  · run_from ref_run m' g'
    exact (final m c).symm

end Cert.SecondHalf
-- ==== Proof.Inp.Row.lean ====
module

public import proofs.«01_k».proof.Proof.Post.Row
public import Idealize.ShloMosaic.PureOps
public import Idealize.ShloMosaic.Lib.Pointwise

/-!
One token's way through a layer's input projection, over the extended reals: the features of a token,
the normalization of one head's 64 features, and the columns the projection stores from them.
-/

@[expose] public section

set_option maxRecDepth 16384

noncomputable section

namespace Cert.Projection

open Idealize.ShloMosaic Idealize.ShloMosaic.TcCoe Idealize.SL.Sem
open Cert.SecondHalf (tiny modulated)

/-- The width of a head, as the divisor of its mean. -/
def headWidth : EReal := Ideal.ofBits .f32 0x42800000#32

/-- The scale of the retention's keys. -/
def keyScale : EReal := Ideal.ofBits .f32 0x3E000000#32

/-- One feature of a token: its modulated row times a column of the weights. -/
def feature (x g sh sc : Fin 1024 → EReal) (w : Fin 1024 → Fin 2304 → EReal) (j : Fin 2304) : EReal :=
  ∑ d, modulated sh sc x g d * w d j

/-- One head's features over the root of their mean square, with a gain. -/
def headNorm (v g : Fin 64 → EReal) (e : Fin 64) : EReal :=
  v e * Ideal.rsqrt (Ideal.div (∑ k, v k * v k) headWidth + tiny) * g e

/-- The normalized features, where those of each group of 64 from column `o` on are one head. -/
def normed (o : ℕ) (p : Fin 2304 → EReal) (g : Fin 64 → EReal) (j : ℕ) (h : o + j < 2304) (ho : o + 64 * (j / 64) + 64 ≤ 2304) : EReal :=
  headNorm (fun e => p ⟨o + 64 * (j / 64) + e, by omega⟩) g ⟨j % 64, by omega⟩

/-- A column of the stored queries: each of the six heads has 128 columns, the head's own 64 features beside
zeros, on the left for the first three heads and on the right for the others. -/
def query (n : Fin 384 → EReal) (c : Fin 768) : EReal :=
  if (c : ℕ) % 128 / 64 = (c : ℕ) / 128 / 3 then n ⟨64 * (c / 128) + c % 64, by omega⟩ else 0

/-- The queries of the attention over the whole sequence. -/
def globalQuery (p : Fin 2304 → EReal) (g : Fin 64 → EReal) : Fin 768 → EReal :=
  query fun j => normed 0 p g j (by omega) (by omega)

/-- The queries of the attention over a window. -/
def windowQuery (p : Fin 2304 → EReal) : Fin 768 → EReal :=
  query fun j => p ⟨1664 + j, by omega⟩

/-- The keys of the attention over the whole sequence. -/
def globalKey (p : Fin 2304 → EReal) (g : Fin 64 → EReal) (c : Fin 128) : EReal :=
  normed 384 p g c (by omega) (by omega)

/-- Its values. -/
def globalValue (p : Fin 2304 → EReal) (c : Fin 128) : EReal := p ⟨512 + c, by omega⟩

/-- The keys of the attention over a window. -/
def windowKey (p : Fin 2304 → EReal) (c : Fin 128) : EReal := p ⟨2048 + c, by omega⟩

/-- Its values. -/
def windowValue (p : Fin 2304 → EReal) (c : Fin 128) : EReal := p ⟨2176 + c, by omega⟩

/-- The retention's queries, keys, values and gates, the keys scaled. -/
def retained (p : Fin 2304 → EReal) (c : Fin 1024) : EReal :=
  if 256 ≤ (c : ℕ) ∧ (c : ℕ) < 512 then p ⟨640 + c, by omega⟩ * keyScale else p ⟨640 + c, by omega⟩

end Cert.Projection
-- ==== Proof.Inp.Stage.lean ====
module

public import proofs.«01_k».proof.Proof.Gen.InpIdeal.Frame
public import proofs.«01_k».proof.Proof.Inp.Row
public import Idealize.ShloMosaic.Lib.Pointwise
public import Idealize.ShloMosaic.Lib.Claim
public import Idealize.ShloMosaic.Lib.Pipeline.ValueKit

/-!
The steps of the kernel of the input projection on one tile of 256 tokens, each in the kernel's own operations
and read at one entry.
-/

@[expose] public section

set_option maxRecDepth 16384

noncomputable section

namespace Cert.Projection

open Idealize.ShloMosaic Idealize.ShloMosaic.TcCoe Idealize.SL.Sem
open Cert.InpIdeal Cert.InpIdeal.Gen
open Cert.SecondHalf (tiny modulated unit meanSq width)

/-- The tile's modulated tokens. -/
abbrev rows (t : Vec Ideal S1x1x6144 .f32) (x : Vec Ideal S256x1024 .f32) (g : Vec Ideal S1x1x1024 .f32) :
    FVec Ideal S256x1024 .bf16 := k0_pay5 t x g

/-- A third of their features. -/
abbrev third (h : FVec Ideal S256x1024 .bf16) (w : Vec Ideal S1024x768 .bf16) : FVec Ideal S256x768 .f32 := k0_pay10 h w

/-- 128 lanes, each head over the root of its mean square, with a gain. -/
abbrev heads (v : FVec Ideal S256x128 .f32) (g : Vec Ideal S1x1x128 .f32) (b : Vec Ideal S128x128 .bf16) :
    FVec Ideal S256x128 .f32 :=
  mulf
    (mulf v (rsqrt (addf
      (matmul dot_S256x128_S128x128_S256x128_1_0_0_1_n_n none (truncf .bf16 (mulf v v) bitsLt_bf16_f32)
        (shapeCast S128x128 b shapeCasts_S128x128_S128x128 : FVec Ideal S128x128 .bf16) (constant S256x128 .f32 0x00000000#32))
      (broadcast S256x128 (Scalar.ofBits .f32 0x358637BD#32 : Ideal .f32)))))
    (broadcastTo S256x128 (shapeCast S1x128 g shapeCasts_S1x1x128_S1x128) broadcasts_S1x128_S256x128)

/-- Which lanes are on the left. -/
abbrev left : IVec S256x128 1 := k0_pay4

/-- Which lanes are on the right. -/
abbrev right : IVec S256x128 1 := xori left (constantI S256x128 1 1#1)

/-- The lanes with their halves exchanged. -/
abbrev turned (v : FVec Ideal S256x128 .f32) : FVec Ideal S256x128 .f32 := dynamicRotate 1 64#32 none v rotates_S256x128_d1

/-- The lanes kept where a mask says, zeros elsewhere. -/
abbrev kept (k : IVec S256x128 1) (v : FVec Ideal S256x128 .f32) : FVec Ideal S256x128 .bf16 :=
  truncf .bf16 (select k v (broadcast S256x128 (Scalar.ofBits .f32 0x00000000#32 : Ideal .f32))) bitsLt_bf16_f32

theorem rows_at (t : Vec Ideal S1x1x6144 .f32) (x : Vec Ideal S256x1024 .f32) (g : Vec Ideal S1x1x1024 .f32) (s : Fin 256)
    (k : Fin 1024) :
    rows t x g (ix2 s k)
      = modulated (fun d => t (ix3 0 0 ⟨d, by omega⟩)) (fun d => t (ix3 0 0 ⟨1024 + d, by omega⟩)) (fun d => x (ix2 s d))
          (fun d => g (ix3 0 0 d)) k := by
  pointwise [rows, k0_pay5, k0_pay3, k0_pay2, k0_pay1]
  unfold modulated unit meanSq tiny width
  blk_point []

theorem third_at (h : FVec Ideal S256x1024 .bf16) (w : Vec Ideal S1024x768 .bf16) (s : Fin 256) (j : Fin 768) :
    third h w (ix2 s j) = ∑ d, h (ix2 s d) * w (ix2 d j) := by
  pointwise [third, k0_pay10]

theorem left_at (s : Fin 256) (l : Fin 128) : left (ix2 s l) = if (l : ℕ) < 64 then 1#1 else 0#1 := by
  pointwise [left, k0_pay4]
  revert l
  decide +kernel

theorem right_at (s : Fin 256) (l : Fin 128) : right (ix2 s l) = if (l : ℕ) < 64 then 0#1 else 1#1 := by
  pointwise [right, k0_pay4]
  revert l
  decide +kernel

theorem turned_at (v : FVec Ideal S256x128 .f32) (s : Fin 256) (l : Fin 128) :
    turned v (ix2 s l) = v (ix2 s ⟨(l + 64) % 128, by omega⟩) := by
  pointwise [turned]
  congr 2

theorem kept_left (v : FVec Ideal S256x128 .f32) (s : Fin 256) (l : Fin 128) :
    kept left v (ix2 s l) = if (l : ℕ) < 64 then v (ix2 s l) else 0 := by
  have h : kept left v (ix2 s l) = Scalar.select (left (ix2 s l)) (v (ix2 s l)) 0 := by
    pointwise [kept]
  rw [h, left_at]
  split <;> rfl

theorem kept_right (v : FVec Ideal S256x128 .f32) (s : Fin 256) (l : Fin 128) :
    kept right v (ix2 s l) = if (l : ℕ) < 64 then 0 else v (ix2 s l) := by
  have h : kept right v (ix2 s l) = Scalar.select (right (ix2 s l)) (v (ix2 s l)) 0 := by
    pointwise [kept]
  rw [h, right_at]
  split <;> rfl

theorem heads_raw (v : FVec Ideal S256x128 .f32) (g : Vec Ideal S1x1x128 .f32) (b : Vec Ideal S128x128 .bf16) (s : Fin 256)
    (l : Fin 128) :
    heads v g b (ix2 s l)
      = v (ix2 s l) * Ideal.rsqrt ((∑ k, v (ix2 s k) * v (ix2 s k) * b (ix2 k l)) + tiny) * g (ix3 0 0 l) := by
  pointwise [heads]
  rfl

end Cert.Projection
-- ==== Proof.Inp.Heads.lean ====
module

public import proofs.«01_k».proof.Proof.Inp.Stage
public import proofs.«01_k».proof.Proof.Attn.Softmax
public import Idealize.ShloMosaic.Lib.Pointwise
public import Idealize.ShloMosaic.Lib.Claim
public import Idealize.ShloMosaic.Lib.Pipeline.ValueKit

/-!
The normalization of the heads: the kernel takes a head's mean square as a product with a matrix that is 1/64
within a head and zero outside it.
-/

@[expose] public section

set_option maxRecDepth 16384

noncomputable section

namespace Cert.Projection

open Idealize.ShloMosaic Idealize.ShloMosaic.TcCoe Idealize.SL.Sem
open Cert.InpIdeal Cert.InpIdeal.Gen
open Cert.SecondHalf (tiny)

theorem headWidth_eq : headWidth = ((64 : ℝ) : EReal) := by
  simp [headWidth, Ideal.ofBits, Ideal.ieee, -EReal.coe_mul]; norm_num

/-- A sum over 128 lanes of which one head's 64 count. -/
theorem sum_head (u : Fin 128 → EReal) (r : EReal) (l : Fin 128) :
    (∑ k, u k * if (k : ℕ) / 64 = (l : ℕ) / 64 then r else 0) = ∑ e : Fin 64, u ⟨64 * (l / 64) + e, by omega⟩ * r := by
  rw [Fin.sum_univ_two_halves 64 64 rfl]
  have hl : (l : ℕ) / 64 = 0 ∨ (l : ℕ) / 64 = 1 := by omega
  rcases hl with hl | hl
  · have h0 : ∀ e : Fin 64, (e : ℕ) / 64 = 0 := fun e => by omega
    have h1 : ∀ e : Fin 64, (64 + (e : ℕ)) / 64 ≠ 0 := fun e => by omega
    simp only [hl, h0, h1, if_true, if_false, mul_zero, Finset.sum_const_zero, add_zero, zero_add]
  · have h0 : ∀ e : Fin 64, (e : ℕ) / 64 ≠ 1 := fun e => by omega
    have h1 : ∀ e : Fin 64, (64 + (e : ℕ)) / 64 = 1 := fun e => by omega
    simp only [hl, h0, h1, if_true, if_false, mul_zero, Finset.sum_const_zero, add_zero, zero_add, mul_one]

/-- The kernel's mean square of a head is the mean square. -/
theorem meanHead (u : Fin 128 → EReal) (l : Fin 128) :
    (∑ k, u k * if (k : ℕ) / 64 = (l : ℕ) / 64 then ((1 / 64 : ℝ) : EReal) else 0)
      = Ideal.div (∑ e : Fin 64, u ⟨64 * (l / 64) + e, by omega⟩) headWidth := by
  rw [sum_head, headWidth_eq, Ideal.div_coe (by norm_num)]
  exact (Cert.Attention.sum_mul_coe _ _ (by norm_num)).symm

theorem heads_at (v : FVec Ideal S256x128 .f32) (g : Vec Ideal S1x1x128 .f32) (b : Vec Ideal S128x128 .bf16)
    (G : Fin 64 → EReal) (hg : ∀ l : Fin 128, g (ix3 0 0 l) = G ⟨l % 64, by omega⟩)
    (hb : ∀ k l : Fin 128, b (ix2 k l) = if (k : ℕ) / 64 = (l : ℕ) / 64 then ((1 / 64 : ℝ) : EReal) else 0)
    (s : Fin 256) (l : Fin 128) :
    heads v g b (ix2 s l) = headNorm (fun e => v (ix2 s ⟨64 * (l / 64) + e, by omega⟩)) G ⟨l % 64, by omega⟩ := by
  have e : (⟨64 * ((l : ℕ) / 64) + (l : ℕ) % 64, by omega⟩ : Fin 128) = l := Fin.ext (by simp only []; omega)
  rw [heads_raw, hg]
  simp only [hb]
  rw [meanHead fun k => v (ix2 s k) * v (ix2 s k)]
  unfold headNorm
  simp only [e]

end Cert.Projection
-- ==== Proof.Inp.Tile.lean ====
module

public import proofs.«01_k».proof.Proof.Inp.Heads
public import Idealize.ShloMosaic.Lib.Pointwise
public import Idealize.ShloMosaic.Lib.Claim
public import Idealize.ShloMosaic.Lib.Pipeline.ValueKit

/-!
One tile of the kernel of the input projection: the 256 tokens from row `o` of the block, and what is stored of
them, read at one entry.
-/

@[expose] public section

set_option maxRecDepth 16384

noncomputable section

namespace Cert.Projection

open Idealize.ShloMosaic Idealize.ShloMosaic.TcCoe Idealize.SL.Sem
open Cert.InpIdeal Cert.InpIdeal.Gen
open Cert.SecondHalf (tiny modulated)

variable (x0 : Vec Ideal S1024x1024 .f32) (x1 : Vec Ideal S1x1x6144 .f32) (x2 : Vec Ideal S1x1x1024 .f32)
  (x3 : Vec Ideal S1024x2304 .bf16) (x4 x5 : Vec Ideal S1x1x128 .f32) (x6 : Vec Ideal S128x128 .bf16)

/-- The features of the block's token `i`. -/
def feat (i : Fin 1024) : Fin 2304 → EReal :=
  feature (fun d => x0 (ix2 i d)) (fun d => x2 (ix3 0 0 d)) (fun d => x1 (ix3 0 0 ⟨d, by omega⟩))
    (fun d => x1 (ix3 0 0 ⟨1024 + d, by omega⟩)) (fun d j => x3 (ix2 d j))

/-- The features from column `k` on of the tile's tokens. -/
abbrev part (o k : ℕ) (ho : ∀ a, (![o, 0] : Fin 2 → ℕ) a + (![256, 1024] : Fin 2 → ℕ) a ≤ S1024x1024.size a)
    (hk : ∀ a, (![0, k] : Fin 2 → ℕ) a + (![1024, 768] : Fin 2 → ℕ) a ≤ S1024x2304.size a) : FVec Ideal S256x768 .f32 :=
  third (rows x1 (View.ld x0 (Rect.unit ![o, 0] ![256, 1024] ho)) x2) (View.ld x3 (Rect.unit ![0, k] ![1024, 768] hk))

theorem part_at (o k : ℕ) (ho hk) (s : Fin 256) (j : Fin 768) (i : Fin 1024) (hi : (i : ℕ) = o + s) (f : Fin 2304)
    (hf : (f : ℕ) = k + j) : part x0 x1 x2 x3 o k ho hk (ix2 s j) = feat x0 x1 x2 x3 i f := by
  unfold part
  rw [third_at]
  simp only [rows_at]
  unfold feat feature
  have e : ∀ d : Fin 1024, View.ld x0 (Rect.unit ![o, 0] ![256, 1024] ho) (ix2 s d) = x0 (ix2 i d) := fun d => by
    rw [show i = ⟨o + s, hi ▸ i.isLt⟩ from Fin.ext hi]; pointwise
  have e' : ∀ d : Fin 1024, View.ld x3 (Rect.unit ![0, k] ![1024, 768] hk) (ix2 d j) = x3 (ix2 d f) := fun d => by
    rw [show f = ⟨k + j, hf ▸ f.isLt⟩ from Fin.ext hf]; pointwise
  simp only [e, e']

/-- 128 features of a third: those from column `q` on of the 640 from column `f` on. -/
abbrev slab (p : FVec Ideal S256x768 .f32) (f q : ℕ) (hf : S256x768.Slices ![0, f] S256x640)
    (hq : S256x640.Slices ![0, q] S256x128) : FVec Ideal S256x128 .f32 :=
  extractStridedSlice S256x128 ![0, q] (extractStridedSlice S256x640 ![0, f] p hf) hq

theorem slab_at (p : FVec Ideal S256x768 .f32) (f q : ℕ) (hf hq) (s : Fin 256) (l : Fin 128) (k : Fin 768)
    (hk : (k : ℕ) = f + q + l) : slab p f q hf hq (ix2 s l) = p (ix2 s k) := by
  rw [show k = ⟨f + (q + l), by omega⟩ from Fin.ext (by simp only []; omega)]
  pointwise [slab]

/-- The features of a slab. -/
theorem raw_slab (o k f q : ℕ) (ho hk hf hq) (s : Fin 256) (l : Fin 128) (i : Fin 1024) (hi : (i : ℕ) = o + s)
    (hb : f + q + 128 ≤ 768) (j : Fin 2304) (hj : (j : ℕ) = k + f + q + l) :
    slab (part x0 x1 x2 x3 o k ho hk) f q hf hq (ix2 s l) = feat x0 x1 x2 x3 i j := by
  rw [slab_at _ f q hf hq s l ⟨f + q + l, by omega⟩ rfl]
  exact part_at x0 x1 x2 x3 o k ho hk s _ i hi j (by simp only []; omega)

/-- The normalized heads of a slab. -/
theorem norm_slab (o q b n : ℕ) (ho hk hf hq) (g : Vec Ideal S1x1x128 .f32) (G : Fin 64 → EReal)
    (hg : ∀ l : Fin 128, g (ix3 0 0 l) = G ⟨l % 64, by omega⟩)
    (h6 : ∀ k l : Fin 128, x6 (ix2 k l) = if (k : ℕ) / 64 = (l : ℕ) / 64 then ((1 / 64 : ℝ) : EReal) else 0)
    (s : Fin 256) (l : Fin 128) (i : Fin 1024) (hi : (i : ℕ) = o + s) (hb : q + 128 ≤ 640) (hq' : q % 64 = 0) (hb' : b % 64 = 0)
    (hn : b + n = q + l) (h) (h') :
    heads (slab (part x0 x1 x2 x3 o 0 ho hk) 0 q hf hq) g x6 (ix2 s l) = normed b (feat x0 x1 x2 x3 i) G n h h' := by
  rw [heads_at _ g x6 G hg h6]
  unfold normed
  have e : ∀ e : Fin 64, slab (part x0 x1 x2 x3 o 0 ho hk) 0 q hf hq (ix2 s ⟨64 * (l / 64) + e, by omega⟩)
      = feat x0 x1 x2 x3 i ⟨b + 64 * (n / 64) + e, by omega⟩ := fun e =>
    raw_slab x0 x1 x2 x3 o 0 0 q ho hk hf hq s _ i hi (by omega) _ (by simp only []; omega)
  simp only [e]
  congr 1
  exact Fin.ext (by simp only []; omega)

section
variable (u : FVec Ideal S256x128 .f32) (n : Fin 384 → EReal) (s : Fin 256) (q h : ℕ) (hq : q + 128 ≤ 384)
  (hu : ∀ (l : Fin 128) (k : Fin 384), (k : ℕ) = q + l → u (ix2 s l) = n k) (l : Fin 128) (c : Fin 768) (hc : (c : ℕ) = 128 * h + l)
include hq hu hc

/-- A head of the first three, on the left of its 128 lanes. -/
theorem left_stay (h3 : h < 3) (e : q = 64 * h) : kept left u (ix2 s l) = query n c := by
  rw [kept_left, hu l ⟨q + l, by omega⟩ rfl]
  unfold query
  split_ifs
  · congr 1; exact Fin.ext (by simp only []; omega)
  · exfalso; omega
  · exfalso; omega
  · rfl

/-- A head of the first three, on the right. -/
theorem left_turn (h3 : h < 3) (e : q + 64 = 64 * h) : kept left (turned u) (ix2 s l) = query n c := by
  rw [kept_left, turned_at, hu _ ⟨q + (l + 64) % 128, by omega⟩ rfl]
  unfold query
  split_ifs
  · congr 1; exact Fin.ext (by simp only []; omega)
  · exfalso; omega
  · exfalso; omega
  · rfl

/-- A head of the last three, on the right. -/
theorem right_stay (h3 : 3 ≤ h) (e : q + 64 = 64 * h) : kept right u (ix2 s l) = query n c := by
  rw [kept_right, hu l ⟨q + l, by omega⟩ rfl]
  unfold query
  split_ifs
  · exfalso; omega
  · rfl
  · congr 1; exact Fin.ext (by simp only []; omega)
  · exfalso; omega

/-- A head of the last three, on the left. -/
theorem right_turn (h3 : 3 ≤ h) (e : q = 64 * h) : kept right (turned u) (ix2 s l) = query n c := by
  rw [kept_right, turned_at, hu _ ⟨q + (l + 64) % 128, by omega⟩ rfl]
  unfold query
  split_ifs
  · exfalso; omega
  · rfl
  · congr 1; exact Fin.ext (by simp only []; omega)
  · exfalso; omega
end

/-- Rows stored as columns. -/
theorem columns_at (v : FVec Ideal S256x128 .f32) (l : Fin 128) (s : Fin 256) :
    truncf .bf16 (transpose S128x256 [1, 0] v transposes_S256x128_p1_0_S128x256) bitsLt_bf16_f32 (ix2 l s) = v (ix2 s l) := by
  pointwise

/-- Rows stored as one batch's columns. -/
theorem batch_at (v : FVec Ideal S256x128 .f32) (b : Fin 1) (l : Fin 128) (s : Fin 256) :
    shapeCast S1x128x256 (transpose S128x256 [1, 0] v transposes_S256x128_p1_0_S128x256) shapeCasts_S128x256_S1x128x256 (ix3 b l s)
      = v (ix2 s l) := by
  pointwise

section
variable (o k q : ℕ) (ho : ∀ a, (![o, 0] : Fin 2 → ℕ) a + (![256, 1024] : Fin 2 → ℕ) a ≤ S1024x1024.size a)
  (hk : ∀ a, (![0, k] : Fin 2 → ℕ) a + (![1024, 768] : Fin 2 → ℕ) a ≤ S1024x2304.size a)
  (s : Fin 256) (i : Fin 1024) (hi : (i : ℕ) = o + s) (c : Fin 1024)
include hi

/-- 128 features among the retention's columns. -/
theorem retained_128 (hq) (l : Fin 128) (hb : q + 128 ≤ 768) (hc : 640 + (c : ℕ) = k + q + l)
    (hc' : ¬(256 ≤ (c : ℕ) ∧ (c : ℕ) < 512)) :
    truncf .bf16 (extractStridedSlice S256x128 ![0, q] (part x0 x1 x2 x3 o k ho hk) hq) bitsLt_bf16_f32 (ix2 s l)
      = retained (feat x0 x1 x2 x3 i) c := by
  have e : truncf .bf16 (extractStridedSlice S256x128 ![0, q] (part x0 x1 x2 x3 o k ho hk) hq) bitsLt_bf16_f32 (ix2 s l)
      = part x0 x1 x2 x3 o k ho hk (ix2 s ⟨q + l, by omega⟩) := by
    generalize part x0 x1 x2 x3 o k ho hk = p
    pointwise
  rw [e, part_at x0 x1 x2 x3 o k ho hk s _ i hi ⟨640 + c, by omega⟩ (by simp only []; omega)]
  unfold retained; rw [if_neg hc']

/-- 384 features among the retention's columns. -/
theorem retained_384 (hq) (l : Fin 384) (hb : q + 384 ≤ 768) (hc : 640 + (c : ℕ) = k + q + l)
    (hc' : ¬(256 ≤ (c : ℕ) ∧ (c : ℕ) < 512)) :
    truncf .bf16 (extractStridedSlice S256x384 ![0, q] (part x0 x1 x2 x3 o k ho hk) hq) bitsLt_bf16_f32 (ix2 s l)
      = retained (feat x0 x1 x2 x3 i) c := by
  have e : truncf .bf16 (extractStridedSlice S256x384 ![0, q] (part x0 x1 x2 x3 o k ho hk) hq) bitsLt_bf16_f32 (ix2 s l)
      = part x0 x1 x2 x3 o k ho hk (ix2 s ⟨q + l, by omega⟩) := by
    generalize part x0 x1 x2 x3 o k ho hk = p
    pointwise
  rw [e, part_at x0 x1 x2 x3 o k ho hk s _ i hi ⟨640 + c, by omega⟩ (by simp only []; omega)]
  unfold retained; rw [if_neg hc']

/-- The scaled keys among the retention's columns. -/
theorem retained_keys (hq) (l : Fin 256) (hb : q + 256 ≤ 768) (hc : 640 + (c : ℕ) = k + q + l)
    (hc' : 256 ≤ (c : ℕ) ∧ (c : ℕ) < 512) :
    truncf .bf16 (mulf (extractStridedSlice S256x256 ![0, q] (part x0 x1 x2 x3 o k ho hk) hq)
        (broadcast S256x256 (Scalar.ofBits .f32 0x3E000000#32 : Ideal .f32))) bitsLt_bf16_f32 (ix2 s l)
      = retained (feat x0 x1 x2 x3 i) c := by
  have e : truncf .bf16 (mulf (extractStridedSlice S256x256 ![0, q] (part x0 x1 x2 x3 o k ho hk) hq)
        (broadcast S256x256 (Scalar.ofBits .f32 0x3E000000#32 : Ideal .f32))) bitsLt_bf16_f32 (ix2 s l)
      = part x0 x1 x2 x3 o k ho hk (ix2 s ⟨q + l, by omega⟩) * keyScale := by
    generalize part x0 x1 x2 x3 o k ho hk = p
    pointwise
    rfl
  rw [e, part_at x0 x1 x2 x3 o k ho hk s _ i hi ⟨640 + c, by omega⟩ (by simp only []; omega)]
  unfold retained; rw [if_pos hc']
end

end Cert.Projection
-- ==== Proof.Inp.Block.lean ====
module

public import proofs.«01_k».proof.Proof.Inp.Tile
public import Idealize.ShloMosaic.Lib.Pointwise
public import Idealize.ShloMosaic.Lib.Claim
public import Idealize.ShloMosaic.Lib.Pipeline.ValueKit

/-!
A grid point of the input projection: the keys and values it stores by rows and by columns.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ) (c : Dev nD) (t : Fin cfg0.N)

/-- The features of a token of a grid point's block. -/
abbrev tok : Fin 1024 → Fin 2304 → EReal := feat (iblk m c 0 t) (iblk m c 1 t) (iblk m c 2 t) (iblk m c 3 t)

theorem globalKey_block (G : Fin 64 → EReal) (hg : ∀ l : Fin 128, iblk m c 5 t (ix3 0 0 l) = G ⟨l % 64, by omega⟩)
    (hb : ∀ k l : Fin 128, iblk m c 6 t (ix2 k l) = if (k : ℕ) / 64 = (l : ℕ) / 64 then ((1 / 64 : ℝ) : EReal) else 0)
    (i : Fin 1024) (j : Fin 128) :
    (dats m 0 c).after 8 t (ix2 i j) = globalKey (tok m c t i) G j := by
  rw [after0_8]
  frame_out
  canon_tiles y h
  all_goals
    idx_vars y
    refine norm_slab (hf := slices_S256x768_o0_0_S256x640) (hq := slices_S256x640_o0_384_S256x128) (hg := hg) (h6 := hb) (hi := ?_)
          (hb := ?_) (hq' := ?_) (hb' := ?_) (hn := ?_) ..
    all_goals first | omega | (simp only []; omega)

theorem globalValue_block (i : Fin 1024) (j : Fin 128) :
    (dats m 0 c).after 9 t (ix2 j i) = globalValue (tok m c t i) j := by
  rw [after0_9]
  frame_out
  canon_tiles y h
  all_goals
    idx_vars y
    refine (columns_at _ _ _).trans (raw_slab (hf := slices_S256x768_o0_0_S256x640) (hq := slices_S256x640_o0_512_S256x128) (hi := ?_) (hb := ?_) (hj := ?_) ..)
    all_goals first | omega | (simp only []; omega)

theorem windowKey_block (i : Fin 1024) (j : Fin 128) :
    (dats m 0 c).after 12 t (ix2 i j) = windowKey (tok m c t i) j := by
  rw [after0_12]
  frame_out
  canon_tiles y h
  all_goals
    idx_vars y
    refine raw_slab (hf := slices_S256x768_o0_128_S256x640) (hq := slices_S256x640_o0_384_S256x128) (hi := ?_) (hb := ?_) (hj := ?_) ..
    all_goals first | omega | (simp only []; omega)

theorem windowValue_block (i : Fin 1024) (j : Fin 128) :
    (dats m 0 c).after 13 t (ix2 j i) = windowValue (tok m c t i) j := by
  rw [after0_13]
  frame_out
  canon_tiles y h
  all_goals
    idx_vars y
    refine (columns_at _ _ _).trans (raw_slab (hf := slices_S256x768_o0_128_S256x640) (hq := slices_S256x640_o0_512_S256x128) (hi := ?_) (hb := ?_) (hj := ?_) ..)
    all_goals first | omega | (simp only []; omega)

end Cert.Projection
-- ==== Proof.Inp.BlockBatch.lean ====
module

public import proofs.«01_k».proof.Proof.Inp.Block
public import Idealize.ShloMosaic.Lib.Pointwise
public import Idealize.ShloMosaic.Lib.Claim
public import Idealize.ShloMosaic.Lib.Pipeline.ValueKit

/-!
A grid point of the input projection: the keys and values it stores batch by batch.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ) (c : Dev nD) (t : Fin cfg0.N)

theorem globalKey_batch (G : Fin 64 → EReal) (hg : ∀ l : Fin 128, iblk m c 5 t (ix3 0 0 l) = G ⟨l % 64, by omega⟩)
    (hb : ∀ k l : Fin 128, iblk m c 6 t (ix2 k l) = if (k : ℕ) / 64 = (l : ℕ) / 64 then ((1 / 64 : ℝ) : EReal) else 0)
    (b : Fin 4) (n : Fin 256) (j : Fin 128) :
    (dats m 0 c).after 14 t (ix3 b j n) = globalKey (tok m c t ⟨256 * b + n, by omega⟩) G j := by
  rw [after0_14]
  frame_out
  canon_tiles y h
  all_goals
    idx_vars y
    refine (batch_at _ _ _ _).trans (norm_slab (hf := slices_S256x768_o0_0_S256x640) (hq := slices_S256x640_o0_384_S256x128) (hg := hg) (h6 := hb) (hi := ?_)
          (hb := ?_) (hq' := ?_) (hb' := ?_) (hn := ?_) ..)
    all_goals first | omega | (simp only []; omega)

theorem globalValue_batch (b : Fin 4) (n : Fin 256) (j : Fin 128) :
    (dats m 0 c).after 15 t (ix3 b j n) = globalValue (tok m c t ⟨256 * b + n, by omega⟩) j := by
  rw [after0_15]
  frame_out
  canon_tiles y h
  all_goals
    idx_vars y
    refine (batch_at _ _ _ _).trans (raw_slab (hf := slices_S256x768_o0_0_S256x640) (hq := slices_S256x640_o0_512_S256x128) (hi := ?_) (hb := ?_) (hj := ?_) ..)
    all_goals first | omega | (simp only []; omega)

theorem windowKey_batch (b : Fin 4) (n : Fin 256) (j : Fin 128) :
    (dats m 0 c).after 16 t (ix3 b j n) = windowKey (tok m c t ⟨256 * b + n, by omega⟩) j := by
  rw [after0_16]
  frame_out
  canon_tiles y h
  all_goals
    idx_vars y
    refine (batch_at _ _ _ _).trans (raw_slab (hf := slices_S256x768_o0_128_S256x640) (hq := slices_S256x640_o0_384_S256x128) (hi := ?_) (hb := ?_) (hj := ?_) ..)
    all_goals first | omega | (simp only []; omega)

theorem windowValue_batch (b : Fin 4) (n : Fin 256) (j : Fin 128) :
    (dats m 0 c).after 17 t (ix3 b j n) = windowValue (tok m c t ⟨256 * b + n, by omega⟩) j := by
  rw [after0_17]
  frame_out
  canon_tiles y h
  all_goals
    idx_vars y
    refine (batch_at _ _ _ _).trans (raw_slab (hf := slices_S256x768_o0_128_S256x640) (hq := slices_S256x640_o0_512_S256x128) (hi := ?_) (hb := ?_) (hj := ?_) ..)
    all_goals first | omega | (simp only []; omega)

end Cert.Projection
-- ==== Proof.Inp.BlockQuery.lean ====
module

public import proofs.«01_k».proof.Proof.Inp.Block
public import Idealize.ShloMosaic.Lib.Pointwise
public import Idealize.ShloMosaic.Lib.Claim
public import Idealize.ShloMosaic.Lib.Pipeline.ValueKit

/-!
A grid point of the input projection: the queries of the attention over the whole sequence.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ) (c : Dev nD) (t : Fin cfg0.N)

theorem globalQuery_block (G : Fin 64 → EReal) (hg : ∀ l : Fin 128, iblk m c 4 t (ix3 0 0 l) = G ⟨l % 64, by omega⟩)
    (hb : ∀ k l : Fin 128, iblk m c 6 t (ix2 k l) = if (k : ℕ) / 64 = (l : ℕ) / 64 then ((1 / 64 : ℝ) : EReal) else 0)
    (i : Fin 1024) (j : Fin 768) :
    (dats m 0 c).after 7 t (ix2 i j) = globalQuery (tok m c t i) G j := by
  rw [after0_7]
  have e : (outsAt0 m c t).1 = (outsAt0 m c t).1 := rfl
  conv_rhs at e => unfold outsAt0
  dsimp only at e
  rw [e]
  frame_out
  canon_tiles y h
  case piece0 | piece6 | piece12 | piece18 =>
    idx_vars y
    refine right_stay (h := 5) (q := 256) (hq := by decide) (hc := ?_) (h3 := ?_) (e := ?_)
      (hu := ?_) ..
    · intro l k hk
      refine norm_slab (hf := slices_S256x768_o0_0_S256x640) (hq := slices_S256x640_o0_256_S256x128) (hg := hg) (h6 := hb) (hi := ?_)
          (hb := ?_) (hq' := ?_) (hb' := ?_) (hn := ?_) ..
      all_goals first | omega | (simp only []; omega)
    all_goals first | omega | (simp only []; omega)
  case piece1 | piece7 | piece13 | piece19 =>
    idx_vars y
    refine right_turn (h := 4) (q := 256) (hq := by decide) (hc := ?_) (h3 := ?_) (e := ?_)
      (hu := ?_) ..
    · intro l k hk
      refine norm_slab (hf := slices_S256x768_o0_0_S256x640) (hq := slices_S256x640_o0_256_S256x128) (hg := hg) (h6 := hb) (hi := ?_)
          (hb := ?_) (hq' := ?_) (hb' := ?_) (hn := ?_) ..
      all_goals first | omega | (simp only []; omega)
    all_goals first | omega | (simp only []; omega)
  case piece2 | piece8 | piece14 | piece20 =>
    idx_vars y
    try dsimp only [k0_pay22, k0_pay23, k0_pay24]
    refine right_stay (h := 3) (q := 128) (hq := by decide) (hc := ?_) (h3 := ?_) (e := ?_)
      (hu := ?_) ..
    · intro l k hk
      refine norm_slab (hf := slices_S256x768_o0_0_S256x640) (hq := slices_S256x640_o0_128_S256x128) (hg := hg) (h6 := hb) (hi := ?_)
          (hb := ?_) (hq' := ?_) (hb' := ?_) (hn := ?_) ..
      all_goals first | omega | (simp only []; omega)
    all_goals first | omega | (simp only []; omega)
  case piece3 | piece9 | piece15 | piece21 =>
    idx_vars y
    refine left_stay (h := 2) (q := 128) (hq := by decide) (hc := ?_) (h3 := ?_) (e := ?_)
      (hu := ?_) ..
    · intro l k hk
      refine norm_slab (hf := slices_S256x768_o0_0_S256x640) (hq := slices_S256x640_o0_128_S256x128) (hg := hg) (h6 := hb) (hi := ?_)
          (hb := ?_) (hq' := ?_) (hb' := ?_) (hn := ?_) ..
      all_goals first | omega | (simp only []; omega)
    all_goals first | omega | (simp only []; omega)
  case piece4 | piece10 | piece16 | piece22 =>
    idx_vars y
    refine left_turn (h := 1) (q := 0) (hq := by decide) (hc := ?_) (h3 := ?_) (e := ?_)
      (hu := ?_) ..
    · intro l k hk
      refine norm_slab (hf := slices_S256x768_o0_0_S256x640) (hq := slices_S256x640_o0_0_S256x128) (hg := hg) (h6 := hb) (hi := ?_)
          (hb := ?_) (hq' := ?_) (hb' := ?_) (hn := ?_) ..
      all_goals first | omega | (simp only []; omega)
    all_goals first | omega | (simp only []; omega)
  case piece5 | piece11 | piece17 | piece23 =>
    idx_vars y
    refine left_stay (h := 0) (q := 0) (hq := by decide) (hc := ?_) (h3 := ?_) (e := ?_)
      (hu := ?_) ..
    · intro l k hk
      refine norm_slab (hf := slices_S256x768_o0_0_S256x640) (hq := slices_S256x640_o0_0_S256x128) (hg := hg) (h6 := hb) (hi := ?_)
          (hb := ?_) (hq' := ?_) (hb' := ?_) (hn := ?_) ..
      all_goals first | omega | (simp only []; omega)
    all_goals first | omega | (simp only []; omega)

end Cert.Projection
-- ==== Proof.Inp.BlockWindow.lean ====
module

public import proofs.«01_k».proof.Proof.Inp.Block
public import Idealize.ShloMosaic.Lib.Pointwise
public import Idealize.ShloMosaic.Lib.Claim
public import Idealize.ShloMosaic.Lib.Pipeline.ValueKit

/-!
A grid point of the input projection: the queries of the attention over a window.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ) (c : Dev nD) (t : Fin cfg0.N)

theorem windowQuery_block (i : Fin 1024) (j : Fin 768) :
    (dats m 0 c).after 11 t (ix2 i j) = windowQuery (tok m c t i) j := by
  rw [after0_11]
  frame_out
  canon_tiles y h
  case piece0 | piece6 | piece12 | piece18 =>
    idx_vars y
    refine right_stay (h := 5) (q := 256) (hq := by decide) (hc := ?_) (h3 := ?_) (e := ?_)
      (hu := ?_) ..
    · intro l k hk
      refine raw_slab (hf := slices_S256x768_o0_128_S256x640) (hq := slices_S256x640_o0_256_S256x128) (hi := ?_) (hb := ?_) (hj := ?_) ..
      all_goals first | omega | (simp only []; omega)
    all_goals first | omega | (simp only []; omega)
  case piece1 | piece7 | piece13 | piece19 =>
    idx_vars y
    try dsimp only [k0_pay90, k0_pay91, k0_pay92]
    refine right_turn (h := 4) (q := 256) (hq := by decide) (hc := ?_) (h3 := ?_) (e := ?_)
      (hu := ?_) ..
    · intro l k hk
      refine raw_slab (hf := slices_S256x768_o0_128_S256x640) (hq := slices_S256x640_o0_256_S256x128) (hi := ?_) (hb := ?_) (hj := ?_) ..
      all_goals first | omega | (simp only []; omega)
    all_goals first | omega | (simp only []; omega)
  case piece2 | piece8 | piece14 | piece20 =>
    idx_vars y
    refine right_stay (h := 3) (q := 128) (hq := by decide) (hc := ?_) (h3 := ?_) (e := ?_)
      (hu := ?_) ..
    · intro l k hk
      refine raw_slab (hf := slices_S256x768_o0_128_S256x640) (hq := slices_S256x640_o0_128_S256x128) (hi := ?_) (hb := ?_) (hj := ?_) ..
      all_goals first | omega | (simp only []; omega)
    all_goals first | omega | (simp only []; omega)
  case piece3 | piece9 | piece15 | piece21 =>
    idx_vars y
    refine left_stay (h := 2) (q := 128) (hq := by decide) (hc := ?_) (h3 := ?_) (e := ?_)
      (hu := ?_) ..
    · intro l k hk
      refine raw_slab (hf := slices_S256x768_o0_128_S256x640) (hq := slices_S256x640_o0_128_S256x128) (hi := ?_) (hb := ?_) (hj := ?_) ..
      all_goals first | omega | (simp only []; omega)
    all_goals first | omega | (simp only []; omega)
  case piece4 | piece10 | piece16 | piece22 =>
    idx_vars y
    refine left_turn (h := 1) (q := 0) (hq := by decide) (hc := ?_) (h3 := ?_) (e := ?_)
      (hu := ?_) ..
    · intro l k hk
      refine raw_slab (hf := slices_S256x768_o0_128_S256x640) (hq := slices_S256x640_o0_0_S256x128) (hi := ?_) (hb := ?_) (hj := ?_) ..
      all_goals first | omega | (simp only []; omega)
    all_goals first | omega | (simp only []; omega)
  case piece5 | piece11 | piece17 | piece23 =>
    idx_vars y
    refine left_stay (h := 0) (q := 0) (hq := by decide) (hc := ?_) (h3 := ?_) (e := ?_)
      (hu := ?_) ..
    · intro l k hk
      refine raw_slab (hf := slices_S256x768_o0_128_S256x640) (hq := slices_S256x640_o0_0_S256x128) (hi := ?_) (hb := ?_) (hj := ?_) ..
      all_goals first | omega | (simp only []; omega)
    all_goals first | omega | (simp only []; omega)

end Cert.Projection
-- ==== Proof.Inp.BlockRetained.lean ====
module

public import proofs.«01_k».proof.Proof.Inp.Block
public import Idealize.ShloMosaic.Lib.Pointwise
public import Idealize.ShloMosaic.Lib.Claim
public import Idealize.ShloMosaic.Lib.Pipeline.ValueKit

/-!
A grid point of the input projection: the columns it stores for the retention.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ) (c : Dev nD) (t : Fin cfg0.N)

theorem retained_block (i j : Fin 1024) : (dats m 0 c).after 10 t (ix2 i j) = retained (tok m c t i) j := by
  rw [after0_10]
  frame_out
  canon_tiles y h using View.cover_of_tiledBy _ ![256, 128] (by sl_kernel_rfl) _
  case piece0 | piece5 | piece10 | piece15 =>
    idx_vars y
    refine retained_384 (hq := slices_S256x768_o0_384_S256x384) (hi := ?_) (hb := ?_) (hc := ?_) (hc' := ?_) ..
    all_goals first | omega | (simp only []; omega)
  case piece1 | piece6 | piece11 | piece16 =>
    idx_vars y
    refine retained_keys (hq := slices_S256x768_o0_128_S256x256) (hi := ?_) (hb := ?_) (hc := ?_) (hc' := ?_) ..
    all_goals first | omega | (simp only []; omega)
  case piece2 | piece7 | piece12 | piece17 =>
    idx_vars y
    refine retained_128 (hq := slices_S256x768_o0_0_S256x128) (hi := ?_) (hb := ?_) (hc := ?_) (hc' := ?_) ..
    all_goals first | omega | (simp only []; omega)
  case piece3 | piece8 | piece13 | piece18 =>
    idx_vars y
    refine retained_128 (hq := slices_S256x768_o0_0_S256x128) (hi := ?_) (hb := ?_) (hc := ?_) (hc' := ?_) ..
    all_goals first | omega | (simp only []; omega)
  case piece4 | piece9 | piece14 | piece19 =>
    idx_vars y
    refine retained_128 (hq := slices_S256x768_o0_640_S256x128) (hi := ?_) (hb := ?_) (hc := ?_) (hc' := ?_) ..
    all_goals first | omega | (simp only []; omega)

end Cert.Projection
-- ==== Proof.Inp.Operands.lean ====
module

public import proofs.«01_k».proof.Proof.Gen.InpIdeal.Frame
public import Idealize.ShloMosaic.Lib.Pointwise
public import Idealize.ShloMosaic.Lib.Claim
public import Idealize.ShloMosaic.Lib.Pipeline.ValueKit

/-!
The blocks the kernel of the input projection reads, in terms of its arguments.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ)

/-- The blocks' positions at every grid point. -/
theorem idx_val : ∀ t : Fin cfg0.N, win0_0.index t = ![t.val, 0]
    ∧ win0_1.index t = ![4, 0, 0]
    ∧ win0_2.index t = ![0, 0, 0]
    ∧ win0_3.index t = ![0, 0]
    ∧ win0_4.index t = ![0, 0, 0]
    ∧ win0_5.index t = ![0, 0, 0]
    ∧ win0_6.index t = ![0, 0]
    ∧ win0_7.index t = ![t.val, 0]
    ∧ win0_8.index t = ![t.val, 0]
    ∧ win0_9.index t = ![0, t.val]
    ∧ win0_10.index t = ![t.val, 0]
    ∧ win0_11.index t = ![t.val, 0]
    ∧ win0_12.index t = ![t.val, 0]
    ∧ win0_13.index t = ![0, t.val]
    ∧ win0_14.index t = ![t.val, 0, 0]
    ∧ win0_15.index t = ![t.val, 0, 0]
    ∧ win0_16.index t = ![t.val, 0, 0]
    ∧ win0_17.index t = ![t.val, 0, 0] :=
  (by decide +kernel : ∀ t : Fin grid0.N, _)

theorem lt_points (t : Fin cfg0.N) : t.val < 8 := lt_of_lt_of_eq t.isLt N_0

/-- The head of each of 128 lanes, as the host computes it: the lane divided by 64, rounded down. -/
abbrev headOf : IVec S128 32 :=
  select
    (andi
      (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The matrix that averages within a head: 1/64 for two lanes of one head, zero for others. -/
abbrev headMatrix (h : IVec S128 32) : FVec Ideal S128x128 .bf16 :=
  truncf .bf16
    (select
      (cmpi .eq
        (broadcastInDim S128x128 ![0, 1] bcast_S128x1_S128x128_0_1 (broadcastInDim S128x1 ![0] bcast_S128_S128x1_0 h))
        (broadcastInDim S128x128 ![0, 1] bcast_S1x128_S128x128_0_1 (broadcastInDim S1x128 ![1] bcast_S128_S1x128_1 h)))
      (broadcastInDim S128x128 ![] bcast_S_S128x128 (constant S_ .f32 0x3C800000#32 : FVec Ideal S_ .f32))
      (broadcastInDim S128x128 ![] bcast_S_S128x128 (constant S_ .f32 0x00000000#32 : FVec Ideal S_ .f32))) bitsLt_bf16_f32

theorem headOf_at (l : Fin 128) : headOf (ix1 l) = BitVec.ofNat 32 ((l : ℕ) / 64) := by
  revert l
  decide +kernel

theorem sixtyFourth : Ideal.ofBits .f32 0x3C800000#32 = ((1 / 64 : ℝ) : EReal) := by
  simp [Ideal.ofBits, Ideal.ieee, -EReal.coe_mul]; norm_num

theorem headMatrix_at (h : IVec S128 32) (k l : Fin 128) :
    headMatrix h (ix2 k l) = Scalar.select (Scalar.cmpi .eq (h (ix1 k)) (h (ix1 l))) (Ideal.ofBits .f32 0x3C800000#32) 0 := by
  pointwise [headMatrix]
  rfl

theorem headMatrix_host (k l : Fin 128) :
    headMatrix headOf (ix2 k l) = if (k : ℕ) / 64 = (l : ℕ) / 64 then ((1 / 64 : ℝ) : EReal) else 0 := by
  rw [headMatrix_at, headOf_at, headOf_at, sixtyFourth]
  have hk : (k : ℕ) / 64 = 0 ∨ (k : ℕ) / 64 = 1 := by omega
  have hl : (l : ℕ) / 64 = 0 ∨ (l : ℕ) / 64 = 1 := by omega
  rcases hk with hk | hk <;> rcases hl with hl | hl <;> rw [hk, hl] <;> rfl

section
variable (c : Dev nD)

theorem matrix_read : V m c main_v12 = headMatrix headOf := by
  simp only [V, hostOps0, hostOps0_1, hostOps0_2, hostOps0_3, hostOps0_4, List.flatten_cons, List.flatten_nil,
    List.append_nil, List.cons_append, List.nil_append]
  entry_read
  rfl

theorem token_read (r : Fin 8192) (k : Fin 1024) : V m c main_v22 (ix2 r k) = (m ((c : Thread nD τ).loc main_arg0)) (ix3 ⟨r / 256, by omega⟩ ⟨r % 256, by omega⟩ k) := by
  simp only [V, hostOps0, hostOps0_1, hostOps0_2, hostOps0_3, hostOps0_4, List.flatten_cons, List.flatten_nil,
    List.append_nil, List.cons_append, List.nil_append]
  entry_read
  pointwise

theorem modulation_read (r : Fin 32) (k : Fin 6144) : V m c main_v0 (ix3 r 0 k) = (m ((c : Thread nD τ).loc main_arg1)) (ix3 ⟨r / 8, by omega⟩ ⟨r % 8, by omega⟩ k) := by
  simp only [V, hostOps0, hostOps0_1, hostOps0_2, hostOps0_3, hostOps0_4, List.flatten_cons, List.flatten_nil,
    List.append_nil, List.cons_append, List.nil_append]
  entry_read
  pointwise

theorem gain_read (k : Fin 1024) : V m c main_v13 (ix3 0 0 k) = (m ((c : Thread nD τ).loc main_arg2)) (ix2 0 k) := by
  simp only [V, hostOps0, hostOps0_1, hostOps0_2, hostOps0_3, hostOps0_4, List.flatten_cons, List.flatten_nil,
    List.append_nil, List.cons_append, List.nil_append]
  entry_read
  pointwise

theorem weight_read (d : Fin 1024) (j : Fin 2304) : V m c main_v3 (ix2 d j) = (m ((c : Thread nD τ).loc main_arg3)) (ix3 0 d j) := by
  simp only [V, hostOps0, hostOps0_1, hostOps0_2, hostOps0_3, hostOps0_4, List.flatten_cons, List.flatten_nil,
    List.append_nil, List.cons_append, List.nil_append]
  entry_read
  pointwise

theorem queryGain_read (l : Fin 128) : V m c main_v17 (ix3 0 0 l) = (m ((c : Thread nD τ).loc main_arg4)) (ix2 0 ⟨l % 64, by omega⟩) := by
  simp only [V, hostOps0, hostOps0_1, hostOps0_2, hostOps0_3, hostOps0_4, List.flatten_cons, List.flatten_nil,
    List.append_nil, List.cons_append, List.nil_append]
  entry_read
  pointwise

theorem keyGain_read (l : Fin 128) : V m c main_v21 (ix3 0 0 l) = (m ((c : Thread nD τ).loc main_arg5)) (ix2 0 ⟨l % 64, by omega⟩) := by
  simp only [V, hostOps0, hostOps0_1, hostOps0_2, hostOps0_3, hostOps0_4, List.flatten_cons, List.flatten_nil,
    List.append_nil, List.cons_append, List.nil_append]
  entry_read
  pointwise

end

section
variable (c : Dev nD) (t : Fin cfg0.N)

theorem token_block (i k : Fin 1024) : iblk m c 0 t (ix2 i k) = (m ((c : Thread nD τ).loc main_arg0)) (ix3 ⟨t.val * 4 + i / 256, by have := lt_points t; omega⟩ ⟨i % 256, by omega⟩ k) := by
  have ht := lt_points t
  have e : iblk m c 0 t (ix2 i k) = V m c main_v22 (ix2 ⟨t.val * 1024 + i, by omega⟩ k) := by
    unfold iblk
    blk_ext [idx_val t]
  rw [e, token_read]
  blk_ext

theorem modulation_block (k : Fin 6144) : iblk m c 1 t (ix3 0 0 k) = (m ((c : Thread nD τ).loc main_arg1)) (ix3 0 4 k) := by
  have ht := lt_points t
  have e : iblk m c 1 t (ix3 0 0 k) = V m c main_v0 (ix3 4 0 k) := by
    unfold iblk
    blk_ext [idx_val t]
  rw [e, modulation_read]
  rfl

theorem gain_block (k : Fin 1024) : iblk m c 2 t (ix3 0 0 k) = (m ((c : Thread nD τ).loc main_arg2)) (ix2 0 k) := by
  have ht := lt_points t
  have e : iblk m c 2 t (ix3 0 0 k) = V m c main_v13 (ix3 0 0 k) := by
    unfold iblk
    blk_ext [idx_val t]
  rw [e, gain_read]

theorem weight_block (d : Fin 1024) (j : Fin 2304) : iblk m c 3 t (ix2 d j) = (m ((c : Thread nD τ).loc main_arg3)) (ix3 0 d j) := by
  have ht := lt_points t
  have e : iblk m c 3 t (ix2 d j) = V m c main_v3 (ix2 d j) := by
    unfold iblk
    blk_ext [idx_val t]
  rw [e, weight_read]

theorem queryGain_block (l : Fin 128) : iblk m c 4 t (ix3 0 0 l) = (m ((c : Thread nD τ).loc main_arg4)) (ix2 0 ⟨l % 64, by omega⟩) := by
  have ht := lt_points t
  have e : iblk m c 4 t (ix3 0 0 l) = V m c main_v17 (ix3 0 0 l) := by
    unfold iblk
    blk_ext [idx_val t]
  rw [e, queryGain_read]

theorem keyGain_block (l : Fin 128) : iblk m c 5 t (ix3 0 0 l) = (m ((c : Thread nD τ).loc main_arg5)) (ix2 0 ⟨l % 64, by omega⟩) := by
  have ht := lt_points t
  have e : iblk m c 5 t (ix3 0 0 l) = V m c main_v21 (ix3 0 0 l) := by
    unfold iblk
    blk_ext [idx_val t]
  rw [e, keyGain_read]

theorem heads_block (k l : Fin 128) : iblk m c 6 t (ix2 k l) = if (k : ℕ) / 64 = (l : ℕ) / 64 then ((1 / 64 : ℝ) : EReal) else 0 := by
  have ht := lt_points t
  have e : iblk m c 6 t (ix2 k l) = V m c main_v12 (ix2 k l) := by
    unfold iblk
    blk_ext [idx_val t]
  rw [e, matrix_read, headMatrix_host]

end

end Cert.Projection
-- ==== Proof.Inp.Ref.lean ====
module

public import proofs.«01_k».proof.Proof.Gen.InpRefIdeal
public import Idealize.ShloMosaic.Lib.Pointwise
public import Idealize.ShloMosaic.Lib.Claim
public import Idealize.ShloMosaic.Lib.Pipeline.ValueKit

/-!
The reference of the input projection, cut into its steps.
-/

@[expose] public section

set_option maxRecDepth 16384

noncomputable section

namespace Cert.Projection

open Idealize.ShloMosaic Idealize.ShloMosaic.TcCoe Idealize.SL.Sem
open Cert.InpRefIdeal Cert.InpRefIdeal.Gen

/-- The modulation vector of the context tokens at layer 0. -/
abbrev refMod (t : FVec Ideal S4x8x6144 .f32) : FVec Ideal S1x6144 .f32 :=
  broadcastInDim S1x6144 ![1] bcast_S6144_S1x6144_1
    (shapeCast S6144 (extractStridedSlice S1x1x6144 ![0, 4, 0] t slices_S4x8x6144_S1x1x6144_0_4_0) shapeCasts_S1x1x6144_S6144)

/-- A row at every token. -/
abbrev refSpread (s : FVec Ideal S1x1024 .f32) : FVec Ideal S32x256x1024 .f32 :=
  broadcastInDim S32x256x1024 ![0, 1, 2] bcast_S1x1x1024_S32x256x1024_0_1_2
    (broadcastInDim S1x1x1024 ![1, 2] bcast_S1x1024_S1x1x1024_1_2 s)

/-- The normalization of every row, with the gain of layer 0. -/
abbrev refNorm (x : FVec Ideal S32x256x1024 .f32) (g : FVec Ideal S4x1024 .f32) : FVec Ideal S32x256x1024 .f32 :=
  mulf
    (mulf x (broadcastInDim S32x256x1024 ![0, 1, 2] bcast_S32x256x1_S32x256x1024_0_1_2
      (Host.rsqrt (addf
        (Host.divf
          (broadcastInDim S32x256x1 ![0, 1] bcast_S32x256_S32x256x1_0_1
            (Host.reduceAdd (mulf x x) (constant S_ .f32 0x00000000#32) reducesTo_S32x256x1024_S32x256_d2 h_S_))
          (broadcastInDim S32x256x1 ![] bcast_S_S32x256x1 (constant S_ .f32 0x44800000#32)))
        (broadcastInDim S32x256x1 ![] bcast_S_S32x256x1 (constant S_ .f32 0x358637BD#32))))))
    (broadcastInDim S32x256x1024 ![0, 1, 2] bcast_S1x1x1024_S32x256x1024_0_1_2
      (broadcastInDim S1x1x1024 ![2] bcast_S1024_S1x1x1024_2
        (shapeCast S1024 (extractStridedSlice S1x1024 ![0, 0] g slices_S4x1024_S1x1024_0_0) shapeCasts_S1x1024_S1024)))

/-- The modulated tokens. -/
abbrev refModulated (x : FVec Ideal S32x256x1024 .f32) (t : FVec Ideal S4x8x6144 .f32) (g : FVec Ideal S4x1024 .f32) :
    FVec Ideal S32x256x1024 .f32 :=
  addf
    (mulf (refNorm x g)
      (refSpread (addf (broadcastInDim S1x1024 ![] bcast_S_S1x1024 (constant S_ .f32 0x3F800000#32))
        (extractStridedSlice S1x1024 ![0, 1024] (refMod t) slices_S1x6144_S1x1024_0_1024))))
    (refSpread (extractStridedSlice S1x1024 ![0, 0] (refMod t) slices_S1x6144_S1x1024_0_0))

/-- Every token's features. -/
abbrev refFeatures (x : FVec Ideal S32x256x1024 .f32) (t : FVec Ideal S4x8x6144 .f32) (g : FVec Ideal S4x1024 .f32)
    (w : FVec Ideal S4x1024x2304 .f32) : FVec Ideal S32x256x2304 .f32 :=
  Host.dotGeneral dot_S32x256x1024_S1024x2304_S32x256x2304_2_0_01_1_n_n none (refModulated x t g)
    (shapeCast S1024x2304 (extractStridedSlice S1x1024x2304 ![0, 0, 0] w slices_S4x1024x2304_S1x1024x2304_0_0_0)
      shapeCasts_S1x1024x2304_S1024x2304)

/-- The gain of the heads at layer 0. -/
abbrev refHeadGain (g : FVec Ideal S4x64 .f32) : FVec Ideal S64 .f32 :=
  shapeCast S64 (extractStridedSlice S1x64 ![0, 0] g slices_S4x64_S1x64_0_0) shapeCasts_S1x64_S64

/-- The mean square of each of six heads. -/
abbrev refMean6 (q : FVec Ideal S32x256x6x64 .f32) : FVec Ideal S32x256x6x1 .f32 :=
  Host.divf
    (broadcastInDim S32x256x6x1 ![0, 1, 2] bcast_S32x256x6_S32x256x6x1_0_1_2
      (Host.reduceAdd (mulf q q) (constant S_ .f32 0x00000000#32) reducesTo_S32x256x6x64_S32x256x6_d3 h_S_))
    (broadcastInDim S32x256x6x1 ![] bcast_S_S32x256x6x1 (constant S_ .f32 0x42800000#32))

/-- Six heads over the roots of their mean squares, with a gain. -/
abbrev refNorm6 (q : FVec Ideal S32x256x6x64 .f32) (s : FVec Ideal S32x256x6x1 .f32) (e : FVec Ideal S_ .f32)
    (g : FVec Ideal S64 .f32) : FVec Ideal S32x256x6x64 .f32 :=
  mulf
    (mulf q (broadcastInDim S32x256x6x64 ![0, 1, 2, 3] bcast_S32x256x6x1_S32x256x6x64_0_1_2_3
      (Host.rsqrt (addf s (broadcastInDim S32x256x6x1 ![] bcast_S_S32x256x6x1 e)))))
    (broadcastInDim S32x256x6x64 ![0, 1, 2, 3] bcast_S1x1x1x64_S32x256x6x64_0_1_2_3
      (broadcastInDim S1x1x1x64 ![3] bcast_S64_S1x1x1x64_3 g))

/-- Two heads over the roots of their mean squares, with a gain. -/
abbrev refNorm2 (q : FVec Ideal S32x256x2x64 .f32) (g : FVec Ideal S64 .f32) : FVec Ideal S32x256x2x64 .f32 :=
  mulf
    (mulf q (broadcastInDim S32x256x2x64 ![0, 1, 2, 3] bcast_S32x256x2x1_S32x256x2x64_0_1_2_3
      (Host.rsqrt (addf
        (Host.divf
          (broadcastInDim S32x256x2x1 ![0, 1, 2] bcast_S32x256x2_S32x256x2x1_0_1_2
            (Host.reduceAdd (mulf q q) (constant S_ .f32 0x00000000#32) reducesTo_S32x256x2x64_S32x256x2_d3 h_S_))
          (broadcastInDim S32x256x2x1 ![] bcast_S_S32x256x2x1 (constant S_ .f32 0x42800000#32)))
        (broadcastInDim S32x256x2x1 ![] bcast_S_S32x256x2x1 (constant S_ .f32 0x358637BD#32))))))
    (broadcastInDim S32x256x2x64 ![0, 1, 2, 3] bcast_S1x1x1x64_S32x256x2x64_0_1_2_3
      (broadcastInDim S1x1x1x64 ![3] bcast_S64_S1x1x1x64_3 g))

/-- Six heads from 384 features. -/
abbrev refSix (q : FVec Ideal S32x256x384 .f32) : FVec Ideal S32x256x6x64 .f32 :=
  shapeCast S32x256x6x64 q shapeCasts_S32x256x384_S32x256x6x64

/-- The keys of the attention over the whole sequence, from their 128 features. -/
abbrev refKeys (k : FVec Ideal S32x256x128 .f32) (g : FVec Ideal S4x64 .f32) : FVec Ideal S32x256x128 .f32 :=
  shapeCast S32x256x128
    (refNorm2 (shapeCast S32x256x2x64 k shapeCasts_S32x256x128_S32x256x2x64) (refHeadGain g)) shapeCasts_S32x256x2x64_S32x256x128

/-- The zeros beside a query. -/
abbrev refZeros : FVec Ideal S32x256x3x64 .f32 :=
  broadcastInDim S32x256x3x64 ![] bcast_S_S32x256x3x64 (constant S_ .f32 0x00000000#32)

/-- The stored queries. -/
abbrev refQueries (q : FVec Ideal S32x256x6x64 .f32) : FVec Ideal S8192x768 .bf16 :=
  truncf .bf16
    (shapeCast S8192x768
      (concatenate S32x256x6x128 2
        [⟨S32x256x3x128, concatenate S32x256x3x128 3
            [⟨S32x256x3x64, extractStridedSlice S32x256x3x64 ![0, 0, 0, 0] q slices_S32x256x6x64_S32x256x3x64_0_0_0_0⟩,
              ⟨S32x256x3x64, refZeros⟩] concatenates_S32x256x3x64_S32x256x3x64_S32x256x3x128_d3⟩,
          ⟨S32x256x3x128, concatenate S32x256x3x128 3
            [⟨S32x256x3x64, refZeros⟩,
              ⟨S32x256x3x64, extractStridedSlice S32x256x3x64 ![0, 0, 3, 0] q slices_S32x256x6x64_S32x256x3x64_0_0_3_0⟩]
            concatenates_S32x256x3x64_S32x256x3x64_S32x256x3x128_d3⟩]
        concatenates_S32x256x3x128_S32x256x3x128_S32x256x6x128_d2)
      shapeCasts_S32x256x6x128_S8192x768) bitsLt_bf16_f32

/-- 128 features stored by rows. -/
abbrev refRows (k : FVec Ideal S32x256x128 .f32) : FVec Ideal S8192x128 .bf16 :=
  truncf .bf16 (shapeCast S8192x128 k shapeCasts_S32x256x128_S8192x128) bitsLt_bf16_f32

/-- 128 features stored by columns. -/
abbrev refCols (k : FVec Ideal S32x256x128 .f32) : FVec Ideal S128x8192 .bf16 :=
  truncf .bf16 (transpose S128x8192 [1, 0] (shapeCast S8192x128 k shapeCasts_S32x256x128_S8192x128)
    transposes_S8192x128_S128x8192_1_0) bitsLt_bf16_f32

/-- 128 features stored by columns within each batch. -/
abbrev refBatch (k : FVec Ideal S32x256x128 .f32) : FVec Ideal S32x128x256 .f32 :=
  transpose S32x128x256 [0, 2, 1] k transposes_S32x256x128_S32x128x256_0_2_1

/-- The retention's four parts side by side. -/
abbrev refRetained (q k v g : FVec Ideal S32x256x256 .f32) : FVec Ideal S8192x1024 .bf16 :=
  truncf .bf16
    (shapeCast S8192x1024
      (concatenate S32x256x1024 2
        [⟨S32x256x256, q⟩,
          ⟨S32x256x256, mulf k (broadcastInDim S32x256x256 ![] bcast_S_S32x256x256 (constant S_ .f32 0x3E000000#32))⟩,
          ⟨S32x256x256, v⟩, ⟨S32x256x256, g⟩]
        concatenates_S32x256x256_S32x256x256_S32x256x256_S32x256x256_S32x256x1024_d2)
      shapeCasts_S32x256x1024_S8192x1024) bitsLt_bf16_f32

/-- The queries of the attention over the whole sequence. -/
abbrev refGlobalQueries (p : FVec Ideal S32x256x2304 .f32) : FVec Ideal S32x256x384 .f32 :=
  extractStridedSlice S32x256x384 ![0, 0, 0] p slices_S32x256x2304_S32x256x384_0_0_0

/-- Its keys, before their normalization. -/
abbrev refGlobalKeys (p : FVec Ideal S32x256x2304 .f32) : FVec Ideal S32x256x128 .f32 :=
  extractStridedSlice S32x256x128 ![0, 0, 384] p slices_S32x256x2304_S32x256x128_0_0_384

/-- Its values. -/
abbrev refGlobalValues (p : FVec Ideal S32x256x2304 .f32) : FVec Ideal S32x256x128 .f32 :=
  extractStridedSlice S32x256x128 ![0, 0, 512] p slices_S32x256x2304_S32x256x128_0_0_512

/-- The retention's queries. -/
abbrev refPart640 (p : FVec Ideal S32x256x2304 .f32) : FVec Ideal S32x256x256 .f32 :=
  extractStridedSlice S32x256x256 ![0, 0, 640] p slices_S32x256x2304_S32x256x256_0_0_640

/-- Its keys, before their scale. -/
abbrev refPart896 (p : FVec Ideal S32x256x2304 .f32) : FVec Ideal S32x256x256 .f32 :=
  extractStridedSlice S32x256x256 ![0, 0, 896] p slices_S32x256x2304_S32x256x256_0_0_896

/-- Its values. -/
abbrev refPart1152 (p : FVec Ideal S32x256x2304 .f32) : FVec Ideal S32x256x256 .f32 :=
  extractStridedSlice S32x256x256 ![0, 0, 1152] p slices_S32x256x2304_S32x256x256_0_0_1152

/-- Its gates. -/
abbrev refPart1408 (p : FVec Ideal S32x256x2304 .f32) : FVec Ideal S32x256x256 .f32 :=
  extractStridedSlice S32x256x256 ![0, 0, 1408] p slices_S32x256x2304_S32x256x256_0_0_1408

/-- The queries of the attention over a window. -/
abbrev refWindowQueries (p : FVec Ideal S32x256x2304 .f32) : FVec Ideal S32x256x384 .f32 :=
  extractStridedSlice S32x256x384 ![0, 0, 1664] p slices_S32x256x2304_S32x256x384_0_0_1664

/-- Its keys. -/
abbrev refWindowKeys (p : FVec Ideal S32x256x2304 .f32) : FVec Ideal S32x256x128 .f32 :=
  extractStridedSlice S32x256x128 ![0, 0, 2048] p slices_S32x256x2304_S32x256x128_0_0_2048

/-- Its values. -/
abbrev refWindowValues (p : FVec Ideal S32x256x2304 .f32) : FVec Ideal S32x256x128 .f32 :=
  extractStridedSlice S32x256x128 ![0, 0, 2176] p slices_S32x256x2304_S32x256x128_0_0_2176

end Cert.Projection
-- ==== Proof.Inp.RefAt.lean ====
module

public import proofs.«01_k».proof.Proof.Inp.Ref
public import proofs.«01_k».proof.Proof.Inp.Row
public import Idealize.ShloMosaic.Lib.Pointwise
public import Idealize.ShloMosaic.Lib.Claim
public import Idealize.ShloMosaic.Lib.Pipeline.ValueKit

/-!
The steps of the reference of the input projection, read at one entry.
-/

@[expose] public section

set_option maxRecDepth 16384

noncomputable section

namespace Cert.Projection

open Idealize.ShloMosaic Idealize.ShloMosaic.TcCoe Idealize.SL.Sem
open Cert.InpRefIdeal Cert.InpRefIdeal.Gen
open Cert.SecondHalf (tiny modulated unit meanSq width modulated_eq)

theorem refMod_at (t : FVec Ideal S4x8x6144 .f32) (k : Fin 6144) : refMod t (ix2 0 k) = t (ix3 0 4 k) := by
  pointwise [refMod]

theorem refSpread_at (s : FVec Ideal S1x1024 .f32) (b : Fin 32) (n : Fin 256) (k : Fin 1024) :
    refSpread s (ix3 b n k) = s (ix2 0 k) := by
  pointwise [refSpread]

theorem refNorm_at (x : FVec Ideal S32x256x1024 .f32) (g : FVec Ideal S4x1024 .f32) (b : Fin 32) (n : Fin 256) (k : Fin 1024) :
    refNorm x g (ix3 b n k) = unit (fun d => x (ix3 b n d)) k * g (ix2 0 k) := by
  pointwise [refNorm]
  rfl

theorem refModulated_at (x : FVec Ideal S32x256x1024 .f32) (t : FVec Ideal S4x8x6144 .f32) (g : FVec Ideal S4x1024 .f32)
    (b : Fin 32) (n : Fin 256) (k : Fin 1024) :
    refModulated x t g (ix3 b n k)
      = modulated (fun d => t (ix3 0 4 ⟨d, by omega⟩)) (fun d => t (ix3 0 4 ⟨1024 + d, by omega⟩)) (fun d => x (ix3 b n d))
          (fun d => g (ix2 0 d)) k := by
  have e : refModulated x t g (ix3 b n k)
      = refNorm x g (ix3 b n k)
          * refSpread (addf (broadcastInDim S1x1024 ![] bcast_S_S1x1024 (constant S_ .f32 0x3F800000#32))
              (extractStridedSlice S1x1024 ![0, 1024] (refMod t) slices_S1x6144_S1x1024_0_1024)) (ix3 b n k)
        + refSpread (extractStridedSlice S1x1024 ![0, 0] (refMod t) slices_S1x6144_S1x1024_0_0) (ix3 b n k) := rfl
  have o : (addf (broadcastInDim S1x1024 ![] bcast_S_S1x1024 (constant S_ .f32 0x3F800000#32))
      (extractStridedSlice S1x1024 ![0, 1024] (refMod t) slices_S1x6144_S1x1024_0_1024)) (ix2 0 k)
      = 1 + t (ix3 0 4 ⟨1024 + k, by omega⟩) := by pointwise
  have o' : extractStridedSlice S1x1024 ![0, 0] (refMod t) slices_S1x6144_S1x1024_0_0 (ix2 0 k)
      = t (ix3 0 4 ⟨k, by omega⟩) := by pointwise
  rw [e, refNorm_at, refSpread_at, refSpread_at, o, o', modulated_eq]

/-- One feature of a token, in the reference. -/
theorem refFeatures_at (x : FVec Ideal S32x256x1024 .f32) (t : FVec Ideal S4x8x6144 .f32) (g : FVec Ideal S4x1024 .f32)
    (w : FVec Ideal S4x1024x2304 .f32) (b : Fin 32) (n : Fin 256) (j : Fin 2304) :
    refFeatures x t g w (ix3 b n j)
      = feature (fun d => x (ix3 b n d)) (fun d => g (ix2 0 d)) (fun d => t (ix3 0 4 ⟨d, by omega⟩))
          (fun d => t (ix3 0 4 ⟨1024 + d, by omega⟩)) (fun d j => w (ix3 0 d j)) j := by
  have e : refFeatures x t g w (ix3 b n j) = ∑ d, refModulated x t g (ix3 b n d) * w (ix3 0 d j) := by
    unfold refFeatures
    generalize refModulated x t g = h
    pointwise
  rw [e]
  simp only [refModulated_at]
  rfl

theorem refHeadGain_at (g : FVec Ideal S4x64 .f32) (e : Fin 64) : refHeadGain g (ix1 e) = g (ix2 0 e) := by
  pointwise [refHeadGain]

theorem refNorm6_at (q : FVec Ideal S32x256x6x64 .f32) (g : FVec Ideal S64 .f32) (b : Fin 32) (n : Fin 256) (h : Fin 6)
    (e : Fin 64) :
    refNorm6 q (refMean6 q) (constant S_ .f32 0x358637BD#32) g (ix4 b n h e)
      = headNorm (fun e => q (ix4 b n h e)) (fun e => g (ix1 e)) e := by
  pointwise [refNorm6, refMean6]
  rfl

theorem refNorm2_at (q : FVec Ideal S32x256x2x64 .f32) (g : FVec Ideal S64 .f32) (b : Fin 32) (n : Fin 256) (h : Fin 2)
    (e : Fin 64) :
    refNorm2 q g (ix4 b n h e) = headNorm (fun e => q (ix4 b n h e)) (fun e => g (ix1 e)) e := by
  pointwise [refNorm2]
  rfl

theorem refKeys_at (k : FVec Ideal S32x256x128 .f32) (g : FVec Ideal S4x64 .f32) (b : Fin 32) (n : Fin 256) (c : Fin 128) :
    refKeys k g (ix3 b n c)
      = headNorm (fun e => k (ix3 b n ⟨64 * (c / 64) + e, by omega⟩)) (fun e => g (ix2 0 e)) ⟨c % 64, by omega⟩ := by
  have e : refKeys k g (ix3 b n c)
      = refNorm2 (shapeCast S32x256x2x64 k shapeCasts_S32x256x128_S32x256x2x64) (refHeadGain g)
          (ix4 b n ⟨c / 64, by omega⟩ ⟨c % 64, by omega⟩) := by
    unfold refKeys
    generalize refNorm2 _ _ = v
    pointwise
  have o : ∀ e : Fin 64, shapeCast S32x256x2x64 k shapeCasts_S32x256x128_S32x256x2x64 (ix4 b n ⟨c / 64, by omega⟩ e)
      = k (ix3 b n ⟨64 * (c / 64) + e, by omega⟩) := fun e => by
    pointwise
    blk_ext
  rw [e, refNorm2_at]
  simp only [o, refHeadGain_at]

theorem refSix_at (q : FVec Ideal S32x256x384 .f32) (b : Fin 32) (n : Fin 256) (h : Fin 6) (e : Fin 64) :
    refSix q (ix4 b n h e) = q (ix3 b n ⟨64 * h + e, by omega⟩) := by
  pointwise [refSix]
  blk_ext

theorem refQueries_at (q : FVec Ideal S32x256x6x64 .f32) (r : Fin 8192) (c : Fin 768) :
    refQueries q (ix2 r c)
      = query (fun j => q (ix4 ⟨r / 256, by omega⟩ ⟨r % 256, by omega⟩ ⟨j / 64, by omega⟩ ⟨j % 64, by omega⟩)) c := by
  pointwise [refQueries]
  unfold query
  dsimp only
  repeat' split
  all_goals first | rfl | omega | blk_ext

theorem refRows_at (k : FVec Ideal S32x256x128 .f32) (r : Fin 8192) (c : Fin 128) :
    refRows k (ix2 r c) = k (ix3 ⟨r / 256, by omega⟩ ⟨r % 256, by omega⟩ c) := by
  pointwise [refRows]

theorem refCols_at (k : FVec Ideal S32x256x128 .f32) (c : Fin 128) (r : Fin 8192) :
    refCols k (ix2 c r) = k (ix3 ⟨r / 256, by omega⟩ ⟨r % 256, by omega⟩ c) := by
  pointwise [refCols]

theorem refBatch_at (k : FVec Ideal S32x256x128 .f32) (b : Fin 32) (c : Fin 128) (n : Fin 256) :
    refBatch k (ix3 b c n) = k (ix3 b n c) := by
  pointwise [refBatch]

theorem refRetained_at (p : FVec Ideal S32x256x2304 .f32) (r : Fin 8192) (c : Fin 1024) :
    refRetained (refPart640 p) (refPart896 p) (refPart1152 p) (refPart1408 p) (ix2 r c)
      = retained (fun j => p (ix3 ⟨r / 256, by omega⟩ ⟨r % 256, by omega⟩ j)) c := by
  pointwise [refRetained]
  unfold retained keyScale
  dsimp only
  repeat' split
  all_goals first | rfl | omega | (congr 2; blk_ext) | blk_ext

end Cert.Projection
-- ==== Proof.Inp.RefRow.lean ====
module

public import proofs.«01_k».proof.Proof.Inp.RefAt
public import Idealize.ShloMosaic.Lib.Pointwise
public import Idealize.ShloMosaic.Lib.Claim
public import Idealize.ShloMosaic.Lib.Pipeline.ValueKit

/-!
The results of the reference of the input projection, one token at a time.
-/

@[expose] public section

set_option maxRecDepth 16384

noncomputable section

namespace Cert.Projection

open Idealize.ShloMosaic Idealize.ShloMosaic.TcCoe Idealize.SL.Sem
open Cert.InpRefIdeal Cert.InpRefIdeal.Gen

variable (p : FVec Ideal S32x256x2304 .f32) (g : FVec Ideal S4x64 .f32)

/-- The features of the token whose row is `r`. -/
abbrev rowOf (r : Fin 8192) : Fin 2304 → EReal := fun j => p (ix3 ⟨r / 256, by omega⟩ ⟨r % 256, by omega⟩ j)

/-- The first layer's gain of a head. -/
abbrev gainOf : Fin 64 → EReal := fun e => g (ix2 0 e)

theorem refGlobalQueries_at (b : Fin 32) (n : Fin 256) (k : Fin 384) : refGlobalQueries p (ix3 b n k) = p (ix3 b n ⟨0 + k, by omega⟩) := by
  pointwise [refGlobalQueries]
  try blk_ext

theorem refGlobalKeys_at (b : Fin 32) (n : Fin 256) (k : Fin 128) : refGlobalKeys p (ix3 b n k) = p (ix3 b n ⟨384 + k, by omega⟩) := by
  pointwise [refGlobalKeys]
  try blk_ext

theorem refGlobalValues_at (b : Fin 32) (n : Fin 256) (k : Fin 128) : refGlobalValues p (ix3 b n k) = p (ix3 b n ⟨512 + k, by omega⟩) := by
  pointwise [refGlobalValues]
  try blk_ext

theorem refWindowQueries_at (b : Fin 32) (n : Fin 256) (k : Fin 384) : refWindowQueries p (ix3 b n k) = p (ix3 b n ⟨1664 + k, by omega⟩) := by
  pointwise [refWindowQueries]
  try blk_ext

theorem refWindowKeys_at (b : Fin 32) (n : Fin 256) (k : Fin 128) : refWindowKeys p (ix3 b n k) = p (ix3 b n ⟨2048 + k, by omega⟩) := by
  pointwise [refWindowKeys]
  try blk_ext

theorem refWindowValues_at (b : Fin 32) (n : Fin 256) (k : Fin 128) : refWindowValues p (ix3 b n k) = p (ix3 b n ⟨2176 + k, by omega⟩) := by
  pointwise [refWindowValues]
  try blk_ext

theorem globalQueries_row (r : Fin 8192) (c : Fin 768) :
    refQueries (refNorm6 (refSix (refGlobalQueries p)) (refMean6 (refSix (refGlobalQueries p)))
        (constant S_ .f32 0x358637BD#32) (refHeadGain g)) (ix2 r c)
      = globalQuery (rowOf p r) (gainOf g) c := by
  rw [refQueries_at]
  refine congrArg (fun f => query f c) (funext fun j => ?_)
  rw [refNorm6_at]
  unfold normed
  simp only [refSix_at, refGlobalQueries_at, refHeadGain_at, Nat.add_assoc]

theorem windowQueries_row (r : Fin 8192) (c : Fin 768) :
    refQueries (refSix (refWindowQueries p)) (ix2 r c) = windowQuery (rowOf p r) c := by
  rw [refQueries_at]
  refine congrArg (fun f => query f c) (funext fun j => ?_)
  rw [refSix_at, refWindowQueries_at]
  blk_ext

theorem keys_at (b : Fin 32) (n : Fin 256) (c : Fin 128) :
    refKeys (refGlobalKeys p) g (ix3 b n c) = globalKey (fun j => p (ix3 b n j)) (gainOf g) c := by
  rw [refKeys_at]
  unfold globalKey normed
  simp only [refGlobalKeys_at, Nat.add_assoc]

theorem globalKeys_row (r : Fin 8192) (c : Fin 128) :
    refRows (refKeys (refGlobalKeys p) g) (ix2 r c) = globalKey (rowOf p r) (gainOf g) c := by
  rw [refRows_at, keys_at]

theorem globalValues_row (c : Fin 128) (r : Fin 8192) :
    refCols (refGlobalValues p) (ix2 c r) = globalValue (rowOf p r) c := by
  rw [refCols_at, refGlobalValues_at]
  rfl

theorem windowKeys_row (r : Fin 8192) (c : Fin 128) : refRows (refWindowKeys p) (ix2 r c) = windowKey (rowOf p r) c := by
  rw [refRows_at, refWindowKeys_at]
  rfl

theorem windowValues_row (c : Fin 128) (r : Fin 8192) :
    refCols (refWindowValues p) (ix2 c r) = windowValue (rowOf p r) c := by
  rw [refCols_at, refWindowValues_at]
  rfl

theorem globalKeys_batch (b : Fin 32) (c : Fin 128) (n : Fin 256) :
    refBatch (refKeys (refGlobalKeys p) g) (ix3 b c n) = globalKey (fun j => p (ix3 b n j)) (gainOf g) c := by
  rw [refBatch_at, keys_at]

theorem globalValues_batch (b : Fin 32) (c : Fin 128) (n : Fin 256) :
    refBatch (refGlobalValues p) (ix3 b c n) = globalValue (fun j => p (ix3 b n j)) c := by
  rw [refBatch_at, refGlobalValues_at]
  rfl

theorem windowKeys_batch (b : Fin 32) (c : Fin 128) (n : Fin 256) :
    refBatch (refWindowKeys p) (ix3 b c n) = windowKey (fun j => p (ix3 b n j)) c := by
  rw [refBatch_at, refWindowKeys_at]
  rfl

theorem windowValues_batch (b : Fin 32) (c : Fin 128) (n : Fin 256) :
    refBatch (refWindowValues p) (ix3 b c n) = windowValue (fun j => p (ix3 b n j)) c := by
  rw [refBatch_at, refWindowValues_at]
  rfl

end Cert.Projection
-- ==== Proof.Inp.Value.lean ====
module

public import proofs.«01_k».proof.Proof.Gen.InpIdeal.Frame
public import proofs.«01_k».proof.Proof.Inp.Block
public import proofs.«01_k».proof.Proof.Inp.BlockBatch
public import proofs.«01_k».proof.Proof.Inp.BlockQuery
public import proofs.«01_k».proof.Proof.Inp.BlockWindow
public import proofs.«01_k».proof.Proof.Inp.BlockRetained
public import proofs.«01_k».proof.Proof.Inp.Operands
public import proofs.«01_k».proof.Proof.Inp.RefRow
public import Idealize.ShloMosaic.Lib.Pointwise
public import Idealize.ShloMosaic.Lib.Claim
public import Idealize.ShloMosaic.Lib.Pipeline.ValueKit

/-!
What the kernel of the input projection leaves in its eleven output arrays: every block of each is the
reference's, so the arrays are the reference's.
-/

@[expose] public section

set_option maxRecDepth 16384

noncomputable section

namespace Cert.Projection

open Idealize.ShloMosaic Idealize.ShloMosaic.TcCoe Idealize.SL.Sem
open Idealize.ShloMosaic.Pipeline (Dat)
open Cert.InpIdeal Cert.InpIdeal.Gen

variable (m : (ℓ : Loc nD τ sig) → Buf (Elt Ideal) ℓ)

/-- The reference's features at the kernel's arguments. -/
abbrev feats (c : Dev nD) :=
  refFeatures (m ((c : Thread nD τ).loc main_arg0)) (m ((c : Thread nD τ).loc main_arg1))
    (m ((c : Thread nD τ).loc main_arg2)) (m ((c : Thread nD τ).loc main_arg3))

theorem tok_at (c : Dev nD) (t : Fin cfg0.N) (i : Fin 1024) (b : Fin 32) (n : Fin 256)
    (hb : (b : ℕ) = t.val * 4 + i / 256) (hn : (n : ℕ) = i % 256) : tok m c t i = fun j => feats m c (ix3 b n j) := by
  have ht := lt_points t
  have eb : b = ⟨t.val * 4 + i / 256, by omega⟩ := Fin.ext hb
  have en : n = ⟨i % 256, by omega⟩ := Fin.ext hn
  rw [eb, en]
  funext j
  refine Eq.trans ?_ (refFeatures_at _ _ _ _ _ _ j).symm
  unfold tok feat
  simp only [token_block, gain_block, modulation_block, weight_block]

theorem tok_row (c : Dev nD) (t : Fin cfg0.N) (i : Fin 1024) (r : Fin 8192) (hr : (r : ℕ) = t.val * 1024 + i) :
    tok m c t i = rowOf (feats m c) r :=
  tok_at m c t i ⟨r / 256, by omega⟩ ⟨r % 256, by omega⟩ (by simp only []; omega) (by simp only []; omega)

theorem tok_batch (c : Dev nD) (t : Fin cfg0.N) (b : Fin 4) (n : Fin 256) (b' : Fin 32) (hb : (b' : ℕ) = t.val * 4 + b) :
    tok m c t ⟨256 * b + n, by omega⟩ = fun j => feats m c (ix3 b' n j) :=
  tok_at m c t _ b' n (by simp only []; omega) (by simp only []; omega)

theorem final_7 (c : Dev nD) :
    (dats m 0 c).arrAt 7 (cfgs 0).N = refQueries (refNorm6 (refSix (refGlobalQueries (feats m c))) (refMean6 (refSix (refGlobalQueries (feats m c)))) (constant S_ .f32 0x358637BD#32) (refHeadGain (m ((c : Thread nD τ).loc main_arg4)))) := by
  refine (dats m 0 c).arrAt_eq_of_covers 7 _ (by decide +kernel) fun t hf y => ?_
  have ht := lt_points t
  blk_simp
  idx_vars y
  refine (globalQuery_block m c t (gainOf (m ((c : Thread nD τ).loc main_arg4))) (queryGain_block m c t) (heads_block m c t) y0 y1).trans ?_
  rw [tok_row m c t y0 ⟨t.val * 1024 + y0, by omega⟩ rfl]
  refine (globalQueries_row (feats m c) (m ((c : Thread nD τ).loc main_arg4)) ⟨t.val * 1024 + y0, by omega⟩ y1).symm.trans ?_
  blk_ext [idx_val t]

theorem final_8 (c : Dev nD) :
    (dats m 0 c).arrAt 8 (cfgs 0).N = refRows (refKeys (refGlobalKeys (feats m c)) (m ((c : Thread nD τ).loc main_arg5))) := by
  refine (dats m 0 c).arrAt_eq_of_covers 8 _ (by decide +kernel) fun t hf y => ?_
  have ht := lt_points t
  blk_simp
  idx_vars y
  refine (globalKey_block m c t (gainOf (m ((c : Thread nD τ).loc main_arg5))) (keyGain_block m c t) (heads_block m c t) y0 y1).trans ?_
  rw [tok_row m c t y0 ⟨t.val * 1024 + y0, by omega⟩ rfl]
  refine (globalKeys_row (feats m c) (m ((c : Thread nD τ).loc main_arg5)) ⟨t.val * 1024 + y0, by omega⟩ y1).symm.trans ?_
  blk_ext [idx_val t]

theorem final_9 (c : Dev nD) :
    (dats m 0 c).arrAt 9 (cfgs 0).N = refCols (refGlobalValues (feats m c)) := by
  refine (dats m 0 c).arrAt_eq_of_covers 9 _ (by decide +kernel) fun t hf y => ?_
  have ht := lt_points t
  blk_simp
  idx_vars y
  refine (globalValue_block m c t y1 y0).trans ?_
  rw [tok_row m c t y1 ⟨t.val * 1024 + y1, by omega⟩ rfl]
  refine (globalValues_row (feats m c) y0 ⟨t.val * 1024 + y1, by omega⟩).symm.trans ?_
  blk_ext [idx_val t]

theorem final_10 (c : Dev nD) :
    (dats m 0 c).arrAt 10 (cfgs 0).N = refRetained (refPart640 (feats m c)) (refPart896 (feats m c)) (refPart1152 (feats m c)) (refPart1408 (feats m c)) := by
  refine (dats m 0 c).arrAt_eq_of_covers 10 _ (by decide +kernel) fun t hf y => ?_
  have ht := lt_points t
  blk_simp
  idx_vars y
  refine (retained_block m c t y0 y1).trans ?_
  rw [tok_row m c t y0 ⟨t.val * 1024 + y0, by omega⟩ rfl]
  refine (refRetained_at (feats m c) ⟨t.val * 1024 + y0, by omega⟩ y1).symm.trans ?_
  blk_ext [idx_val t]

theorem final_11 (c : Dev nD) :
    (dats m 0 c).arrAt 11 (cfgs 0).N = refQueries (refSix (refWindowQueries (feats m c))) := by
  refine (dats m 0 c).arrAt_eq_of_covers 11 _ (by decide +kernel) fun t hf y => ?_
  have ht := lt_points t
  blk_simp
  idx_vars y
  refine (windowQuery_block m c t y0 y1).trans ?_
  rw [tok_row m c t y0 ⟨t.val * 1024 + y0, by omega⟩ rfl]
  refine (windowQueries_row (feats m c) ⟨t.val * 1024 + y0, by omega⟩ y1).symm.trans ?_
  blk_ext [idx_val t]

theorem final_12 (c : Dev nD) :
    (dats m 0 c).arrAt 12 (cfgs 0).N = refRows (refWindowKeys (feats m c)) := by
  refine (dats m 0 c).arrAt_eq_of_covers 12 _ (by decide +kernel) fun t hf y => ?_
  have ht := lt_points t
  blk_simp
  idx_vars y
  refine (windowKey_block m c t y0 y1).trans ?_
  rw [tok_row m c t y0 ⟨t.val * 1024 + y0, by omega⟩ rfl]
  refine (windowKeys_row (feats m c) ⟨t.val * 1024 + y0, by omega⟩ y1).symm.trans ?_
  blk_ext [idx_val t]

theorem final_13 (c : Dev nD) :
    (dats m 0 c).arrAt 13 (cfgs 0).N = refCols (refWindowValues (feats m c)) := by
  refine (dats m 0 c).arrAt_eq_of_covers 13 _ (by decide +kernel) fun t hf y => ?_
  have ht := lt_points t
  blk_simp
  idx_vars y
  refine (windowValue_block m c t y1 y0).trans ?_
  rw [tok_row m c t y1 ⟨t.val * 1024 + y1, by omega⟩ rfl]
  refine (windowValues_row (feats m c) y0 ⟨t.val * 1024 + y1, by omega⟩).symm.trans ?_
  blk_ext [idx_val t]

theorem final_14 (c : Dev nD) :
    (dats m 0 c).arrAt 14 (cfgs 0).N = refBatch (refKeys (refGlobalKeys (feats m c)) (m ((c : Thread nD τ).loc main_arg5))) := by
  refine (dats m 0 c).arrAt_eq_of_covers 14 _ (by decide +kernel) fun t hf y => ?_
  have ht := lt_points t
  blk_simp
  idx_vars y
  refine (globalKey_batch m c t (gainOf (m ((c : Thread nD τ).loc main_arg5))) (keyGain_block m c t) (heads_block m c t) y0 y2 y1).trans ?_
  rw [tok_batch m c t y0 y2 ⟨t.val * 4 + y0, by omega⟩ rfl]
  refine (globalKeys_batch (feats m c) (m ((c : Thread nD τ).loc main_arg5)) ⟨t.val * 4 + y0, by omega⟩ y1 y2).symm.trans ?_
  blk_ext [idx_val t]

theorem final_15 (c : Dev nD) :
    (dats m 0 c).arrAt 15 (cfgs 0).N = refBatch (refGlobalValues (feats m c)) := by
  refine (dats m 0 c).arrAt_eq_of_covers 15 _ (by decide +kernel) fun t hf y => ?_
  have ht := lt_points t
  blk_simp
  idx_vars y
  refine (globalValue_batch m c t y0 y2 y1).trans ?_
  rw [tok_batch m c t y0 y2 ⟨t.val * 4 + y0, by omega⟩ rfl]
  refine (globalValues_batch (feats m c) ⟨t.val * 4 + y0, by omega⟩ y1 y2).symm.trans ?_
  blk_ext [idx_val t]

theorem final_16 (c : Dev nD) :
    (dats m 0 c).arrAt 16 (cfgs 0).N = refBatch (refWindowKeys (feats m c)) := by
  refine (dats m 0 c).arrAt_eq_of_covers 16 _ (by decide +kernel) fun t hf y => ?_
  have ht := lt_points t
  blk_simp
  idx_vars y
  refine (windowKey_batch m c t y0 y2 y1).trans ?_
  rw [tok_batch m c t y0 y2 ⟨t.val * 4 + y0, by omega⟩ rfl]
  refine (windowKeys_batch (feats m c) ⟨t.val * 4 + y0, by omega⟩ y1 y2).symm.trans ?_
  blk_ext [idx_val t]

theorem final_17 (c : Dev nD) :
    (dats m 0 c).arrAt 17 (cfgs 0).N = refBatch (refWindowValues (feats m c)) := by
  refine (dats m 0 c).arrAt_eq_of_covers 17 _ (by decide +kernel) fun t hf y => ?_
  have ht := lt_points t
  blk_simp
  idx_vars y
  refine (windowValue_batch m c t y0 y2 y1).trans ?_
  rw [tok_batch m c t y0 y2 ⟨t.val * 4 + y0, by omega⟩ rfl]
  refine (windowValues_batch (feats m c) ⟨t.val * 4 + y0, by omega⟩ y1 y2).symm.trans ?_
  blk_ext [idx_val t]

end Cert.Projection
-- ==== Proof.Inp.KernelRun.lean ====
module

public import proofs.«01_k».proof.Proof.Gen.InpIdeal.Frame
public import proofs.«01_k».proof.Proof.Inp.Value
public import Idealize.ShloMosaic.Lib.Pointwise
public import Idealize.ShloMosaic.Lib.Claim
public import Idealize.ShloMosaic.Lib.Pipeline.ValueKit

/-!
The run of the kernel of the input projection: its eleven results as functions of its arguments.
-/

@[expose] public section

set_option maxRecDepth 16384

noncomputable section

namespace Cert.Projection

open Idealize.ShloMosaic Idealize.ShloMosaic.TcCoe Idealize.SL.Sem
open Cert.InpIdeal Cert.InpIdeal.Gen

variable (m : (ℓ : Loc nD τ sig) → Buf (Elt Ideal) ℓ) (g : Dev nD → PrngReg)

set_option maxHeartbeats 800000 in
theorem kernel_run : θ_run (defs (F := Ideal)) (onTc (τ := τ) (main (F := Ideal))) ⟨m, fun _ => 0, g⟩ (fun r => ∀ c : Dev nD,
      r.2.mem ((c.tc : Thread nD τ).loc main_v23_0) = refQueries (refNorm6 (refSix (refGlobalQueries (feats m c))) (refMean6 (refSix (refGlobalQueries (feats m c)))) (constant S_ .f32 0x358637BD#32) (refHeadGain (m ((c : Thread nD τ).loc main_arg4))))
        ∧ r.2.mem ((c.tc : Thread nD τ).loc main_v23_1) = refRows (refKeys (refGlobalKeys (feats m c)) (m ((c : Thread nD τ).loc main_arg5)))
        ∧ r.2.mem ((c.tc : Thread nD τ).loc main_v23_2) = refCols (refGlobalValues (feats m c))
        ∧ r.2.mem ((c.tc : Thread nD τ).loc main_v23_3) = refRetained (refPart640 (feats m c)) (refPart896 (feats m c)) (refPart1152 (feats m c)) (refPart1408 (feats m c))
        ∧ r.2.mem ((c.tc : Thread nD τ).loc main_v23_4) = refQueries (refSix (refWindowQueries (feats m c)))
        ∧ r.2.mem ((c.tc : Thread nD τ).loc main_v23_5) = refRows (refWindowKeys (feats m c))
        ∧ r.2.mem ((c.tc : Thread nD τ).loc main_v23_6) = refCols (refWindowValues (feats m c))
        ∧ r.2.mem ((c.tc : Thread nD τ).loc main_v23_7) = refBatch (refKeys (refGlobalKeys (feats m c)) (m ((c : Thread nD τ).loc main_arg5)))
        ∧ r.2.mem ((c.tc : Thread nD τ).loc main_v23_8) = refBatch (refGlobalValues (feats m c))
        ∧ r.2.mem ((c.tc : Thread nD τ).loc main_v23_9) = refBatch (refWindowKeys (feats m c))
        ∧ r.2.mem ((c.tc : Thread nD τ).loc main_v23_10) = refBatch (refWindowValues (feats m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  θ_run_mono (θ_run_and (run_main m g) (unchanged m g)) fun r h c =>
    ⟨((h.1 c).1 7).trans (final_7 m c), ((h.1 c).1 8).trans (final_8 m c), ((h.1 c).1 9).trans (final_9 m c), ((h.1 c).1 10).trans (final_10 m c), ((h.1 c).1 11).trans (final_11 m c), ((h.1 c).1 12).trans (final_12 m c), ((h.1 c).1 13).trans (final_13 m c), ((h.1 c).1 14).trans (final_14 m c), ((h.1 c).1 15).trans (final_15 m c), ((h.1 c).1 16).trans (final_16 m c), ((h.1 c).1 17).trans (final_17 m c), h.2 c⟩

end Cert.Projection
-- ==== Proof.Inp.RefParts.lean ====
module

public import proofs.«01_k».proof.Proof.Gen.InpRefIdeal
public import proofs.«01_k».proof.Proof.Inp.Ref
public import Idealize.ShloMosaic.Lib.StableHlo.RunHlo
public import Idealize.ShloMosaic.Lib.StableHlo.RunRead
public import Idealize.ShloMosaic.Lib.Pointwise
public import Idealize.ShloMosaic.Lib.Claim

/-!
What the three parts of the projection's reference leave in the arrays that matter afterwards: the first ends
with the features and the mean squares of the query heads, the others with the stored arrays.
-/

@[expose] public section

set_option maxRecDepth 16384

noncomputable section

namespace Cert.Projection

open Idealize.ShloMosaic Idealize.ShloMosaic.TcCoe Idealize.SL.Sem Idealize.ShloMosaic.StableHlo
open Cert.InpRefIdeal Cert.InpRefIdeal.Gen

/-- The contents of the reference's arrays. -/
abbrev Arrays : Type := Valuation τ sig (Elt Ideal)

/-- A line of operations that touches no array of its own and allocates nothing. -/
def Plain (ops : List (HloOp τ sig (Elt Ideal))) : Prop :=
  (ops.Forall fun op => op.bufs ⊆ tcRefs τ sig) ∧ ∀ op ∈ ops, op.fresh = ∅

/-- The features, from the arguments. -/
abbrev featuresOf (V : Arrays) : FVec Ideal S32x256x2304 .f32 :=
  refFeatures (V (Proc.devRef .tc main_arg0)) (V (Proc.devRef .tc main_arg1)) (V (Proc.devRef .tc main_arg2)) (V (Proc.devRef .tc main_arg3))

set_option maxHeartbeats 4000000 in
theorem first_part : ∃ ops : List (HloOp τ sig (Elt Ideal)), (∀ d, IsSeq (main_part0 (F := Ideal) d) ops) ∧ Plain ops
    ∧ ∀ V : Arrays,
      after ops V (Proc.devRef .tc main_v36) = refGlobalKeys (featuresOf V)
      ∧ after ops V (Proc.devRef .tc main_v37) = refGlobalValues (featuresOf V)
      ∧ after ops V (Proc.devRef .tc main_v38) = refPart640 (featuresOf V)
      ∧ after ops V (Proc.devRef .tc main_v39) = refPart896 (featuresOf V)
      ∧ after ops V (Proc.devRef .tc main_v40) = refPart1152 (featuresOf V)
      ∧ after ops V (Proc.devRef .tc main_v41) = refPart1408 (featuresOf V)
      ∧ after ops V (Proc.devRef .tc main_v42) = refWindowQueries (featuresOf V)
      ∧ after ops V (Proc.devRef .tc main_v43) = refWindowKeys (featuresOf V)
      ∧ after ops V (Proc.devRef .tc main_v44) = refWindowValues (featuresOf V)
      ∧ after ops V (Proc.devRef .tc main_v45) = refSix (refGlobalQueries (featuresOf V))
      ∧ after ops V (Proc.devRef .tc main_v47) = refHeadGain (V (Proc.devRef .tc main_arg4))
      ∧ after ops V (Proc.devRef .tc main_v52) = refMean6 (refSix (refGlobalQueries (featuresOf V)))
      ∧ after ops V (Proc.devRef .tc main_cst_5) = (constant S_ .f32 0x358637BD#32 : FVec Ideal S_ .f32)
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_, ?_, ?_, ?_, ?_, ?_, ?_, ?_⟩
  all_goals after_reads_simp
  all_goals rfl

set_option maxHeartbeats 4000000 in
theorem second_part : ∃ ops : List (HloOp τ sig (Elt Ideal)), (∀ d, IsSeq (main_part1 (F := Ideal) d) ops) ∧ Plain ops
    ∧ ∀ V : Arrays,
      after ops V (Proc.devRef .tc main_v89) = refQueries (refNorm6 (V (Proc.devRef .tc main_v45)) (V (Proc.devRef .tc main_v52)) (V (Proc.devRef .tc main_cst_5)) (V (Proc.devRef .tc main_v47)))
      ∧ after ops V (Proc.devRef .tc main_v91) = refRows (refKeys (V (Proc.devRef .tc main_v36)) (V (Proc.devRef .tc main_arg5)))
      ∧ after ops V (Proc.devRef .tc main_v94) = refCols (V (Proc.devRef .tc main_v37))
      ∧ after ops V (Proc.devRef .tc main_v96) = refRetained (V (Proc.devRef .tc main_v38)) (V (Proc.devRef .tc main_v39)) (V (Proc.devRef .tc main_v40)) (V (Proc.devRef .tc main_v41))
      ∧ after ops V (Proc.devRef .tc main_v104) = refQueries (refSix (V (Proc.devRef .tc main_v42)))
      ∧ after ops V (Proc.devRef .tc main_v106) = refRows (V (Proc.devRef .tc main_v43))
      ∧ after ops V (Proc.devRef .tc main_v77) = refKeys (V (Proc.devRef .tc main_v36)) (V (Proc.devRef .tc main_arg5))
      ∧ after ops V (Proc.devRef .tc main_v37) = V (Proc.devRef .tc main_v37)
      ∧ after ops V (Proc.devRef .tc main_v43) = V (Proc.devRef .tc main_v43)
      ∧ after ops V (Proc.devRef .tc main_v44) = V (Proc.devRef .tc main_v44)
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_, ?_, ?_, ?_, ?_⟩
  all_goals after_reads_simp
  all_goals rfl

set_option maxHeartbeats 4000000 in
theorem third_part : ∃ ops : List (HloOp τ sig (Elt Ideal)), (∀ d, IsSeq (main_part2 (F := Ideal) d) ops) ∧ Plain ops
    ∧ ∀ V : Arrays,
      after ops V (Proc.devRef .tc main_v109) = refCols (V (Proc.devRef .tc main_v44))
      ∧ after ops V (Proc.devRef .tc main_v110) = refBatch (V (Proc.devRef .tc main_v77))
      ∧ after ops V (Proc.devRef .tc main_v111) = refBatch (V (Proc.devRef .tc main_v37))
      ∧ after ops V (Proc.devRef .tc main_v112) = refBatch (V (Proc.devRef .tc main_v43))
      ∧ after ops V (Proc.devRef .tc main_v113) = refBatch (V (Proc.devRef .tc main_v44))
      ∧ after ops V (Proc.devRef .tc main_v89) = V (Proc.devRef .tc main_v89)
      ∧ after ops V (Proc.devRef .tc main_v91) = V (Proc.devRef .tc main_v91)
      ∧ after ops V (Proc.devRef .tc main_v94) = V (Proc.devRef .tc main_v94)
      ∧ after ops V (Proc.devRef .tc main_v96) = V (Proc.devRef .tc main_v96)
      ∧ after ops V (Proc.devRef .tc main_v104) = V (Proc.devRef .tc main_v104)
      ∧ after ops V (Proc.devRef .tc main_v106) = V (Proc.devRef .tc main_v106)
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_, ?_, ?_, ?_, ?_, ?_⟩
  all_goals after_reads_simp
  all_goals rfl

end Cert.Projection
-- ==== Proof.Inp.RefRun.lean ====
module

public import proofs.«01_k».proof.Proof.Gen.InpRefIdeal
public import proofs.«01_k».proof.Proof.Inp.RefParts
public import Idealize.ShloMosaic.Lib.Pipeline.Frame
public import Idealize.ShloMosaic.Lib.Pointwise
public import Idealize.ShloMosaic.Lib.Claim
public import Idealize.ShloMosaic.Lib.Pipeline.ValueKit

/-!
What the reference of the input projection leaves: its eleven results as functions of its arguments.
-/

@[expose] public section

set_option maxRecDepth 16384

noncomputable section

namespace Cert.Projection

open Idealize.ShloMosaic Idealize.ShloMosaic.TcCoe Idealize.SL.Sem Idealize.ShloMosaic.StableHlo
open Cert.InpRefIdeal Cert.InpRefIdeal.Gen

/-- The features at the arguments. -/
abbrev features (m : (ℓ : Loc nD τ sig) → Buf (Elt Ideal) ℓ) (c : Dev nD) : FVec Ideal S32x256x2304 .f32 :=
  refFeatures (m ((c.tc : Thread nD τ).loc main_arg0)) (m ((c.tc : Thread nD τ).loc main_arg1)) (m ((c.tc : Thread nD τ).loc main_arg2)) (m ((c.tc : Thread nD τ).loc main_arg3))

set_option maxHeartbeats 3200000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v89) = refQueries (refNorm6 (refSix (refGlobalQueries (features m c))) (refMean6 (refSix (refGlobalQueries (features m c)))) (constant S_ .f32 0x358637BD#32) (refHeadGain (m ((c.tc : Thread nD τ).loc main_arg4))))
        ∧ r.2.mem ((c.tc : Thread nD τ).loc main_v91) = refRows (refKeys (refGlobalKeys (features m c)) (m ((c.tc : Thread nD τ).loc main_arg5)))
        ∧ r.2.mem ((c.tc : Thread nD τ).loc main_v94) = refCols (refGlobalValues (features m c))
        ∧ r.2.mem ((c.tc : Thread nD τ).loc main_v96) = refRetained (refPart640 (features m c)) (refPart896 (features m c)) (refPart1152 (features m c)) (refPart1408 (features m c))
        ∧ r.2.mem ((c.tc : Thread nD τ).loc main_v104) = refQueries (refSix (refWindowQueries (features m c)))
        ∧ r.2.mem ((c.tc : Thread nD τ).loc main_v106) = refRows (refWindowKeys (features m c))
        ∧ r.2.mem ((c.tc : Thread nD τ).loc main_v109) = refCols (refWindowValues (features m c))
        ∧ r.2.mem ((c.tc : Thread nD τ).loc main_v110) = refBatch (refKeys (refGlobalKeys (features m c)) (m ((c.tc : Thread nD τ).loc main_arg5)))
        ∧ r.2.mem ((c.tc : Thread nD τ).loc main_v111) = refBatch (refGlobalValues (features m c))
        ∧ r.2.mem ((c.tc : Thread nD τ).loc main_v112) = refBatch (refWindowKeys (features m c))
        ∧ r.2.mem ((c.tc : Thread nD τ).loc main_v113) = refBatch (refWindowValues (features m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  obtain ⟨ops, hp, hpl, hv⟩ := first_part
  obtain ⟨ops', hp', hpl', hv'⟩ := second_part
  obtain ⟨ops'', hp'', hpl'', hv''⟩ := third_part
  have hmain : ∀ d, IsSeq (main (F := Ideal) d) (ops ++ (ops' ++ ops'')) := fun d => by
    have e : main (F := Ideal) d
        = main_part0 (F := Ideal) d >>= fun _ => main_part1 (F := Ideal) d >>= fun _ => main_part2 (F := Ideal) d := rfl
    unfold IsSeq
    rw [seq_append, seq_append, ← hp d, ← hp' d, ← hp'' d, e]
  refine θ_run_mono (run_hlo _ _ hmain (by decide) (by decide)
    (List.forall_append.2 ⟨hpl.1, List.forall_append.2 ⟨hpl'.1, hpl''.1⟩⟩)
    (fun op h => (List.mem_append.1 h).elim (hpl.2 op) fun h => (List.mem_append.1 h).elim (hpl'.2 op) (hpl''.2 op)) m g)
    fun r hc c => ?_
  obtain ⟨a_v36, a_v37, a_v38, a_v39, a_v40, a_v41, a_v42, a_v43, a_v44, a_v45, a_v47, a_v52, a_cst_5, a_arg0, a_arg1, a_arg2, a_arg3, a_arg4, a_arg5⟩ := hv (launchContents m c)
  obtain ⟨b_v89, b_v91, b_v94, b_v96, b_v104, b_v106, b_v77, b_v37, b_v43, b_v44, b_arg0, b_arg1, b_arg2, b_arg3, b_arg4, b_arg5⟩ := hv' (after ops (launchContents m c))
  obtain ⟨d_v109, d_v110, d_v111, d_v112, d_v113, d_v89, d_v91, d_v94, d_v96, d_v104, d_v106, d_arg0, d_arg1, d_arg2, d_arg3, d_arg4, d_arg5⟩ := hv'' (after ops' (after ops (launchContents m c)))
  refine ⟨(hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_, (hc c _).trans ?_⟩
  all_goals rw [after_append, after_append]
  · rw [d_v89, b_v89, a_v45, a_v52, a_cst_5, a_v47]
  · rw [d_v91, b_v91, a_v36, a_arg5]
  · rw [d_v94, b_v94, a_v37]
  · rw [d_v96, b_v96, a_v38, a_v39, a_v40, a_v41]
  · rw [d_v104, b_v104, a_v42]
  · rw [d_v106, b_v106, a_v43]
  · rw [d_v109, b_v44, a_v44]
  · rw [d_v110, b_v77, a_v36, a_arg5]
  · rw [d_v111, b_v37, a_v37]
  · rw [d_v112, b_v43, a_v43]
  · rw [d_v113, b_v44, a_v44]
  · rw [d_arg0, b_arg0, a_arg0]
  · rw [d_arg1, b_arg1, a_arg1]
  · rw [d_arg2, b_arg2, a_arg2]
  · rw [d_arg3, b_arg3, a_arg3]
  · rw [d_arg4, b_arg4, a_arg4]
  · rw [d_arg5, b_arg5, a_arg5]

end Cert.Projection
-- ==== Proof.Inp.Claim.lean ====
module

public import proofs.«01_k».proof.Defs
public import proofs.«01_k».proof.Proof.Inp.KernelRun
public import proofs.«01_k».proof.Proof.Inp.RefRun
public import Idealize.ShloMosaic.Lib.Pointwise
public import Idealize.ShloMosaic.Lib.Claim
public import Idealize.ShloMosaic.Lib.Pipeline.ValueKit

/-!
The input projection's claim: from any arguments the kernel and the reference leave the same eleven arrays.
-/

@[expose] public section

set_option maxRecDepth 16384

noncomputable section

namespace Cert.Projection

open Idealize.ShloMosaic Idealize.ShloMosaic.TcCoe Idealize.SL.Sem

set_option maxHeartbeats 800000 in
theorem algebraic : Cert.algebraic_InpIdeal_InpRefIdeal (hInpIdeal := Cert.InpIdeal.Gen.facts)
    (hInpRefIdeal := Cert.InpRefIdeal.Gen.facts) := by
  intro m g m' g' hpre hagree
  refine ⟨_, _, _, _, _, _, _, _, _, _, _, kernel_run m g, ?_⟩
  refine θ_run_mono (ref_run m' g') fun r h c => ?_
  obtain ⟨e0, e1, e2, e3, e4, e5⟩ := hagree c
  have h := h c
  have e : features m' c = feats m c := by
    show refFeatures _ _ _ _ = refFeatures _ _ _ _
    rw [e0, e1, e2, e3]
  refine ⟨h.1.trans ?_, h.2.1.trans ?_, h.2.2.1.trans ?_, h.2.2.2.1.trans ?_, h.2.2.2.2.1.trans ?_,
    h.2.2.2.2.2.1.trans ?_, h.2.2.2.2.2.2.1.trans ?_, h.2.2.2.2.2.2.2.1.trans ?_, h.2.2.2.2.2.2.2.2.1.trans ?_,
    h.2.2.2.2.2.2.2.2.2.1.trans ?_, h.2.2.2.2.2.2.2.2.2.2.1.trans ?_, h.2.2.2.2.2.2.2.2.2.2.2⟩
  · rw [e, e4]
  · rw [e, e5]
  · rw [e]
  · rw [e]
  · rw [e]
  · rw [e]
  · rw [e]
  · rw [e, e5]
  · rw [e]
  · rw [e]
  · rw [e]

end Cert.Projection
-- ==== Proof.Context.Same.lean ====
module

public import proofs.«01_k».proof.Proof.Gen.ContextIdeal.Frame
public import proofs.«01_k».proof.Proof.Post.Block

/-! The block the kernel writes for the context's tokens is the one it writes for the prompt's. The two programs
    differ in where the blocks come from, and in nothing the body does with them. -/

@[expose] public section

namespace Cert.ContextHalf

theorem body_same : @Cert.ContextIdeal.Gen.out0_11 = @Cert.PostIdeal.Gen.out0_11 := rfl

end Cert.ContextHalf
-- ==== Proof.Context.Operands.lean ====
module

public import proofs.«01_k».proof.Proof.Gen.ContextIdeal.Frame
public import Idealize.ShloMosaic.Lib.Pointwise
public import Idealize.ShloMosaic.Lib.Claim
public import Idealize.ShloMosaic.Lib.Pipeline.ValueKit

/-!
The blocks that each grid point of the call over the context's tokens reads, in terms of the program's
arguments: four rows of 256 tokens, the context's modulation vector, and layer 3's weights.
-/

@[expose] public section

set_option maxRecDepth 16384

noncomputable section

namespace Cert.ContextHalf

open Idealize.ShloMosaic Idealize.ShloMosaic.TcCoe Idealize.SL.Sem
open Idealize.ShloMosaic.Pipeline (Dat)
open Cert.ContextIdeal Cert.ContextIdeal.Gen

variable (m : (ℓ : Loc nD τ sig) → Buf (Elt Ideal) ℓ)

/-- The blocks' positions at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![28, 0, 0]
    ∧ win0_5.index t = ![0, 0]
    ∧ win0_6.index t = ![0, 0]
    ∧ win0_7.index t = ![0, 0]
    ∧ win0_8.index t = ![3, 0, 0]
    ∧ win0_9.index t = ![3, 0, 0]
    ∧ win0_10.index t = ![3, 0, 0]
    ∧ win0_11.index t = ![t.val, 0] :=
  (by decide +kernel : ∀ t : Fin grid0.N, _)

theorem lt_points (t : Fin cfg0.N) : t.val < 8 := lt_of_lt_of_eq t.isLt N_0

section
variable (c : Dev nD) (t : Fin cfg0.N)

theorem token_block (i k : Fin 1024) : iblk m c 0 t (ix2 i k) = (m ((c : Thread nD τ).loc main_arg0)) (ix3 ⟨t.val * 4 + i / 256, by have := lt_points t; omega⟩ ⟨i % 256, by omega⟩ k) := by
  have := lt_points t
  blk_point [iblk, V, idx_val t]

theorem global_block (i : Fin 1024) (k : Fin 384) : iblk m c 1 t (ix2 i k) = (m ((c : Thread nD τ).loc main_arg1)) (ix4 ⟨t.val * 4 + i / 256, by have := lt_points t; omega⟩ ⟨i % 256, by omega⟩ ⟨k / 64, by omega⟩ ⟨k % 64, by omega⟩) := by
  have := lt_points t
  blk_point [iblk, V, idx_val t]

theorem retention_block (i : Fin 1024) (k : Fin 256) : iblk m c 2 t (ix2 i k) = (m ((c : Thread nD τ).loc main_arg2)) (ix4 ⟨t.val * 4 + i / 256, by have := lt_points t; omega⟩ ⟨i % 256, by omega⟩ ⟨k / 64, by omega⟩ ⟨k % 64, by omega⟩) := by
  have := lt_points t
  blk_point [iblk, V, idx_val t]

theorem window_block (i : Fin 1024) (k : Fin 384) : iblk m c 3 t (ix2 i k) = (m ((c : Thread nD τ).loc main_arg3)) (ix4 ⟨t.val * 4 + i / 256, by have := lt_points t; omega⟩ ⟨i % 256, by omega⟩ ⟨k / 64, by omega⟩ ⟨k % 64, by omega⟩) := by
  have := lt_points t
  blk_point [iblk, V, idx_val t]

theorem modulation_block (k : Fin 6144) : iblk m c 4 t (ix3 0 0 k) = (m ((c : Thread nD τ).loc main_arg4)) (ix3 3 4 k) := by
  have := lt_points t
  blk_point [iblk, V, idx_val t]

theorem out_block (k j : Fin 1024) : iblk m c 5 t (ix2 k j) = (m ((c : Thread nD τ).loc main_arg5)) (ix3 3 k j) := by
  have := lt_points t
  blk_point [iblk, V, idx_val t]

theorem up_block (d : Fin 1024) (f : Fin 5632) : iblk m c 6 t (ix2 d f) = (m ((c : Thread nD τ).loc main_arg6)) (ix3 3 d f) := by
  have := lt_points t
  blk_point [iblk, V, idx_val t]

theorem down_block (f : Fin 2816) (j : Fin 1024) : iblk m c 7 t (ix2 f j) = (m ((c : Thread nD τ).loc main_arg7)) (ix3 3 f j) := by
  have := lt_points t
  blk_point [iblk, V, idx_val t]

theorem gain_block (k : Fin 1024) : iblk m c 8 t (ix3 0 0 k) = (m ((c : Thread nD τ).loc main_arg8)) (ix2 3 k) := by
  have := lt_points t
  blk_point [iblk, V, idx_val t]

theorem gain'_block (k : Fin 1024) : iblk m c 9 t (ix3 0 0 k) = (m ((c : Thread nD τ).loc main_arg9)) (ix2 3 k) := by
  have := lt_points t
  blk_point [iblk, V, idx_val t]

theorem gain''_block (k : Fin 1024) : iblk m c 10 t (ix3 0 0 k) = (m ((c : Thread nD τ).loc main_arg10)) (ix2 3 k) := by
  have := lt_points t
  blk_point [iblk, V, idx_val t]
end

end Cert.ContextHalf
-- ==== Proof.Context.Ref.lean ====
module

public import proofs.«01_k».proof.Proof.Gen.ContextRefIdeal
public import Idealize.ShloMosaic.Lib.Pointwise
public import Idealize.ShloMosaic.Lib.Claim
public import Idealize.ShloMosaic.Lib.Pipeline.ValueKit

/-!
The reference of the layer's second half over the context's tokens, cut into its steps.
-/

@[expose] public section

set_option maxRecDepth 16384

noncomputable section

namespace Cert.ContextHalf

open Idealize.ShloMosaic Idealize.ShloMosaic.TcCoe Idealize.SL.Sem
open Cert.ContextRefIdeal Cert.ContextRefIdeal.Gen

/-- The modulation vector of the context's tokens at layer 3. -/
abbrev refMod (t : FVec Ideal S4x8x6144 .f32) : FVec Ideal S1x6144 .f32 :=
  broadcastInDim S1x6144 ![1] bcast_S6144_S1x6144_1
    (shapeCast S6144 (extractStridedSlice S1x1x6144 ![3, 4, 0] t slices_S4x8x6144_S1x1x6144_3_4_0) shapeCasts_S1x1x6144_S6144)

/-- A modulation vector at every token. -/
abbrev refSpread (s : FVec Ideal S1x1024 .f32) : FVec Ideal S32x256x1024 .f32 :=
  broadcastInDim S32x256x1024 ![0, 1, 2] bcast_S1x1x1024_S32x256x1024_0_1_2
    (broadcastInDim S1x1x1024 ![1, 2] bcast_S1x1024_S1x1x1024_1_2 s)

/-- A gain at layer 3. -/
abbrev refGain (g : FVec Ideal S4x1024 .f32) : FVec Ideal S1024 .f32 :=
  shapeCast S1024 (extractStridedSlice S1x1024 ![3, 0] g slices_S4x1024_S1x1024_3_0) shapeCasts_S1x1024_S1024

/-- The normalization of every row, with a gain. -/
abbrev refNorm (x : FVec Ideal S32x256x1024 .f32) (g : FVec Ideal S1024 .f32) : FVec Ideal S32x256x1024 .f32 :=
  mulf
    (mulf x (broadcastInDim S32x256x1024 ![0, 1, 2] bcast_S32x256x1_S32x256x1024_0_1_2
      (Host.rsqrt (addf
        (Host.divf
          (broadcastInDim S32x256x1 ![0, 1] bcast_S32x256_S32x256x1_0_1
            (Host.reduceAdd (mulf x x) (constant S_ .f32 0x00000000#32) reducesTo_S32x256x1024_S32x256_d2 h_S_))
          (broadcastInDim S32x256x1 ![] bcast_S_S32x256x1 (constant S_ .f32 0x44800000#32)))
        (broadcastInDim S32x256x1 ![] bcast_S_S32x256x1 (constant S_ .f32 0x358637BD#32))))))
    (broadcastInDim S32x256x1024 ![0, 1, 2] bcast_S1x1x1024_S32x256x1024_0_1_2
      (broadcastInDim S1x1x1024 ![2] bcast_S1024_S1x1x1024_2 g))

/-- The attention's three parts side by side. -/
abbrev refMerged (a : FVec Ideal S32x256x6x64 .f32) (r : FVec Ideal S32x256x4x64 .f32) (w : FVec Ideal S32x256x6x64 .f32) :
    FVec Ideal S32x256x1024 .f32 :=
  concatenate S32x256x1024 2
    [⟨S32x256x384, shapeCast S32x256x384 a shapeCasts_S32x256x6x64_S32x256x384⟩,
      ⟨S32x256x256, shapeCast S32x256x256 r shapeCasts_S32x256x4x64_S32x256x256⟩,
      ⟨S32x256x384, shapeCast S32x256x384 w shapeCasts_S32x256x6x64_S32x256x384⟩]
    concatenates_S32x256x384_S32x256x256_S32x256x384_S32x256x1024_d2

/-- The output projection. -/
abbrev refMixed (u : FVec Ideal S32x256x1024 .f32) (w : FVec Ideal S4x1024x1024 .f32) : FVec Ideal S32x256x1024 .f32 :=
  Host.dotGeneral dot_S32x256x1024_S1024x1024_S32x256x1024_2_0_01_1_n_n none u
    (shapeCast S1024x1024 (extractStridedSlice S1x1024x1024 ![3, 0, 0] w slices_S4x1024x1024_S1x1024x1024_3_0_0)
      shapeCasts_S1x1024x1024_S1024x1024)

/-- A gated residual. -/
abbrev refResidual (gt : FVec Ideal S1x1024 .f32) (v x : FVec Ideal S32x256x1024 .f32) (g : FVec Ideal S4x1024 .f32) :
    FVec Ideal S32x256x1024 .f32 :=
  addf x (mulf (refSpread gt) (refNorm v (refGain g)))

/-- The modulated input of the feed-forward block. -/
abbrev refModulated (sh sc : FVec Ideal S1x1024 .f32) (v : FVec Ideal S32x256x1024 .f32) (g : FVec Ideal S4x1024 .f32) :
    FVec Ideal S32x256x1024 .f32 :=
  addf (mulf (refNorm v (refGain g))
      (refSpread (addf (broadcastInDim S1x1024 ![] bcast_S_S1x1024 (constant S_ .f32 0x3F800000#32)) sc)))
    (refSpread sh)

/-- Both halves of the hidden features. -/
abbrev refUp (h : FVec Ideal S32x256x1024 .f32) (w : FVec Ideal S4x1024x5632 .f32) : FVec Ideal S32x256x5632 .f32 :=
  Host.dotGeneral dot_S32x256x1024_S1024x5632_S32x256x5632_2_0_01_1_n_n none h
    (shapeCast S1024x5632 (extractStridedSlice S1x1024x5632 ![3, 0, 0] w slices_S4x1024x5632_S1x1024x5632_3_0_0)
      shapeCasts_S1x1024x5632_S1024x5632)

/-- The activation. -/
abbrev refSilu (a : FVec Ideal S32x256x2816 .f32) : FVec Ideal S32x256x2816 .f32 :=
  mulf a (Host.divf (broadcastInDim S32x256x2816 ![] bcast_S_S32x256x2816 (constant S_ .f32 0x3F800000#32))
    (addf (broadcastInDim S32x256x2816 ![] bcast_S_S32x256x2816 (constant S_ .f32 0x3F800000#32)) (Host.exp (Host.negf a))))

/-- The gated hidden features. -/
abbrev refHidden (u : FVec Ideal S32x256x5632 .f32) : FVec Ideal S32x256x2816 .f32 :=
  mulf (refSilu (extractStridedSlice S32x256x2816 ![0, 0, 0] u slices_S32x256x5632_S32x256x2816_0_0_0))
    (extractStridedSlice S32x256x2816 ![0, 0, 2816] u slices_S32x256x5632_S32x256x2816_0_0_2816)

/-- The feed-forward block's output. -/
abbrev refDown (f : FVec Ideal S32x256x2816 .f32) (w : FVec Ideal S4x2816x1024 .f32) : FVec Ideal S32x256x1024 .f32 :=
  Host.dotGeneral dot_S32x256x2816_S2816x1024_S32x256x1024_2_0_01_1_n_n none f
    (shapeCast S2816x1024 (extractStridedSlice S1x2816x1024 ![3, 0, 0] w slices_S4x2816x1024_S1x2816x1024_3_0_0)
      shapeCasts_S1x2816x1024_S2816x1024)

/-- The residual stream between the attention and the feed-forward block. -/
abbrev refMiddle (x : FVec Ideal S32x256x1024 .f32) (a : FVec Ideal S32x256x6x64 .f32) (r : FVec Ideal S32x256x4x64 .f32)
    (w : FVec Ideal S32x256x6x64 .f32) (t : FVec Ideal S4x8x6144 .f32) (wo : FVec Ideal S4x1024x1024 .f32)
    (g : FVec Ideal S4x1024 .f32) : FVec Ideal S32x256x1024 .f32 :=
  refResidual (extractStridedSlice S1x1024 ![0, 2048] (refMod t) slices_S1x6144_S1x1024_0_2048)
    (refMixed (refMerged a r w) wo) x g

/-- The feed-forward block of a residual stream. -/
abbrev refForward (y : FVec Ideal S32x256x1024 .f32) (t : FVec Ideal S4x8x6144 .f32) (wu : FVec Ideal S4x1024x5632 .f32)
    (wd : FVec Ideal S4x2816x1024 .f32) (g : FVec Ideal S4x1024 .f32) : FVec Ideal S32x256x1024 .f32 :=
  refDown (refHidden (refUp (refModulated
    (extractStridedSlice S1x1024 ![0, 3072] (refMod t) slices_S1x6144_S1x1024_0_3072)
    (extractStridedSlice S1x1024 ![0, 4096] (refMod t) slices_S1x6144_S1x1024_0_4096) y g) wu)) wd

/-- The last residual, a row per token. -/
abbrev refLast (y : FVec Ideal S32x256x1024 .f32) (t : FVec Ideal S4x8x6144 .f32) (f : FVec Ideal S32x256x1024 .f32)
    (g : FVec Ideal S4x1024 .f32) : FVec Ideal S8192x1024 .f32 :=
  shapeCast S8192x1024
    (refResidual (extractStridedSlice S1x1024 ![0, 5120] (refMod t) slices_S1x6144_S1x1024_0_5120) f y g)
    shapeCasts_S32x256x1024_S8192x1024

/-- The second half's output from the residual stream in its middle. -/
abbrev refFrom (y : FVec Ideal S32x256x1024 .f32) (t : FVec Ideal S4x8x6144 .f32) (wu : FVec Ideal S4x1024x5632 .f32)
    (wd : FVec Ideal S4x2816x1024 .f32) (g' g'' : FVec Ideal S4x1024 .f32) : FVec Ideal S8192x1024 .f32 :=
  refLast y t (refForward y t wu wd g') g''

end Cert.ContextHalf
-- ==== Proof.Context.RefAt.lean ====
module

public import proofs.«01_k».proof.Proof.Gen.ContextRefIdeal
public import proofs.«01_k».proof.Proof.Context.Ref
public import proofs.«01_k».proof.Proof.Post.Row
public import Idealize.ShloMosaic.Lib.Pointwise
public import Idealize.ShloMosaic.Lib.Claim
public import Idealize.ShloMosaic.Lib.Pipeline.ValueKit

/-!
The reference of the second half over the context's tokens, read at one entry, step by step.
-/

@[expose] public section

set_option maxRecDepth 16384

noncomputable section

namespace Cert.ContextHalf

open Idealize.ShloMosaic Idealize.ShloMosaic.TcCoe Idealize.SL.Sem
open Cert.SecondHalf (merged residual modulated modulated_eq unit forward feature act act_eq outRow)
open Cert.ContextRefIdeal Cert.ContextRefIdeal.Gen

theorem refMod_at (t : FVec Ideal S4x8x6144 .f32) (k : Fin 6144) : refMod t (ix2 0 k) = t (ix3 3 4 k) := by
  pointwise [refMod]

/-- The normalization of a row, with its gain. -/
theorem refNorm_at (x : FVec Ideal S32x256x1024 .f32) (g : FVec Ideal S1024 .f32) (b : Fin 32) (n : Fin 256) (j : Fin 1024) :
    refNorm x g (ix3 b n j) = unit (fun k => x (ix3 b n k)) j * g (ix1 j) := by
  pointwise [refNorm]
  rfl

theorem refGain_at (g : FVec Ideal S4x1024 .f32) (j : Fin 1024) : refGain g (ix1 j) = g (ix2 3 j) := by
  pointwise [refGain]

theorem refSpread_at (s : FVec Ideal S1x1024 .f32) (b : Fin 32) (n : Fin 256) (j : Fin 1024) :
    refSpread s (ix3 b n j) = s (ix2 0 j) := by
  pointwise [refSpread]

theorem refMerged_at (a : FVec Ideal S32x256x6x64 .f32) (r : FVec Ideal S32x256x4x64 .f32) (w : FVec Ideal S32x256x6x64 .f32)
    (b : Fin 32) (n : Fin 256) (k : Fin 1024) :
    refMerged a r w (ix3 b n k)
      = merged (fun l => a (ix4 b n ⟨l / 64, by omega⟩ ⟨l % 64, by omega⟩))
          (fun l => r (ix4 b n ⟨l / 64, by omega⟩ ⟨l % 64, by omega⟩))
          (fun l => w (ix4 b n ⟨l / 64, by omega⟩ ⟨l % 64, by omega⟩)) k := by
  unfold merged
  pointwise [refMerged]

theorem refMixed_at (u : FVec Ideal S32x256x1024 .f32) (w : FVec Ideal S4x1024x1024 .f32) (b : Fin 32) (n : Fin 256)
    (j : Fin 1024) : refMixed u w (ix3 b n j) = ∑ k, u (ix3 b n k) * w (ix3 3 k j) := by
  pointwise [refMixed]

theorem refResidual_at (gt : FVec Ideal S1x1024 .f32) (v x : FVec Ideal S32x256x1024 .f32) (g : FVec Ideal S4x1024 .f32)
    (b : Fin 32) (n : Fin 256) (j : Fin 1024) :
    refResidual gt v x g (ix3 b n j)
      = residual (fun k => gt (ix2 0 k)) (fun k => v (ix3 b n k)) (fun k => x (ix3 b n k)) (fun k => g (ix2 3 k)) j := by
  have e : refResidual gt v x g (ix3 b n j) = x (ix3 b n j) + refSpread gt (ix3 b n j) * refNorm v (refGain g) (ix3 b n j) := rfl
  rw [e, refSpread_at, refNorm_at, refGain_at]
  rfl

theorem refModulated_at (sh sc : FVec Ideal S1x1024 .f32) (v : FVec Ideal S32x256x1024 .f32) (g : FVec Ideal S4x1024 .f32)
    (b : Fin 32) (n : Fin 256) (j : Fin 1024) :
    refModulated sh sc v g (ix3 b n j)
      = modulated (fun k => sh (ix2 0 k)) (fun k => sc (ix2 0 k)) (fun k => v (ix3 b n k)) (fun k => g (ix2 3 k)) j := by
  have e : refModulated sh sc v g (ix3 b n j)
      = refNorm v (refGain g) (ix3 b n j)
          * refSpread (addf (broadcastInDim S1x1024 ![] bcast_S_S1x1024 (constant S_ .f32 0x3F800000#32)) sc) (ix3 b n j)
        + refSpread sh (ix3 b n j) := rfl
  have o : (addf (broadcastInDim S1x1024 ![] bcast_S_S1x1024 (constant S_ .f32 0x3F800000#32)) sc) (ix2 0 j)
      = 1 + sc (ix2 0 j) := by pointwise
  rw [e, refNorm_at, refGain_at, refSpread_at, refSpread_at, o, modulated_eq]

theorem refUp_at (h : FVec Ideal S32x256x1024 .f32) (w : FVec Ideal S4x1024x5632 .f32) (b : Fin 32) (n : Fin 256)
    (f : Fin 5632) : refUp h w (ix3 b n f) = ∑ d, h (ix3 b n d) * w (ix3 3 d f) := by
  pointwise [refUp]

theorem refHidden_at (u : FVec Ideal S32x256x5632 .f32) (b : Fin 32) (n : Fin 256) (f : Fin 2816) :
    refHidden u (ix3 b n f) = act (u (ix3 b n ⟨f, by omega⟩)) (u (ix3 b n ⟨2816 + f, by omega⟩)) := by
  rw [act_eq]
  pointwise [refHidden, refSilu]

theorem refDown_at (f : FVec Ideal S32x256x2816 .f32) (w : FVec Ideal S4x2816x1024 .f32) (b : Fin 32) (n : Fin 256)
    (j : Fin 1024) : refDown f w (ix3 b n j) = ∑ k, f (ix3 b n k) * w (ix3 3 k j) := by
  pointwise [refDown]

/-- The parts of the modulation vector. -/
theorem refPart_at (s : FVec Ideal S1x6144 .f32) (k : Fin 1024) :
    extractStridedSlice S1x1024 ![0, 2048] s slices_S1x6144_S1x1024_0_2048 (ix2 0 k)
        = s (ix2 0 ⟨2048 + k, by omega⟩)
      ∧ extractStridedSlice S1x1024 ![0, 3072] s slices_S1x6144_S1x1024_0_3072 (ix2 0 k)
        = s (ix2 0 ⟨3072 + k, by omega⟩)
      ∧ extractStridedSlice S1x1024 ![0, 4096] s slices_S1x6144_S1x1024_0_4096 (ix2 0 k)
        = s (ix2 0 ⟨4096 + k, by omega⟩)
      ∧ extractStridedSlice S1x1024 ![0, 5120] s slices_S1x6144_S1x1024_0_5120 (ix2 0 k)
        = s (ix2 0 ⟨5120 + k, by omega⟩) := by
  refine ⟨?_, ?_, ?_, ?_⟩ <;> pointwise

theorem refMiddle_at (x : FVec Ideal S32x256x1024 .f32) (a : FVec Ideal S32x256x6x64 .f32) (r : FVec Ideal S32x256x4x64 .f32)
    (w : FVec Ideal S32x256x6x64 .f32) (t : FVec Ideal S4x8x6144 .f32) (wo : FVec Ideal S4x1024x1024 .f32)
    (g : FVec Ideal S4x1024 .f32) (b : Fin 32) (n : Fin 256) (j : Fin 1024) :
    refMiddle x a r w t wo g (ix3 b n j)
      = residual (fun k => t (ix3 3 4 ⟨2048 + k, by omega⟩))
          (fun j => ∑ k, merged (fun l => a (ix4 b n ⟨l / 64, by omega⟩ ⟨l % 64, by omega⟩))
            (fun l => r (ix4 b n ⟨l / 64, by omega⟩ ⟨l % 64, by omega⟩))
            (fun l => w (ix4 b n ⟨l / 64, by omega⟩ ⟨l % 64, by omega⟩)) k * wo (ix3 3 k j))
          (fun k => x (ix3 b n k)) (fun k => g (ix2 3 k)) j := by
  refine (refResidual_at _ _ x g b n j).trans ?_
  simp only [refMixed_at, refMerged_at, (refPart_at _ _).1, refMod_at]

theorem refForward_at (y : FVec Ideal S32x256x1024 .f32) (t : FVec Ideal S4x8x6144 .f32) (wu : FVec Ideal S4x1024x5632 .f32)
    (wd : FVec Ideal S4x2816x1024 .f32) (g : FVec Ideal S4x1024 .f32) (b : Fin 32) (n : Fin 256) (j : Fin 1024) :
    refForward y t wu wd g (ix3 b n j)
      = forward (modulated (fun k => t (ix3 3 4 ⟨3072 + k, by omega⟩))
            (fun k => t (ix3 3 4 ⟨4096 + k, by omega⟩)) (fun k => y (ix3 b n k)) (fun k => g (ix2 3 k)))
          (fun d f => wu (ix3 3 d ⟨f, by omega⟩)) (fun d f => wu (ix3 3 d ⟨2816 + f, by omega⟩)) (fun f => wd (ix3 3 f j)) := by
  refine (refDown_at _ wd b n j).trans ?_
  unfold forward feature
  simp only [refHidden_at, refUp_at, refModulated_at, (refPart_at _ _).2.1, (refPart_at _ _).2.2.1, refMod_at]

theorem refLast_at (y : FVec Ideal S32x256x1024 .f32) (t : FVec Ideal S4x8x6144 .f32) (f : FVec Ideal S32x256x1024 .f32)
    (g : FVec Ideal S4x1024 .f32) (i : Fin 8192) (j : Fin 1024) :
    refLast y t f g (ix2 i j)
      = residual (fun k => t (ix3 3 4 ⟨5120 + k, by omega⟩))
          (fun k => f (ix3 ⟨i / 256, by omega⟩ ⟨i % 256, by omega⟩ k))
          (fun k => y (ix3 ⟨i / 256, by omega⟩ ⟨i % 256, by omega⟩ k)) (fun k => g (ix2 3 k)) j := by
  have e : ∀ v : FVec Ideal S32x256x1024 .f32, shapeCast S8192x1024 v shapeCasts_S32x256x1024_S8192x1024 (ix2 i j)
      = v (ix3 ⟨i / 256, by omega⟩ ⟨i % 256, by omega⟩ j) := fun v => by pointwise
  refine (e _).trans ((refResidual_at _ f y g _ _ j).trans ?_)
  simp only [(refPart_at _ _).2.2.2, refMod_at]

/-- One entry of the reference's result. -/
theorem ref_at (x : FVec Ideal S32x256x1024 .f32) (a : FVec Ideal S32x256x6x64 .f32) (r : FVec Ideal S32x256x4x64 .f32)
    (w : FVec Ideal S32x256x6x64 .f32) (t : FVec Ideal S4x8x6144 .f32) (wo : FVec Ideal S4x1024x1024 .f32)
    (wu : FVec Ideal S4x1024x5632 .f32) (wd : FVec Ideal S4x2816x1024 .f32) (g g' g'' : FVec Ideal S4x1024 .f32)
    (i : Fin 8192) (j : Fin 1024) :
    refFrom (refMiddle x a r w t wo g) t wu wd g' g'' (ix2 i j)
      = outRow (fun k => t (ix3 3 4 ⟨2048 + k, by omega⟩))
          (fun k => t (ix3 3 4 ⟨3072 + k, by omega⟩))
          (fun k => t (ix3 3 4 ⟨4096 + k, by omega⟩))
          (fun k => t (ix3 3 4 ⟨5120 + k, by omega⟩))
          (fun k => x (ix3 ⟨i / 256, by omega⟩ ⟨i % 256, by omega⟩ k))
          (merged (fun l => a (ix4 ⟨i / 256, by omega⟩ ⟨i % 256, by omega⟩ ⟨l / 64, by omega⟩ ⟨l % 64, by omega⟩))
            (fun l => r (ix4 ⟨i / 256, by omega⟩ ⟨i % 256, by omega⟩ ⟨l / 64, by omega⟩ ⟨l % 64, by omega⟩))
            (fun l => w (ix4 ⟨i / 256, by omega⟩ ⟨i % 256, by omega⟩ ⟨l / 64, by omega⟩ ⟨l % 64, by omega⟩)))
          (fun k j => wo (ix3 3 k j)) (fun d f => wu (ix3 3 d ⟨f, by omega⟩)) (fun d f => wu (ix3 3 d ⟨2816 + f, by omega⟩))
          (fun f j => wd (ix3 3 f j)) (fun k => g (ix2 3 k)) (fun k => g' (ix2 3 k)) (fun k => g'' (ix2 3 k)) j := by
  refine (refLast_at _ t _ g'' i j).trans ?_
  unfold outRow
  simp only [refForward_at, refMiddle_at]

end Cert.ContextHalf
-- ==== Proof.Context.Value.lean ====
module

public import proofs.«01_k».proof.Proof.Gen.ContextIdeal.Frame
public import proofs.«01_k».proof.Proof.Context.Same
public import proofs.«01_k».proof.Proof.Context.Operands
public import proofs.«01_k».proof.Proof.Context.RefAt
public import Idealize.ShloMosaic.Lib.Pointwise
public import Idealize.ShloMosaic.Lib.Claim
public import Idealize.ShloMosaic.Lib.Pipeline.ValueKit

/-!
What the kernel leaves, run over the context's tokens, in its output array: every block of it is the reference's, so the
array is the reference's.
-/

@[expose] public section

set_option maxRecDepth 16384

noncomputable section

namespace Cert.ContextHalf

open Idealize.ShloMosaic Idealize.ShloMosaic.TcCoe Idealize.SL.Sem
open Idealize.ShloMosaic.Pipeline (Dat)
open Cert.ContextIdeal Cert.ContextIdeal.Gen

variable (m : (ℓ : Loc nD τ sig) → Buf (Elt Ideal) ℓ)

/-- The reference's result at the kernel's arguments. -/
abbrev refOut (c : Dev nD) :=
  refFrom (refMiddle (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg8)))
    (m ((c : Thread nD τ).loc main_arg4)) (m ((c : Thread nD τ).loc main_arg6)) (m ((c : Thread nD τ).loc main_arg7))
    (m ((c : Thread nD τ).loc main_arg9)) (m ((c : Thread nD τ).loc main_arg10))

/-- One entry of a grid point's block. -/
theorem entry_ref (c : Dev nD) (t : Fin cfg0.N) (i j : Fin 1024) (r : Fin 8192) (hr : (r : ℕ) = t.val * 1024 + i) :
    Cert.SecondHalf.entry (iblk m c 0 t) (iblk m c 1 t) (iblk m c 2 t) (iblk m c 3 t) (iblk m c 4 t) (iblk m c 5 t) (iblk m c 6 t)
        (iblk m c 7 t) (iblk m c 8 t) (iblk m c 9 t) (iblk m c 10 t) i j
      = refOut m c (ix2 r j) := by
  have ht := lt_points t
  have hb : (⟨r / 256, by omega⟩ : Fin 32) = ⟨t.val * 4 + i / 256, by omega⟩ := Fin.ext (by simp only []; omega)
  have hn : (⟨r % 256, by omega⟩ : Fin 256) = ⟨i % 256, by omega⟩ := Fin.ext (by simp only []; omega)
  refine Eq.trans ?_ (ref_at _ _ _ _ _ _ _ _ _ _ _ r j).symm
  unfold Cert.SecondHalf.entry
  simp only [token_block, global_block, retention_block, window_block, modulation_block, out_block, up_block, down_block,
    gain_block, gain'_block, gain''_block, hb, hn]

theorem final (c : Dev nD) : (dats m 0 c).arrAt 11 (cfgs 0).N = refOut m c := by
  refine (dats m 0 c).arrAt_eq_of_covers 11 _ (by decide +kernel) fun t hf y => ?_
  have ht := lt_points t
  blk_simp; rw [after0_11, body_same]
  idx_vars y
  rw [Cert.SecondHalf.block_at]
  refine (entry_ref m c t y0 y1 ⟨t.val * 1024 + y0, by omega⟩ rfl).trans ?_
  blk_ext [idx_val t]

end Cert.ContextHalf
-- ==== Proof.Context.RefParts.lean ====
module

public import proofs.«01_k».proof.Proof.Gen.ContextRefIdeal
public import proofs.«01_k».proof.Proof.Context.Ref
public import Idealize.ShloMosaic.Lib.StableHlo.RunHlo
public import Idealize.ShloMosaic.Lib.StableHlo.RunRead
public import Idealize.ShloMosaic.Lib.Pointwise
public import Idealize.ShloMosaic.Lib.Claim

/-!
What the two parts of the reference over the context's tokens leave in the arrays that matter afterwards: the first
part ends with the residual stream in the middle, its normalization and the scale, the second with the result.
-/

@[expose] public section

set_option maxRecDepth 16384

noncomputable section

namespace Cert.ContextHalf

open Idealize.ShloMosaic Idealize.ShloMosaic.TcCoe Idealize.SL.Sem Idealize.ShloMosaic.StableHlo
open Cert.ContextRefIdeal Cert.ContextRefIdeal.Gen

/-- The contents of the reference's arrays. -/
abbrev Arrays : Type := Valuation τ sig (Elt Ideal)

/-- A line of operations that touches no array of its own and allocates nothing. -/
def Plain (ops : List (HloOp τ sig (Elt Ideal))) : Prop :=
  (ops.Forall fun op => op.bufs ⊆ tcRefs τ sig) ∧ ∀ op ∈ ops, op.fresh = ∅

/-- The residual stream in the middle, from the arguments. -/
abbrev middleOf (V : Arrays) : FVec Ideal S32x256x1024 .f32 :=
  refMiddle (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg8))

set_option maxHeartbeats 2000000 in
theorem first_part : ∃ ops : List (HloOp τ sig (Elt Ideal)), (∀ d, IsSeq (main_part0 (F := Ideal) d) ops) ∧ Plain ops
    ∧ ∀ V : Arrays,
      after ops V (Proc.devRef .tc main_v34) = middleOf V
      ∧ after ops V (Proc.devRef .tc main_v49) = refNorm (middleOf V) (refGain (V (Proc.devRef .tc main_arg9)))
      ∧ after ops V (Proc.devRef .tc main_v52)
        = broadcastInDim S1x1x1024 ![1, 2] bcast_S1x1024_S1x1x1024_1_2
            (addf (broadcastInDim S1x1024 ![] bcast_S_S1x1024 (constant S_ .f32 0x3F800000#32))
              (extractStridedSlice S1x1024 ![0, 4096] (refMod (V (Proc.devRef .tc main_arg4))) slices_S1x6144_S1x1024_0_4096))
      ∧ after ops V (Proc.devRef .tc main_v6)
        = extractStridedSlice S1x1024 ![0, 3072] (refMod (V (Proc.devRef .tc main_arg4))) slices_S1x6144_S1x1024_0_3072
      ∧ after ops V (Proc.devRef .tc main_v8)
        = extractStridedSlice S1x1024 ![0, 5120] (refMod (V (Proc.devRef .tc main_arg4))) slices_S1x6144_S1x1024_0_5120
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_, ?_, ?_, ?_, ?_⟩
  all_goals after_reads_simp
  all_goals rfl

set_option maxHeartbeats 2000000 in
theorem second_part : ∃ ops : List (HloOp τ sig (Elt Ideal)), (∀ d, IsSeq (main_part1 (F := Ideal) d) ops) ∧ Plain ops
    ∧ ∀ V : Arrays,
      after ops V (Proc.devRef .tc main_v87)
        = shapeCast S8192x1024
            (refResidual (V (Proc.devRef .tc main_v8))
              (refDown (refHidden (refUp
                (addf (mulf (V (Proc.devRef .tc main_v49))
                  (broadcastInDim S32x256x1024 ![0, 1, 2] bcast_S1x1x1024_S32x256x1024_0_1_2 (V (Proc.devRef .tc main_v52))))
                  (refSpread (V (Proc.devRef .tc main_v6))))
                (V (Proc.devRef .tc main_arg6)))) (V (Proc.devRef .tc main_arg7)))
              (V (Proc.devRef .tc main_v34)) (V (Proc.devRef .tc main_arg10)))
            shapeCasts_S32x256x1024_S8192x1024
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10) := by
  refine ⟨_, by hlo_seq, ⟨by simp, by intro _ h; (repeat (cases h with | head => rfl | tail _ h => ?_)); exact nomatch h⟩, fun V => ?_⟩
  refine ⟨?_, ?_, ?_, ?_, ?_, ?_, ?_, ?_, ?_, ?_, ?_, ?_⟩
  all_goals after_reads_simp
  all_goals rfl

end Cert.ContextHalf
-- ==== Proof.Context.RefRun.lean ====
module

public import proofs.«01_k».proof.Proof.Gen.ContextRefIdeal
public import proofs.«01_k».proof.Proof.Context.RefParts
public import Idealize.ShloMosaic.Lib.Pipeline.Frame
public import Idealize.ShloMosaic.Lib.Pointwise
public import Idealize.ShloMosaic.Lib.Claim
public import Idealize.ShloMosaic.Lib.Pipeline.ValueKit

/-!
What the reference over the context's tokens leaves: its result as a function of its arguments.
-/

@[expose] public section

set_option maxRecDepth 16384

noncomputable section

namespace Cert.ContextHalf

open Idealize.ShloMosaic Idealize.ShloMosaic.TcCoe Idealize.SL.Sem Idealize.ShloMosaic.StableHlo
open Cert.ContextRefIdeal Cert.ContextRefIdeal.Gen

set_option maxHeartbeats 1600000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v87)
          = refFrom (refMiddle (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg8)))
              (m ((c.tc : Thread nD τ).loc main_arg4)) (m ((c.tc : Thread nD τ).loc main_arg6))
              (m ((c.tc : Thread nD τ).loc main_arg7)) (m ((c.tc : Thread nD τ).loc main_arg9))
              (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) := by
  obtain ⟨ops, hp, hpl, hv⟩ := first_part
  obtain ⟨ops', hp', hpl', hv'⟩ := second_part
  have hmain : ∀ d, IsSeq (main (F := Ideal) d) (ops ++ ops') := fun d => by
    have e : main (F := Ideal) d = main_part0 (F := Ideal) d >>= fun _ => main_part1 (F := Ideal) d := rfl
    unfold IsSeq
    rw [seq_append, ← hp d, ← hp' d, e]
  refine θ_run_mono (run_hlo _ _ hmain (by decide) (by decide)
    (List.forall_append.2 ⟨hpl.1, hpl'.1⟩)
    (fun op h => (List.mem_append.1 h).elim (hpl.2 op) (hpl'.2 op)) m g) fun r hc c => ?_
  obtain ⟨y, u, v, sh, gt, a0, a1, a2, a3, a4, a5, a6, a7, a8, a9, a10⟩ := hv (launchContents m c)
  obtain ⟨o, b0, b1, b2, b3, b4, b5, b6, b7, b8, b9, b10⟩ := hv' (after ops (launchContents m c))
  refine ⟨?_, (hc c _).trans ?_, (hc c _).trans ?_, (hc c _).trans ?_, (hc c _).trans ?_, (hc c _).trans ?_, (hc c _).trans ?_,
    (hc c _).trans ?_, (hc c _).trans ?_, (hc c _).trans ?_, (hc c _).trans ?_, (hc c _).trans ?_⟩
  · refine (hc c _).trans ?_
    rw [after_append, o, y, u, v, sh, gt, a6, a7, a10]
  · rw [after_append, b0, a0]
  · rw [after_append, b1, a1]
  · rw [after_append, b2, a2]
  · rw [after_append, b3, a3]
  · rw [after_append, b4, a4]
  · rw [after_append, b5, a5]
  · rw [after_append, b6, a6]
  · rw [after_append, b7, a7]
  · rw [after_append, b8, a8]
  · rw [after_append, b9, a9]
  · rw [after_append, b10, a10]

end Cert.ContextHalf
-- ==== Proof.Context.Claim.lean ====
module

public import proofs.«01_k».proof.Defs
public import proofs.«01_k».proof.Proof.Gen.ContextIdeal.Frame
public import proofs.«01_k».proof.Proof.Context.Value
public import proofs.«01_k».proof.Proof.Context.RefRun
public import Idealize.ShloMosaic.Lib.Pointwise
public import Idealize.ShloMosaic.Lib.Claim
public import Idealize.ShloMosaic.Lib.Pipeline.ValueKit

/-!
The claim of the second half over the context's tokens: from any arguments the kernel and the reference leave the same array.
-/

@[expose] public section

set_option maxRecDepth 16384

noncomputable section

namespace Cert.ContextHalf

open Idealize.ShloMosaic Idealize.ShloMosaic.TcCoe Idealize.SL.Sem

set_option maxHeartbeats 1600000 in
theorem algebraic : Cert.algebraic_ContextIdeal_ContextRefIdeal (hContextIdeal := Cert.ContextIdeal.Gen.facts)
    (hContextRefIdeal := Cert.ContextRefIdeal.Gen.facts) := by
  pair_intro
  · run_from Cert.ContextIdeal.Gen.run_main m g
  · run_from ref_run m' g'
    exact (final m c).symm

end Cert.ContextHalf
-- ==== Proof.lean ====
/- The claims of this certificate, each from the module that proves it: the frames from the printed
   programs' runs, the value claims from `Proof/Attn/Claim.lean`, `Proof/Post/Claim.lean`,
   `Proof/Inp/Claim.lean` and `Proof/Context/Claim.lean`. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.Context
public import proofs.«01_k».proof.Proof.Gen.Context.Frame
public import proofs.«01_k».proof.Proof.Gen.ContextIdeal
public import proofs.«01_k».proof.Proof.Gen.ContextIdeal.Frame
public import proofs.«01_k».proof.Proof.Gen.ContextRefIdeal
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.Pre_finite_scores
public import proofs.«01_k».proof.Proof.Attn.Claim
public import proofs.«01_k».proof.Proof.Post.Claim
public import proofs.«01_k».proof.Proof.Inp.Claim
public import proofs.«01_k».proof.Proof.Context.Claim
public import Idealize.ShloMosaic.Lib.Claim

@[expose] public section

set_option maxRecDepth 16384

noncomputable section

namespace Cert.Proof

open Idealize.ShloMosaic Idealize.SL.Sem

/-- The attention's reference runs and leaves its arguments. -/
theorem frame_attnRef : Cert.quiescent_AttnRefIdeal (hAttnRefIdeal := Cert.AttnRefIdeal.Gen.facts) := fun m ρ _ =>
  (θ_run Cert.AttnRefIdeal.defs _ _).mono (fun r h => ⟨fun c => (h c).2.2, sem_eq_zero_of_no_sems (by decide) r.2⟩)
    (Cert.Attention.ref_run m ρ)

/-- The second half's reference runs and leaves its arguments. -/
theorem frame_postRef : Cert.quiescent_PostRefIdeal (hPostRefIdeal := Cert.PostRefIdeal.Gen.facts) := fun m ρ _ =>
  (θ_run Cert.PostRefIdeal.defs _ _).mono (fun r h => ⟨fun c => (h c).2, sem_eq_zero_of_no_sems (by decide) r.2⟩)
    (Cert.SecondHalf.ref_run m ρ)

/-- The input projection's reference runs and leaves its arguments. -/
theorem frame_inpRef : Cert.quiescent_InpRefIdeal (hInpRefIdeal := Cert.InpRefIdeal.Gen.facts) := fun m ρ _ =>
  (θ_run Cert.InpRefIdeal.defs _ _).mono
    (fun r h => ⟨fun c => (h c).2.2.2.2.2.2.2.2.2.2.2, sem_eq_zero_of_no_sems (by decide) r.2⟩)
    (Cert.Projection.ref_run m ρ)

/-- The reference of the second half over the context's tokens runs and leaves its arguments. -/
theorem frame_contextRef : Cert.quiescent_ContextRefIdeal (hContextRefIdeal := Cert.ContextRefIdeal.Gen.facts) := fun m ρ _ =>
  (θ_run Cert.ContextRefIdeal.defs _ _).mono (fun r h => ⟨fun c => (h c).2, sem_eq_zero_of_no_sems (by decide) r.2⟩)
    (Cert.ContextHalf.ref_run m ρ)

/-- The scale's name has the value its use states. -/
theorem preserves_attn : Cert.preserves_Attn_AttnIdeal :=
  IdealRules.named_const.statement _ _ _ _ _ rfl

theorem claim : Cert.Claim :=
  ⟨Cert.Attn.Gen.facts, Cert.AttnIdeal.Gen.facts, Cert.AttnRefIdeal.Gen.facts, Cert.Post.Gen.facts,
    Cert.PostIdeal.Gen.facts, Cert.PostRefIdeal.Gen.facts, Cert.Inp.Gen.facts, Cert.InpIdeal.Gen.facts,
    Cert.InpRefIdeal.Gen.facts, Cert.Context.Gen.facts, Cert.ContextIdeal.Gen.facts, Cert.ContextRefIdeal.Gen.facts,
    Cert.Pre_finite_scores.Gen.facts,
    fun m ρ _ => Cert.Attn.Gen.frame m ρ,
    fun m ρ _ => Cert.AttnIdeal.Gen.frame m ρ,
    fun m ρ _ => Cert.AttnIdeal.Gen.frame m ρ,
    frame_attnRef,
    fun m ρ _ => frame_attnRef m ρ trivial,
    fun m ρ _ => Cert.Post.Gen.frame m ρ,
    fun m ρ _ => Cert.PostIdeal.Gen.frame m ρ,
    frame_postRef,
    fun m ρ _ => Cert.Inp.Gen.frame m ρ,
    fun m ρ _ => Cert.InpIdeal.Gen.frame m ρ,
    frame_inpRef,
    fun m ρ _ => Cert.Context.Gen.frame m ρ,
    fun m ρ _ => Cert.ContextIdeal.Gen.frame m ρ,
    frame_contextRef,
    preserves_attn,
    Cert.Attention.algebraic,
    trivial,
    Cert.SecondHalf.algebraic,
    trivial,
    Cert.Projection.algebraic,
    trivial,
    Cert.ContextHalf.algebraic⟩

end Cert.Proof

end
